-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_tables [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal)
    ∧ quiescent_Reference3Ideal_pre_tables (hReference3Ideal := hReference3Ideal) (hPre_tables := hPre_tables)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
    ∧ preserves_Kernel4_Kernel4Ideal
    ∧ algebraic_Kernel4Ideal_Reference4Ideal (hKernel4Ideal := hKernel4Ideal) (hReference4Ideal := hReference4Ideal)
-- ==== Pre_finite.lean ====
abbrev S32x2048x1024 : Shape := ⟨3, ![32, 2048, 1024]⟩
abbrev S_ : Shape := ⟨0, ![]⟩

class Facts : Prop where
  bcast_S_S32x2048x1024 : S_.BroadcastsInDim S32x2048x1024 (![] : Fin 0 → Fin S32x2048x1024.rank)

variable [Facts]

def fn {F : FTy → Type} [FloatOps F] (main_arg0 : FVec F S32x2048x1024 .f32) (main_arg1 : FVec F S32x2048x1024 .f32) (main_arg2 : FVec F S32x2048x1024 .f32) : IVec S32x2048x1024 1 × IVec S32x2048x1024 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S32x2048x1024 .f32 := Host.absf main_arg1
  let main_cst_0 : FVec F S_ .f32 := constant S_ .f32 0x7F800000#32
  let main_v4 : FVec F S32x2048x1024 .f32 := broadcastInDim S32x2048x1024 ![] bcast_S_S32x2048x1024 main_cst_0
  let main_v5 : IVec S32x2048x1024 1 := cmpf .olt main_v3 main_v4
  (main_v2, main_v5)
-- ==== Pre_tables.lean ====
abbrev S135168x1024 : Shape := ⟨2, ![135168, 1024]⟩
abbrev S264 : Shape := ⟨1, ![264]⟩
abbrev S1 : Shape := ⟨1, ![1]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S264 : S_.BroadcastsInDim S264 (![] : Fin 0 → Fin S264.rank)
  reducesTo_S264_S_d0 : S264.ReducesTo [0] S_
  h_S_ : 0 < S_.numel
  shapeCasts_S1_S_ : S1.ShapeCasts S_

variable [Facts]

def fn {F : FTy → Type} [FloatOps F] (main_arg0 : FVec F S135168x1024 .f32) (main_arg1 : IVec S264 32) (main_arg2 : IVec S1 32) (main_arg3 : FVec F S8x1024x7168 .f32) (main_arg4 : FVec F S8x3584x1024 .f32) : IVec S_ 1 :=
  let main_c : IVec S_ 32 := constantI S_ 32 0#32
  let main_v0 : IVec S264 32 := broadcastInDim S264 ![] bcast_S_S264 main_c
  let main_v1 : IVec S264 1 := cmpi .sge main_arg1 main_v0
  let main_c_0 : IVec S_ 32 := constantI S_ 32 8#32
  let main_v2 : IVec S264 32 := broadcastInDim S264 ![] bcast_S_S264 main_c_0
  let main_v3 : IVec S264 1 := cmpi .slt main_arg1 main_v2
  let main_v4 : IVec S264 1 := andi main_v1 main_v3
  let main_c_1 : IVec S_ 1 := constantI S_ 1 1#1
  let main_v5 : IVec S_ 1 := (fun x v => Host.reduce IntOp.andi x v reducesTo_S264_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S32x2048x1024 : Shape := ⟨3, ![32, 2048, 1024]⟩
abbrev S_ : Shape := ⟨0, ![]⟩
abbrev S32x1024x2048 : Shape := ⟨3, ![32, 1024, 2048]⟩
abbrev S32x8x8x32x1024 : Shape := ⟨5, ![32, 8, 8, 32, 1024]⟩
abbrev S32x8x32x8x1024 : Shape := ⟨5, ![32, 8, 32, 8, 1024]⟩
abbrev S32x8x256x1024 : Shape := ⟨4, ![32, 8, 256, 1024]⟩
abbrev S32x8x1024x256 : Shape := ⟨4, ![32, 8, 1024, 256]⟩
abbrev S1x256x2048 : Shape := ⟨3, ![1, 256, 2048]⟩
abbrev S1x8x256x256 : Shape := ⟨4, ![1, 8, 256, 256]⟩
abbrev S2x2x256x512 : Shape := ⟨4, ![2, 2, 256, 512]⟩
abbrev S2x256x512 : Shape := ⟨3, ![2, 256, 512]⟩
abbrev S2x128x512 : Shape := ⟨3, ![2, 128, 512]⟩
abbrev S8x512 : Shape := ⟨2, ![8, 512]⟩
abbrev S128x256 : Shape := ⟨2, ![128, 256]⟩
abbrev S1x128x256 : Shape := ⟨3, ![1, 128, 256]⟩
abbrev S128x512 : Shape := ⟨2, ![128, 512]⟩
abbrev S1x1x256x128 : Shape := ⟨4, ![1, 1, 256, 128]⟩
abbrev S256x128 : Shape := ⟨2, ![256, 128]⟩
abbrev S256x512 : Shape := ⟨2, ![256, 512]⟩
abbrev S1x256x512 : Shape := ⟨3, ![1, 256, 512]⟩
abbrev S1x512 : Shape := ⟨2, ![1, 512]⟩
abbrev S1x8x512 : Shape := ⟨3, ![1, 8, 512]⟩
abbrev S16x512 : Shape := ⟨2, ![16, 512]⟩
abbrev S1x16x512 : Shape := ⟨3, ![1, 16, 512]⟩
abbrev S1x128x512 : Shape := ⟨3, ![1, 128, 512]⟩
abbrev S1x1x128x256 : Shape := ⟨4, ![1, 1, 128, 256]⟩
abbrev S64x256 : Shape := ⟨2, ![64, 256]⟩
abbrev S1x64x256 : Shape := ⟨3, ![1, 64, 256]⟩
abbrev S1x1x256x512 : Shape := ⟨4, ![1, 1, 256, 512]⟩

abbrev nBuf : Space → Nat
  | .hbm => 18
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S_, .f32⟩
  | .hbm, ⟨4, _⟩ => ⟨S32x2048x1024, .f32⟩
  | .hbm, ⟨5, _⟩ => ⟨S32x2048x1024, .f32⟩
  | .hbm, ⟨6, _⟩ => ⟨S32x2048x1024, .bf16⟩
  | .hbm, ⟨7, _⟩ => ⟨S32x1024x2048, .bf16⟩
  | .hbm, ⟨8, _⟩ => ⟨S32x2048x1024, .bf16⟩
  | .hbm, ⟨9, _⟩ => ⟨S32x8x8x32x1024, .bf16⟩
  | .hbm, ⟨10, _⟩ => ⟨S32x8x32x8x1024, .bf16⟩
  | .hbm, ⟨11, _⟩ => ⟨S32x8x256x1024, .bf16⟩
  | .hbm, ⟨12, _⟩ => ⟨S32x2048x1024, .bf16⟩
  | .hbm, ⟨13, _⟩ => ⟨S32x8x8x32x1024, .bf16⟩
  | .hbm, ⟨14, _⟩ => ⟨S32x8x32x8x1024, .bf16⟩
  | .hbm, ⟨15, _⟩ => ⟨S32x8x256x1024, .bf16⟩
  | .hbm, ⟨16, _⟩ => ⟨S32x8x1024x256, .bf16⟩
  | .hbm, ⟨17, _⟩ => ⟨S32x1024x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x8x256x256, .bf16⟩
  | .local _ .vmem, ⟨3, _⟩ => ⟨S1x8x256x256, .bf16⟩
  | .local _ .vmem, ⟨4, _⟩ => ⟨S1x8x256x256, .bf16⟩
  | .local _ .vmem, ⟨5, _⟩ => ⟨S1x8x256x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S2x2x256x512, .f32⟩
  | .local _ .vmem, ⟨9, _⟩ => ⟨S2x256x512, .f32⟩
  | .local _ .vmem, ⟨10, _⟩ => ⟨S2x256x512, .f32⟩
  | .local _ .vmem, ⟨11, _⟩ => ⟨S2x256x512, .bf16⟩
  | .local _ .vmem, ⟨12, _⟩ => ⟨S2x128x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_off1 (c0_i32_2154 : BitVec 32) : Fin 4 → Nat :=
  let c0_2156 : Index := 0#32
  let c0_i32_2155 : BitVec 32 := 0#32
  let v3367 : BitVec 32 := Scalar.maxsi c0_i32_2154 c0_i32_2155
  let v3368 : Index := Scalar.indexCast v3367
  let c0_2157 : Index := 0#32
  let c0_2158 : Index := 0#32
  ![0, v3368.toNat, 0, 0]
def k0_off2 (c0_i32_2154 : BitVec 32) : Fin 4 → Nat :=
  let c0_2164 : Index := 0#32
  let c0_i32_2155 : BitVec 32 := 0#32
  let v3367 : BitVec 32 := Scalar.maxsi c0_i32_2154 c0_i32_2155
  let v3375 : Index := Scalar.indexCast v3367
  let c0_2165 : Index := 0#32
  let c128_2166 : Index := 128#32
  ![0, v3375.toNat, 0, 128]
def k0_off3 : Fin 4 → Nat :=
  let c0_2519 : Index := 0#32
  let c0_i32_2508 : BitVec 32 := 0#32
  let c0_i32_2507 : BitVec 32 := 0#32
  let v3820 : BitVec 32 := Scalar.subi c0_i32_2508 c0_i32_2507
  let c1_i32_2518 : BitVec 32 := 1#32
  let v3833 : BitVec 32 := Scalar.addi v3820 c1_i32_2518
  let v3834 : Index := Scalar.indexCast v3833
  let c0_2520 : Index := 0#32
  let c0_2521 : Index := 0#32
  ![0, v3834.toNat, 0, 0]
def k0_off4 : Fin 4 → Nat :=
  let c0_2533 : Index := 0#32
  let c0_i32_2508 : BitVec 32 := 0#32
  let c0_i32_2507 : BitVec 32 := 0#32
  let v3820 : BitVec 32 := Scalar.subi c0_i32_2508 c0_i32_2507
  let c1_i32_2532 : BitVec 32 := 1#32
  let v3846 : BitVec 32 := Scalar.addi v3820 c1_i32_2532
  let v3847 : Index := Scalar.indexCast v3846
  let c128_2534 : Index := 128#32
  let c0_2535 : Index := 0#32
  ![0, v3847.toNat, 128, 0]
def k0_off5 : Fin 4 → Nat :=
  let c0_i32_2508 : BitVec 32 := 0#32
  let c0_i32_2507 : BitVec 32 := 0#32
  let v3820 : BitVec 32 := Scalar.subi c0_i32_2508 c0_i32_2507
  let c2_i32_2509 : BitVec 32 := 2#32
  let c0_i32_2510 : BitVec 32 := 0#32
  let v3821 : BitVec 1 := Scalar.cmpi .eq c2_i32_2509 c0_i32_2510
  let c1_i32_2511 : BitVec 32 := 1#32
  let v3822 : BitVec 32 := Scalar.select v3821 c1_i32_2511 c2_i32_2509
  let v3823 : BitVec 32 := Scalar.remsi v3820 v3822
  let c0_i32_2513 : BitVec 32 := 0#32
  let v3825 : BitVec 1 := Scalar.cmpi .slt v3823 c0_i32_2513
  let c0_i32_2514 : BitVec 32 := 0#32
  let v3826 : BitVec 1 := Scalar.cmpi .slt v3822 c0_i32_2514
  let v3827 : BitVec 1 := Scalar.xori v3825 v3826
  let c0_i32_2512 : BitVec 32 := 0#32
  let v3824 : BitVec 1 := Scalar.cmpi .ne v3823 c0_i32_2512
  let v3828 : BitVec 1 := Scalar.andi v3827 v3824
  let v3829 : BitVec 32 := Scalar.addi v3823 v3822
  let v3830 : BitVec 32 := Scalar.select v3828 v3829 v3823
  let c0_i32_2544 : BitVec 32 := 0#32
  let c0_i32_2545 : BitVec 32 := 0#32
  let c0_i32_2546 : BitVec 32 := 0#32
  ![v3830.toNat, 0, 0, 0]
def k0_off6 : Fin 4 → Nat :=
  let c0_i32_2508 : BitVec 32 := 0#32
  let c0_i32_2507 : BitVec 32 := 0#32
  let v3820 : BitVec 32 := Scalar.subi c0_i32_2508 c0_i32_2507
  let c2_i32_2509 : BitVec 32 := 2#32
  let c0_i32_2510 : BitVec 32 := 0#32
  let v3821 : BitVec 1 := Scalar.cmpi .eq c2_i32_2509 c0_i32_2510
  let c1_i32_2511 : BitVec 32 := 1#32
  let v3822 : BitVec 32 := Scalar.select v3821 c1_i32_2511 c2_i32_2509
  let v3823 : BitVec 32 := Scalar.remsi v3820 v3822
  let c0_i32_2513 : BitVec 32 := 0#32
  let v3825 : BitVec 1 := Scalar.cmpi .slt v3823 c0_i32_2513
  let c0_i32_2514 : BitVec 32 := 0#32
  let v3826 : BitVec 1 := Scalar.cmpi .slt v3822 c0_i32_2514
  let v3827 : BitVec 1 := Scalar.xori v3825 v3826
  let c0_i32_2512 : BitVec 32 := 0#32
  let v3824 : BitVec 1 := Scalar.cmpi .ne v3823 c0_i32_2512
  let v3828 : BitVec 1 := Scalar.andi v3827 v3824
  let v3829 : BitVec 32 := Scalar.addi v3823 v3822
  let v3830 : BitVec 32 := Scalar.select v3828 v3829 v3823
  let c1_i32_2897 : BitVec 32 := 1#32
  let c0_i32_2898 : BitVec 32 := 0#32
  let c0_i32_2899 : BitVec 32 := 0#32
  ![v3830.toNat, 1, 0, 0]
def k0_off7 : Fin 4 → Nat :=
  let c0_3251 : Index := 0#32
  let c0_i32_2508 : BitVec 32 := 0#32
  let c0_i32_2507 : BitVec 32 := 0#32
  let v3820 : BitVec 32 := Scalar.subi c0_i32_2508 c0_i32_2507
  let c1_i32_3249 : BitVec 32 := 1#32
  let v4819 : BitVec 32 := Scalar.subi v3820 c1_i32_3249
  let c0_i32_3250 : BitVec 32 := 0#32
  let v4820 : BitVec 32 := Scalar.maxsi v4819 c0_i32_3250
  let v4821 : Index := Scalar.indexCast v4820
  let c0_3252 : Index := 0#32
  let c0_3253 : Index := 0#32
  ![0, v4821.toNat, 0, 0]
def k0_off8 : Fin 4 → Nat :=
  let c1_i32_3255 : BitVec 32 := 1#32
  let c0_i32_2508 : BitVec 32 := 0#32
  let c0_i32_2507 : BitVec 32 := 0#32
  let v3820 : BitVec 32 := Scalar.subi c0_i32_2508 c0_i32_2507
  let c2_i32_2509 : BitVec 32 := 2#32
  let c0_i32_2510 : BitVec 32 := 0#32
  let v3821 : BitVec 1 := Scalar.cmpi .eq c2_i32_2509 c0_i32_2510
  let c1_i32_2511 : BitVec 32 := 1#32
  let v3822 : BitVec 32 := Scalar.select v3821 c1_i32_2511 c2_i32_2509
  let v3823 : BitVec 32 := Scalar.remsi v3820 v3822
  let c0_i32_2513 : BitVec 32 := 0#32
  let v3825 : BitVec 1 := Scalar.cmpi .slt v3823 c0_i32_2513
  let c0_i32_2514 : BitVec 32 := 0#32
  let v3826 : BitVec 1 := Scalar.cmpi .slt v3822 c0_i32_2514
  let v3827 : BitVec 1 := Scalar.xori v3825 v3826
  let c0_i32_2512 : BitVec 32 := 0#32
  let v3824 : BitVec 1 := Scalar.cmpi .ne v3823 c0_i32_2512
  let v3828 : BitVec 1 := Scalar.andi v3827 v3824
  let v3829 : BitVec 32 := Scalar.addi v3823 v3822
  let v3830 : BitVec 32 := Scalar.select v3828 v3829 v3823
  let v4825 : BitVec 32 := Scalar.subi c1_i32_3255 v3830
  let v4826 : Index := Scalar.indexCast v4825
  let c0_3256 : Index := 0#32
  let c0_3257 : Index := 0#32
  let c0_3258 : Index := 0#32
  ![v4826.toNat, 0, 0, 0]
def k0_off9 : Fin 4 → Nat :=
  let c0_3259 : Index := 0#32
  let c0_i32_2508 : BitVec 32 := 0#32
  let c0_i32_2507 : BitVec 32 := 0#32
  let v3820 : BitVec 32 := Scalar.subi c0_i32_2508 c0_i32_2507
  let c1_i32_3249 : BitVec 32 := 1#32
  let v4819 : BitVec 32 := Scalar.subi v3820 c1_i32_3249
  let c0_i32_3250 : BitVec 32 := 0#32
  let v4820 : BitVec 32 := Scalar.maxsi v4819 c0_i32_3250
  let v4830 : Index := Scalar.indexCast v4820
  let c0_3260 : Index := 0#32
  let c128_3261 : Index := 128#32
  ![0, v4830.toNat, 0, 128]
def k0_off10 : Fin 4 → Nat :=
  let c1_i32_3263 : BitVec 32 := 1#32
  let c0_i32_2508 : BitVec 32 := 0#32
  let c0_i32_2507 : BitVec 32 := 0#32
  let v3820 : BitVec 32 := Scalar.subi c0_i32_2508 c0_i32_2507
  let c2_i32_2509 : BitVec 32 := 2#32
  let c0_i32_2510 : BitVec 32 := 0#32
  let v3821 : BitVec 1 := Scalar.cmpi .eq c2_i32_2509 c0_i32_2510
  let c1_i32_2511 : BitVec 32 := 1#32
  let v3822 : BitVec 32 := Scalar.select v3821 c1_i32_2511 c2_i32_2509
  let v3823 : BitVec 32 := Scalar.remsi v3820 v3822
  let c0_i32_2513 : BitVec 32 := 0#32
  let v3825 : BitVec 1 := Scalar.cmpi .slt v3823 c0_i32_2513
  let c0_i32_2514 : BitVec 32 := 0#32
  let v3826 : BitVec 1 := Scalar.cmpi .slt v3822 c0_i32_2514
  let v3827 : BitVec 1 := Scalar.xori v3825 v3826
  let c0_i32_2512 : BitVec 32 := 0#32
  let v3824 : BitVec 1 := Scalar.cmpi .ne v3823 c0_i32_2512
  let v3828 : BitVec 1 := Scalar.andi v3827 v3824
  let v3829 : BitVec 32 := Scalar.addi v3823 v3822
  let v3830 : BitVec 32 := Scalar.select v3828 v3829 v3823
  let v4834 : BitVec 32 := Scalar.subi c1_i32_3263 v3830
  let v4835 : Index := Scalar.indexCast v4834
  let c1_3264 : Index := 1#32
  let c0_3265 : Index := 0#32
  let c0_3266 : Index := 0#32
  ![v4835.toNat, 1, 0, 0]
@[reducible] def k0_t1_loop : Scf.Loop 32 :=
  let c0_i32_4886 : BitVec 32 := 0#32
  let c2_i32_4887 : BitVec 32 := 2#32
  let v7182 : BitVec 32 := Scalar.addi c0_i32_4886 c2_i32_4887
  let c1_i32_4888 : BitVec 32 := 1#32
  ⟨c0_i32_4886, v7182, c1_i32_4888⟩
def k0_off11 (k0_t1 : Fin k0_t1_loop.trips) : Fin 4 → Nat :=
  let c0_11423 : Index := 0#32
  let c1_i32_11412 : BitVec 32 := 1#32
  let c0_i32_4886 : BitVec 32 := 0#32
  let c1_i32_4888 : BitVec 32 := 1#32
  let arg11 : BitVec 32 := Scf.iv c0_i32_4886 c1_i32_4888 k0_t1
  let v16791 : BitVec 32 := Scalar.subi c1_i32_11412 arg11
  let c1_i32_11422 : BitVec 32 := 1#32
  let v16804 : BitVec 32 := Scalar.addi v16791 c1_i32_11422
  let v16805 : Index := Scalar.indexCast v16804
  let c0_11424 : Index := 0#32
  let c0_11425 : Index := 0#32
  ![0, v16805.toNat, 0, 0]
def k0_off12 (k0_t1 : Fin k0_t1_loop.trips) : Fin 4 → Nat :=
  let c0_11437 : Index := 0#32
  let c1_i32_11412 : BitVec 32 := 1#32
  let c0_i32_4886 : BitVec 32 := 0#32
  let c1_i32_4888 : BitVec 32 := 1#32
  let arg11 : BitVec 32 := Scf.iv c0_i32_4886 c1_i32_4888 k0_t1
  let v16791 : BitVec 32 := Scalar.subi c1_i32_11412 arg11
  let c1_i32_11436 : BitVec 32 := 1#32
  let v16817 : BitVec 32 := Scalar.addi v16791 c1_i32_11436
  let v16818 : Index := Scalar.indexCast v16817
  let c128_11438 : Index := 128#32
  let c0_11439 : Index := 0#32
  ![0, v16818.toNat, 128, 0]
def k0_off13 (k0_t1 : Fin k0_t1_loop.trips) : Fin 4 → Nat :=
  let c1_i32_11412 : BitVec 32 := 1#32
  let c0_i32_4886 : BitVec 32 := 0#32
  let c1_i32_4888 : BitVec 32 := 1#32
  let arg11 : BitVec 32 := Scf.iv c0_i32_4886 c1_i32_4888 k0_t1
  let v16791 : BitVec 32 := Scalar.subi c1_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c0_i32_11448 : BitVec 32 := 0#32
  let c0_i32_11449 : BitVec 32 := 0#32
  let c0_i32_11450 : BitVec 32 := 0#32
  ![v16801.toNat, 0, 0, 0]
def k0_off14 (k0_t1 : Fin k0_t1_loop.trips) : Fin 4 → Nat :=
  let c1_i32_11412 : BitVec 32 := 1#32
  let c0_i32_4886 : BitVec 32 := 0#32
  let c1_i32_4888 : BitVec 32 := 1#32
  let arg11 : BitVec 32 := Scf.iv c0_i32_4886 c1_i32_4888 k0_t1
  let v16791 : BitVec 32 := Scalar.subi c1_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c1_i32_11801 : BitVec 32 := 1#32
  let c0_i32_11802 : BitVec 32 := 0#32
  let c0_i32_11803 : BitVec 32 := 0#32
  ![v16801.toNat, 1, 0, 0]
def k0_off15 (k0_t1 : Fin k0_t1_loop.trips) : Fin 4 → Nat :=
  let c0_12155 : Index := 0#32
  let c1_i32_11412 : BitVec 32 := 1#32
  let c0_i32_4886 : BitVec 32 := 0#32
  let c1_i32_4888 : BitVec 32 := 1#32
  let arg11 : BitVec 32 := Scf.iv c0_i32_4886 c1_i32_4888 k0_t1
  let v16791 : BitVec 32 := Scalar.subi c1_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17792 : Index := Scalar.indexCast v17791
  let c0_12156 : Index := 0#32
  let c0_12157 : Index := 0#32
  ![0, v17792.toNat, 0, 0]
def k0_off16 (k0_t1 : Fin k0_t1_loop.trips) : Fin 4 → Nat :=
  let c1_i32_12159 : BitVec 32 := 1#32
  let c1_i32_11412 : BitVec 32 := 1#32
  let c0_i32_4886 : BitVec 32 := 0#32
  let c1_i32_4888 : BitVec 32 := 1#32
  let arg11 : BitVec 32 := Scf.iv c0_i32_4886 c1_i32_4888 k0_t1
  let v16791 : BitVec 32 := Scalar.subi c1_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17796 : BitVec 32 := Scalar.subi c1_i32_12159 v16801
  let v17797 : Index := Scalar.indexCast v17796
  let c0_12160 : Index := 0#32
  let c0_12161 : Index := 0#32
  let c0_12162 : Index := 0#32
  ![v17797.toNat, 0, 0, 0]
def k0_off17 (k0_t1 : Fin k0_t1_loop.trips) : Fin 4 → Nat :=
  let c0_12163 : Index := 0#32
  let c1_i32_11412 : BitVec 32 := 1#32
  let c0_i32_4886 : BitVec 32 := 0#32
  let c1_i32_4888 : BitVec 32 := 1#32
  let arg11 : BitVec 32 := Scf.iv c0_i32_4886 c1_i32_4888 k0_t1
  let v16791 : BitVec 32 := Scalar.subi c1_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17801 : Index := Scalar.indexCast v17791
  let c0_12164 : Index := 0#32
  let c128_12165 : Index := 128#32
  ![0, v17801.toNat, 0, 128]
def k0_off18 (k0_t1 : Fin k0_t1_loop.trips) : Fin 4 → Nat :=
  let c1_i32_12167 : BitVec 32 := 1#32
  let c1_i32_11412 : BitVec 32 := 1#32
  let c0_i32_4886 : BitVec 32 := 0#32
  let c1_i32_4888 : BitVec 32 := 1#32
  let arg11 : BitVec 32 := Scf.iv c0_i32_4886 c1_i32_4888 k0_t1
  let v16791 : BitVec 32 := Scalar.subi c1_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17805 : BitVec 32 := Scalar.subi c1_i32_12167 v16801
  let v17806 : Index := Scalar.indexCast v17805
  let c1_12168 : Index := 1#32
  let c0_12169 : Index := 0#32
  let c0_12170 : Index := 0#32
  ![v17806.toNat, 1, 0, 0]
@[reducible] def k0_t2_loop : Scf.Loop 32 :=
  let c0_i32_6188 : BitVec 32 := 0#32
  let c3_i32_6189 : BitVec 32 := 3#32
  let v9101 : BitVec 32 := Scalar.addi c0_i32_6188 c3_i32_6189
  let c1_i32_6190 : BitVec 32 := 1#32
  ⟨c0_i32_6188, v9101, c1_i32_6190⟩
def k0_off19 (k0_t2 : Fin k0_t2_loop.trips) : Fin 4 → Nat :=
  let c0_11423 : Index := 0#32
  let c2_i32_11412 : BitVec 32 := 2#32
  let c0_i32_6188 : BitVec 32 := 0#32
  let c1_i32_6190 : BitVec 32 := 1#32
  let arg11 : BitVec 32 := Scf.iv c0_i32_6188 c1_i32_6190 k0_t2
  let v16791 : BitVec 32 := Scalar.subi c2_i32_11412 arg11
  let c1_i32_11422 : BitVec 32 := 1#32
  let v16804 : BitVec 32 := Scalar.addi v16791 c1_i32_11422
  let v16805 : Index := Scalar.indexCast v16804
  let c0_11424 : Index := 0#32
  let c0_11425 : Index := 0#32
  ![0, v16805.toNat, 0, 0]
def k0_off20 (k0_t2 : Fin k0_t2_loop.trips) : Fin 4 → Nat :=
  let c0_11437 : Index := 0#32
  let c2_i32_11412 : BitVec 32 := 2#32
  let c0_i32_6188 : BitVec 32 := 0#32
  let c1_i32_6190 : BitVec 32 := 1#32
  let arg11 : BitVec 32 := Scf.iv c0_i32_6188 c1_i32_6190 k0_t2
  let v16791 : BitVec 32 := Scalar.subi c2_i32_11412 arg11
  let c1_i32_11436 : BitVec 32 := 1#32
  let v16817 : BitVec 32 := Scalar.addi v16791 c1_i32_11436
  let v16818 : Index := Scalar.indexCast v16817
  let c128_11438 : Index := 128#32
  let c0_11439 : Index := 0#32
  ![0, v16818.toNat, 128, 0]
def k0_off21 (k0_t2 : Fin k0_t2_loop.trips) : Fin 4 → Nat :=
  let c2_i32_11412 : BitVec 32 := 2#32
  let c0_i32_6188 : BitVec 32 := 0#32
  let c1_i32_6190 : BitVec 32 := 1#32
  let arg11 : BitVec 32 := Scf.iv c0_i32_6188 c1_i32_6190 k0_t2
  let v16791 : BitVec 32 := Scalar.subi c2_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c0_i32_11448 : BitVec 32 := 0#32
  let c0_i32_11449 : BitVec 32 := 0#32
  let c0_i32_11450 : BitVec 32 := 0#32
  ![v16801.toNat, 0, 0, 0]
def k0_off22 (k0_t2 : Fin k0_t2_loop.trips) : Fin 4 → Nat :=
  let c2_i32_11412 : BitVec 32 := 2#32
  let c0_i32_6188 : BitVec 32 := 0#32
  let c1_i32_6190 : BitVec 32 := 1#32
  let arg11 : BitVec 32 := Scf.iv c0_i32_6188 c1_i32_6190 k0_t2
  let v16791 : BitVec 32 := Scalar.subi c2_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c1_i32_11801 : BitVec 32 := 1#32
  let c0_i32_11802 : BitVec 32 := 0#32
  let c0_i32_11803 : BitVec 32 := 0#32
  ![v16801.toNat, 1, 0, 0]
def k0_off23 (k0_t2 : Fin k0_t2_loop.trips) : Fin 4 → Nat :=
  let c0_12155 : Index := 0#32
  let c2_i32_11412 : BitVec 32 := 2#32
  let c0_i32_6188 : BitVec 32 := 0#32
  let c1_i32_6190 : BitVec 32 := 1#32
  let arg11 : BitVec 32 := Scf.iv c0_i32_6188 c1_i32_6190 k0_t2
  let v16791 : BitVec 32 := Scalar.subi c2_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17792 : Index := Scalar.indexCast v17791
  let c0_12156 : Index := 0#32
  let c0_12157 : Index := 0#32
  ![0, v17792.toNat, 0, 0]
def k0_off24 (k0_t2 : Fin k0_t2_loop.trips) : Fin 4 → Nat :=
  let c1_i32_12159 : BitVec 32 := 1#32
  let c2_i32_11412 : BitVec 32 := 2#32
  let c0_i32_6188 : BitVec 32 := 0#32
  let c1_i32_6190 : BitVec 32 := 1#32
  let arg11 : BitVec 32 := Scf.iv c0_i32_6188 c1_i32_6190 k0_t2
  let v16791 : BitVec 32 := Scalar.subi c2_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17796 : BitVec 32 := Scalar.subi c1_i32_12159 v16801
  let v17797 : Index := Scalar.indexCast v17796
  let c0_12160 : Index := 0#32
  let c0_12161 : Index := 0#32
  let c0_12162 : Index := 0#32
  ![v17797.toNat, 0, 0, 0]
def k0_off25 (k0_t2 : Fin k0_t2_loop.trips) : Fin 4 → Nat :=
  let c0_12163 : Index := 0#32
  let c2_i32_11412 : BitVec 32 := 2#32
  let c0_i32_6188 : BitVec 32 := 0#32
  let c1_i32_6190 : BitVec 32 := 1#32
  let arg11 : BitVec 32 := Scf.iv c0_i32_6188 c1_i32_6190 k0_t2
  let v16791 : BitVec 32 := Scalar.subi c2_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17801 : Index := Scalar.indexCast v17791
  let c0_12164 : Index := 0#32
  let c128_12165 : Index := 128#32
  ![0, v17801.toNat, 0, 128]
def k0_off26 (k0_t2 : Fin k0_t2_loop.trips) : Fin 4 → Nat :=
  let c1_i32_12167 : BitVec 32 := 1#32
  let c2_i32_11412 : BitVec 32 := 2#32
  let c0_i32_6188 : BitVec 32 := 0#32
  let c1_i32_6190 : BitVec 32 := 1#32
  let arg11 : BitVec 32 := Scf.iv c0_i32_6188 c1_i32_6190 k0_t2
  let v16791 : BitVec 32 := Scalar.subi c2_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17805 : BitVec 32 := Scalar.subi c1_i32_12167 v16801
  let v17806 : Index := Scalar.indexCast v17805
  let c1_12168 : Index := 1#32
  let c0_12169 : Index := 0#32
  let c0_12170 : Index := 0#32
  ![v17806.toNat, 1, 0, 0]
@[reducible] def k0_t3_loop : Scf.Loop 32 :=
  let c0_i32_7490 : BitVec 32 := 0#32
  let c4_i32_7491 : BitVec 32 := 4#32
  let v11020 : BitVec 32 := Scalar.addi c0_i32_7490 c4_i32_7491
  let c1_i32_7492 : BitVec 32 := 1#32
  ⟨c0_i32_7490, v11020, c1_i32_7492⟩
def k0_off27 (k0_t3 : Fin k0_t3_loop.trips) : Fin 4 → Nat :=
  let c0_11423 : Index := 0#32
  let c3_i32_11412 : BitVec 32 := 3#32
  let c0_i32_7490 : BitVec 32 := 0#32
  let c1_i32_7492 : BitVec 32 := 1#32
  let arg11 : BitVec 32 := Scf.iv c0_i32_7490 c1_i32_7492 k0_t3
  let v16791 : BitVec 32 := Scalar.subi c3_i32_11412 arg11
  let c1_i32_11422 : BitVec 32 := 1#32
  let v16804 : BitVec 32 := Scalar.addi v16791 c1_i32_11422
  let v16805 : Index := Scalar.indexCast v16804
  let c0_11424 : Index := 0#32
  let c0_11425 : Index := 0#32
  ![0, v16805.toNat, 0, 0]
def k0_off28 (k0_t3 : Fin k0_t3_loop.trips) : Fin 4 → Nat :=
  let c0_11437 : Index := 0#32
  let c3_i32_11412 : BitVec 32 := 3#32
  let c0_i32_7490 : BitVec 32 := 0#32
  let c1_i32_7492 : BitVec 32 := 1#32
  let arg11 : BitVec 32 := Scf.iv c0_i32_7490 c1_i32_7492 k0_t3
  let v16791 : BitVec 32 := Scalar.subi c3_i32_11412 arg11
  let c1_i32_11436 : BitVec 32 := 1#32
  let v16817 : BitVec 32 := Scalar.addi v16791 c1_i32_11436
  let v16818 : Index := Scalar.indexCast v16817
  let c128_11438 : Index := 128#32
  let c0_11439 : Index := 0#32
  ![0, v16818.toNat, 128, 0]
def k0_off29 (k0_t3 : Fin k0_t3_loop.trips) : Fin 4 → Nat :=
  let c3_i32_11412 : BitVec 32 := 3#32
  let c0_i32_7490 : BitVec 32 := 0#32
  let c1_i32_7492 : BitVec 32 := 1#32
  let arg11 : BitVec 32 := Scf.iv c0_i32_7490 c1_i32_7492 k0_t3
  let v16791 : BitVec 32 := Scalar.subi c3_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c0_i32_11448 : BitVec 32 := 0#32
  let c0_i32_11449 : BitVec 32 := 0#32
  let c0_i32_11450 : BitVec 32 := 0#32
  ![v16801.toNat, 0, 0, 0]
def k0_off30 (k0_t3 : Fin k0_t3_loop.trips) : Fin 4 → Nat :=
  let c3_i32_11412 : BitVec 32 := 3#32
  let c0_i32_7490 : BitVec 32 := 0#32
  let c1_i32_7492 : BitVec 32 := 1#32
  let arg11 : BitVec 32 := Scf.iv c0_i32_7490 c1_i32_7492 k0_t3
  let v16791 : BitVec 32 := Scalar.subi c3_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c1_i32_11801 : BitVec 32 := 1#32
  let c0_i32_11802 : BitVec 32 := 0#32
  let c0_i32_11803 : BitVec 32 := 0#32
  ![v16801.toNat, 1, 0, 0]
def k0_off31 (k0_t3 : Fin k0_t3_loop.trips) : Fin 4 → Nat :=
  let c0_12155 : Index := 0#32
  let c3_i32_11412 : BitVec 32 := 3#32
  let c0_i32_7490 : BitVec 32 := 0#32
  let c1_i32_7492 : BitVec 32 := 1#32
  let arg11 : BitVec 32 := Scf.iv c0_i32_7490 c1_i32_7492 k0_t3
  let v16791 : BitVec 32 := Scalar.subi c3_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17792 : Index := Scalar.indexCast v17791
  let c0_12156 : Index := 0#32
  let c0_12157 : Index := 0#32
  ![0, v17792.toNat, 0, 0]
def k0_off32 (k0_t3 : Fin k0_t3_loop.trips) : Fin 4 → Nat :=
  let c1_i32_12159 : BitVec 32 := 1#32
  let c3_i32_11412 : BitVec 32 := 3#32
  let c0_i32_7490 : BitVec 32 := 0#32
  let c1_i32_7492 : BitVec 32 := 1#32
  let arg11 : BitVec 32 := Scf.iv c0_i32_7490 c1_i32_7492 k0_t3
  let v16791 : BitVec 32 := Scalar.subi c3_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17796 : BitVec 32 := Scalar.subi c1_i32_12159 v16801
  let v17797 : Index := Scalar.indexCast v17796
  let c0_12160 : Index := 0#32
  let c0_12161 : Index := 0#32
  let c0_12162 : Index := 0#32
  ![v17797.toNat, 0, 0, 0]
def k0_off33 (k0_t3 : Fin k0_t3_loop.trips) : Fin 4 → Nat :=
  let c0_12163 : Index := 0#32
  let c3_i32_11412 : BitVec 32 := 3#32
  let c0_i32_7490 : BitVec 32 := 0#32
  let c1_i32_7492 : BitVec 32 := 1#32
  let arg11 : BitVec 32 := Scf.iv c0_i32_7490 c1_i32_7492 k0_t3
  let v16791 : BitVec 32 := Scalar.subi c3_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17801 : Index := Scalar.indexCast v17791
  let c0_12164 : Index := 0#32
  let c128_12165 : Index := 128#32
  ![0, v17801.toNat, 0, 128]
def k0_off34 (k0_t3 : Fin k0_t3_loop.trips) : Fin 4 → Nat :=
  let c1_i32_12167 : BitVec 32 := 1#32
  let c3_i32_11412 : BitVec 32 := 3#32
  let c0_i32_7490 : BitVec 32 := 0#32
  let c1_i32_7492 : BitVec 32 := 1#32
  let arg11 : BitVec 32 := Scf.iv c0_i32_7490 c1_i32_7492 k0_t3
  let v16791 : BitVec 32 := Scalar.subi c3_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17805 : BitVec 32 := Scalar.subi c1_i32_12167 v16801
  let v17806 : Index := Scalar.indexCast v17805
  let c1_12168 : Index := 1#32
  let c0_12169 : Index := 0#32
  let c0_12170 : Index := 0#32
  ![v17806.toNat, 1, 0, 0]
@[reducible] def k0_t4_loop : Scf.Loop 32 :=
  let c0_i32_8792 : BitVec 32 := 0#32
  let c5_i32_8793 : BitVec 32 := 5#32
  let v12939 : BitVec 32 := Scalar.addi c0_i32_8792 c5_i32_8793
  let c1_i32_8794 : BitVec 32 := 1#32
  ⟨c0_i32_8792, v12939, c1_i32_8794⟩
def k0_off35 (k0_t4 : Fin k0_t4_loop.trips) : Fin 4 → Nat :=
  let c0_11423 : Index := 0#32
  let c4_i32_11412 : BitVec 32 := 4#32
  let c0_i32_8792 : BitVec 32 := 0#32
  let c1_i32_8794 : BitVec 32 := 1#32
  let arg11 : BitVec 32 := Scf.iv c0_i32_8792 c1_i32_8794 k0_t4
  let v16791 : BitVec 32 := Scalar.subi c4_i32_11412 arg11
  let c1_i32_11422 : BitVec 32 := 1#32
  let v16804 : BitVec 32 := Scalar.addi v16791 c1_i32_11422
  let v16805 : Index := Scalar.indexCast v16804
  let c0_11424 : Index := 0#32
  let c0_11425 : Index := 0#32
  ![0, v16805.toNat, 0, 0]
def k0_off36 (k0_t4 : Fin k0_t4_loop.trips) : Fin 4 → Nat :=
  let c0_11437 : Index := 0#32
  let c4_i32_11412 : BitVec 32 := 4#32
  let c0_i32_8792 : BitVec 32 := 0#32
  let c1_i32_8794 : BitVec 32 := 1#32
  let arg11 : BitVec 32 := Scf.iv c0_i32_8792 c1_i32_8794 k0_t4
  let v16791 : BitVec 32 := Scalar.subi c4_i32_11412 arg11
  let c1_i32_11436 : BitVec 32 := 1#32
  let v16817 : BitVec 32 := Scalar.addi v16791 c1_i32_11436
  let v16818 : Index := Scalar.indexCast v16817
  let c128_11438 : Index := 128#32
  let c0_11439 : Index := 0#32
  ![0, v16818.toNat, 128, 0]
def k0_off37 (k0_t4 : Fin k0_t4_loop.trips) : Fin 4 → Nat :=
  let c4_i32_11412 : BitVec 32 := 4#32
  let c0_i32_8792 : BitVec 32 := 0#32
  let c1_i32_8794 : BitVec 32 := 1#32
  let arg11 : BitVec 32 := Scf.iv c0_i32_8792 c1_i32_8794 k0_t4
  let v16791 : BitVec 32 := Scalar.subi c4_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c0_i32_11448 : BitVec 32 := 0#32
  let c0_i32_11449 : BitVec 32 := 0#32
  let c0_i32_11450 : BitVec 32 := 0#32
  ![v16801.toNat, 0, 0, 0]
def k0_off38 (k0_t4 : Fin k0_t4_loop.trips) : Fin 4 → Nat :=
  let c4_i32_11412 : BitVec 32 := 4#32
  let c0_i32_8792 : BitVec 32 := 0#32
  let c1_i32_8794 : BitVec 32 := 1#32
  let arg11 : BitVec 32 := Scf.iv c0_i32_8792 c1_i32_8794 k0_t4
  let v16791 : BitVec 32 := Scalar.subi c4_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c1_i32_11801 : BitVec 32 := 1#32
  let c0_i32_11802 : BitVec 32 := 0#32
  let c0_i32_11803 : BitVec 32 := 0#32
  ![v16801.toNat, 1, 0, 0]
def k0_off39 (k0_t4 : Fin k0_t4_loop.trips) : Fin 4 → Nat :=
  let c0_12155 : Index := 0#32
  let c4_i32_11412 : BitVec 32 := 4#32
  let c0_i32_8792 : BitVec 32 := 0#32
  let c1_i32_8794 : BitVec 32 := 1#32
  let arg11 : BitVec 32 := Scf.iv c0_i32_8792 c1_i32_8794 k0_t4
  let v16791 : BitVec 32 := Scalar.subi c4_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17792 : Index := Scalar.indexCast v17791
  let c0_12156 : Index := 0#32
  let c0_12157 : Index := 0#32
  ![0, v17792.toNat, 0, 0]
def k0_off40 (k0_t4 : Fin k0_t4_loop.trips) : Fin 4 → Nat :=
  let c1_i32_12159 : BitVec 32 := 1#32
  let c4_i32_11412 : BitVec 32 := 4#32
  let c0_i32_8792 : BitVec 32 := 0#32
  let c1_i32_8794 : BitVec 32 := 1#32
  let arg11 : BitVec 32 := Scf.iv c0_i32_8792 c1_i32_8794 k0_t4
  let v16791 : BitVec 32 := Scalar.subi c4_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17796 : BitVec 32 := Scalar.subi c1_i32_12159 v16801
  let v17797 : Index := Scalar.indexCast v17796
  let c0_12160 : Index := 0#32
  let c0_12161 : Index := 0#32
  let c0_12162 : Index := 0#32
  ![v17797.toNat, 0, 0, 0]
def k0_off41 (k0_t4 : Fin k0_t4_loop.trips) : Fin 4 → Nat :=
  let c0_12163 : Index := 0#32
  let c4_i32_11412 : BitVec 32 := 4#32
  let c0_i32_8792 : BitVec 32 := 0#32
  let c1_i32_8794 : BitVec 32 := 1#32
  let arg11 : BitVec 32 := Scf.iv c0_i32_8792 c1_i32_8794 k0_t4
  let v16791 : BitVec 32 := Scalar.subi c4_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17801 : Index := Scalar.indexCast v17791
  let c0_12164 : Index := 0#32
  let c128_12165 : Index := 128#32
  ![0, v17801.toNat, 0, 128]
def k0_off42 (k0_t4 : Fin k0_t4_loop.trips) : Fin 4 → Nat :=
  let c1_i32_12167 : BitVec 32 := 1#32
  let c4_i32_11412 : BitVec 32 := 4#32
  let c0_i32_8792 : BitVec 32 := 0#32
  let c1_i32_8794 : BitVec 32 := 1#32
  let arg11 : BitVec 32 := Scf.iv c0_i32_8792 c1_i32_8794 k0_t4
  let v16791 : BitVec 32 := Scalar.subi c4_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17805 : BitVec 32 := Scalar.subi c1_i32_12167 v16801
  let v17806 : Index := Scalar.indexCast v17805
  let c1_12168 : Index := 1#32
  let c0_12169 : Index := 0#32
  let c0_12170 : Index := 0#32
  ![v17806.toNat, 1, 0, 0]
@[reducible] def k0_t5_loop : Scf.Loop 32 :=
  let c0_i32_10094 : BitVec 32 := 0#32
  let c6_i32_10095 : BitVec 32 := 6#32
  let v14858 : BitVec 32 := Scalar.addi c0_i32_10094 c6_i32_10095
  let c1_i32_10096 : BitVec 32 := 1#32
  ⟨c0_i32_10094, v14858, c1_i32_10096⟩
def k0_off43 (k0_t5 : Fin k0_t5_loop.trips) : Fin 4 → Nat :=
  let c0_11423 : Index := 0#32
  let c5_i32_11412 : BitVec 32 := 5#32
  let c0_i32_10094 : BitVec 32 := 0#32
  let c1_i32_10096 : BitVec 32 := 1#32
  let arg11 : BitVec 32 := Scf.iv c0_i32_10094 c1_i32_10096 k0_t5
  let v16791 : BitVec 32 := Scalar.subi c5_i32_11412 arg11
  let c1_i32_11422 : BitVec 32 := 1#32
  let v16804 : BitVec 32 := Scalar.addi v16791 c1_i32_11422
  let v16805 : Index := Scalar.indexCast v16804
  let c0_11424 : Index := 0#32
  let c0_11425 : Index := 0#32
  ![0, v16805.toNat, 0, 0]
def k0_off44 (k0_t5 : Fin k0_t5_loop.trips) : Fin 4 → Nat :=
  let c0_11437 : Index := 0#32
  let c5_i32_11412 : BitVec 32 := 5#32
  let c0_i32_10094 : BitVec 32 := 0#32
  let c1_i32_10096 : BitVec 32 := 1#32
  let arg11 : BitVec 32 := Scf.iv c0_i32_10094 c1_i32_10096 k0_t5
  let v16791 : BitVec 32 := Scalar.subi c5_i32_11412 arg11
  let c1_i32_11436 : BitVec 32 := 1#32
  let v16817 : BitVec 32 := Scalar.addi v16791 c1_i32_11436
  let v16818 : Index := Scalar.indexCast v16817
  let c128_11438 : Index := 128#32
  let c0_11439 : Index := 0#32
  ![0, v16818.toNat, 128, 0]
def k0_off45 (k0_t5 : Fin k0_t5_loop.trips) : Fin 4 → Nat :=
  let c5_i32_11412 : BitVec 32 := 5#32
  let c0_i32_10094 : BitVec 32 := 0#32
  let c1_i32_10096 : BitVec 32 := 1#32
  let arg11 : BitVec 32 := Scf.iv c0_i32_10094 c1_i32_10096 k0_t5
  let v16791 : BitVec 32 := Scalar.subi c5_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c0_i32_11448 : BitVec 32 := 0#32
  let c0_i32_11449 : BitVec 32 := 0#32
  let c0_i32_11450 : BitVec 32 := 0#32
  ![v16801.toNat, 0, 0, 0]
def k0_off46 (k0_t5 : Fin k0_t5_loop.trips) : Fin 4 → Nat :=
  let c5_i32_11412 : BitVec 32 := 5#32
  let c0_i32_10094 : BitVec 32 := 0#32
  let c1_i32_10096 : BitVec 32 := 1#32
  let arg11 : BitVec 32 := Scf.iv c0_i32_10094 c1_i32_10096 k0_t5
  let v16791 : BitVec 32 := Scalar.subi c5_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c1_i32_11801 : BitVec 32 := 1#32
  let c0_i32_11802 : BitVec 32 := 0#32
  let c0_i32_11803 : BitVec 32 := 0#32
  ![v16801.toNat, 1, 0, 0]
def k0_off47 (k0_t5 : Fin k0_t5_loop.trips) : Fin 4 → Nat :=
  let c0_12155 : Index := 0#32
  let c5_i32_11412 : BitVec 32 := 5#32
  let c0_i32_10094 : BitVec 32 := 0#32
  let c1_i32_10096 : BitVec 32 := 1#32
  let arg11 : BitVec 32 := Scf.iv c0_i32_10094 c1_i32_10096 k0_t5
  let v16791 : BitVec 32 := Scalar.subi c5_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17792 : Index := Scalar.indexCast v17791
  let c0_12156 : Index := 0#32
  let c0_12157 : Index := 0#32
  ![0, v17792.toNat, 0, 0]
def k0_off48 (k0_t5 : Fin k0_t5_loop.trips) : Fin 4 → Nat :=
  let c1_i32_12159 : BitVec 32 := 1#32
  let c5_i32_11412 : BitVec 32 := 5#32
  let c0_i32_10094 : BitVec 32 := 0#32
  let c1_i32_10096 : BitVec 32 := 1#32
  let arg11 : BitVec 32 := Scf.iv c0_i32_10094 c1_i32_10096 k0_t5
  let v16791 : BitVec 32 := Scalar.subi c5_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17796 : BitVec 32 := Scalar.subi c1_i32_12159 v16801
  let v17797 : Index := Scalar.indexCast v17796
  let c0_12160 : Index := 0#32
  let c0_12161 : Index := 0#32
  let c0_12162 : Index := 0#32
  ![v17797.toNat, 0, 0, 0]
def k0_off49 (k0_t5 : Fin k0_t5_loop.trips) : Fin 4 → Nat :=
  let c0_12163 : Index := 0#32
  let c5_i32_11412 : BitVec 32 := 5#32
  let c0_i32_10094 : BitVec 32 := 0#32
  let c1_i32_10096 : BitVec 32 := 1#32
  let arg11 : BitVec 32 := Scf.iv c0_i32_10094 c1_i32_10096 k0_t5
  let v16791 : BitVec 32 := Scalar.subi c5_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17801 : Index := Scalar.indexCast v17791
  let c0_12164 : Index := 0#32
  let c128_12165 : Index := 128#32
  ![0, v17801.toNat, 0, 128]
def k0_off50 (k0_t5 : Fin k0_t5_loop.trips) : Fin 4 → Nat :=
  let c1_i32_12167 : BitVec 32 := 1#32
  let c5_i32_11412 : BitVec 32 := 5#32
  let c0_i32_10094 : BitVec 32 := 0#32
  let c1_i32_10096 : BitVec 32 := 1#32
  let arg11 : BitVec 32 := Scf.iv c0_i32_10094 c1_i32_10096 k0_t5
  let v16791 : BitVec 32 := Scalar.subi c5_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17805 : BitVec 32 := Scalar.subi c1_i32_12167 v16801
  let v17806 : Index := Scalar.indexCast v17805
  let c1_12168 : Index := 1#32
  let c0_12169 : Index := 0#32
  let c0_12170 : Index := 0#32
  ![v17806.toNat, 1, 0, 0]
@[reducible] def k0_t6_loop : Scf.Loop 32 :=
  let c0_i32_11374 : BitVec 32 := 0#32
  let c7_i32_11375 : BitVec 32 := 7#32
  let v16753 : BitVec 32 := Scalar.addi c0_i32_11374 c7_i32_11375
  let c1_i32_11376 : BitVec 32 := 1#32
  ⟨c0_i32_11374, v16753, c1_i32_11376⟩
def k0_off51 (k0_t6 : Fin k0_t6_loop.trips) : Fin 4 → Nat :=
  let c0_11423 : Index := 0#32
  let c6_i32_11412 : BitVec 32 := 6#32
  let c0_i32_11374 : BitVec 32 := 0#32
  let c1_i32_11376 : BitVec 32 := 1#32
  let arg11 : BitVec 32 := Scf.iv c0_i32_11374 c1_i32_11376 k0_t6
  let v16791 : BitVec 32 := Scalar.subi c6_i32_11412 arg11
  let c1_i32_11422 : BitVec 32 := 1#32
  let v16804 : BitVec 32 := Scalar.addi v16791 c1_i32_11422
  let v16805 : Index := Scalar.indexCast v16804
  let c0_11424 : Index := 0#32
  let c0_11425 : Index := 0#32
  ![0, v16805.toNat, 0, 0]
def k0_off52 (k0_t6 : Fin k0_t6_loop.trips) : Fin 4 → Nat :=
  let c0_11437 : Index := 0#32
  let c6_i32_11412 : BitVec 32 := 6#32
  let c0_i32_11374 : BitVec 32 := 0#32
  let c1_i32_11376 : BitVec 32 := 1#32
  let arg11 : BitVec 32 := Scf.iv c0_i32_11374 c1_i32_11376 k0_t6
  let v16791 : BitVec 32 := Scalar.subi c6_i32_11412 arg11
  let c1_i32_11436 : BitVec 32 := 1#32
  let v16817 : BitVec 32 := Scalar.addi v16791 c1_i32_11436
  let v16818 : Index := Scalar.indexCast v16817
  let c128_11438 : Index := 128#32
  let c0_11439 : Index := 0#32
  ![0, v16818.toNat, 128, 0]
def k0_off53 (k0_t6 : Fin k0_t6_loop.trips) : Fin 4 → Nat :=
  let c6_i32_11412 : BitVec 32 := 6#32
  let c0_i32_11374 : BitVec 32 := 0#32
  let c1_i32_11376 : BitVec 32 := 1#32
  let arg11 : BitVec 32 := Scf.iv c0_i32_11374 c1_i32_11376 k0_t6
  let v16791 : BitVec 32 := Scalar.subi c6_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c0_i32_11448 : BitVec 32 := 0#32
  let c0_i32_11449 : BitVec 32 := 0#32
  let c0_i32_11450 : BitVec 32 := 0#32
  ![v16801.toNat, 0, 0, 0]
def k0_off54 (k0_t6 : Fin k0_t6_loop.trips) : Fin 4 → Nat :=
  let c6_i32_11412 : BitVec 32 := 6#32
  let c0_i32_11374 : BitVec 32 := 0#32
  let c1_i32_11376 : BitVec 32 := 1#32
  let arg11 : BitVec 32 := Scf.iv c0_i32_11374 c1_i32_11376 k0_t6
  let v16791 : BitVec 32 := Scalar.subi c6_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let c1_i32_11801 : BitVec 32 := 1#32
  let c0_i32_11802 : BitVec 32 := 0#32
  let c0_i32_11803 : BitVec 32 := 0#32
  ![v16801.toNat, 1, 0, 0]
def k0_off55 (k0_t6 : Fin k0_t6_loop.trips) : Fin 4 → Nat :=
  let c0_12155 : Index := 0#32
  let c6_i32_11412 : BitVec 32 := 6#32
  let c0_i32_11374 : BitVec 32 := 0#32
  let c1_i32_11376 : BitVec 32 := 1#32
  let arg11 : BitVec 32 := Scf.iv c0_i32_11374 c1_i32_11376 k0_t6
  let v16791 : BitVec 32 := Scalar.subi c6_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17792 : Index := Scalar.indexCast v17791
  let c0_12156 : Index := 0#32
  let c0_12157 : Index := 0#32
  ![0, v17792.toNat, 0, 0]
def k0_off56 (k0_t6 : Fin k0_t6_loop.trips) : Fin 4 → Nat :=
  let c1_i32_12159 : BitVec 32 := 1#32
  let c6_i32_11412 : BitVec 32 := 6#32
  let c0_i32_11374 : BitVec 32 := 0#32
  let c1_i32_11376 : BitVec 32 := 1#32
  let arg11 : BitVec 32 := Scf.iv c0_i32_11374 c1_i32_11376 k0_t6
  let v16791 : BitVec 32 := Scalar.subi c6_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17796 : BitVec 32 := Scalar.subi c1_i32_12159 v16801
  let v17797 : Index := Scalar.indexCast v17796
  let c0_12160 : Index := 0#32
  let c0_12161 : Index := 0#32
  let c0_12162 : Index := 0#32
  ![v17797.toNat, 0, 0, 0]
def k0_off57 (k0_t6 : Fin k0_t6_loop.trips) : Fin 4 → Nat :=
  let c0_12163 : Index := 0#32
  let c6_i32_11412 : BitVec 32 := 6#32
  let c0_i32_11374 : BitVec 32 := 0#32
  let c1_i32_11376 : BitVec 32 := 1#32
  let arg11 : BitVec 32 := Scf.iv c0_i32_11374 c1_i32_11376 k0_t6
  let v16791 : BitVec 32 := Scalar.subi c6_i32_11412 arg11
  let c1_i32_12153 : BitVec 32 := 1#32
  let v17790 : BitVec 32 := Scalar.subi v16791 c1_i32_12153
  let c0_i32_12154 : BitVec 32 := 0#32
  let v17791 : BitVec 32 := Scalar.maxsi v17790 c0_i32_12154
  let v17801 : Index := Scalar.indexCast v17791
  let c0_12164 : Index := 0#32
  let c128_12165 : Index := 128#32
  ![0, v17801.toNat, 0, 128]
def k0_off58 (k0_t6 : Fin k0_t6_loop.trips) : Fin 4 → Nat :=
  let c1_i32_12167 : BitVec 32 := 1#32
  let c6_i32_11412 : BitVec 32 := 6#32
  let c0_i32_11374 : BitVec 32 := 0#32
  let c1_i32_11376 : BitVec 32 := 1#32
  let arg11 : BitVec 32 := Scf.iv c0_i32_11374 c1_i32_11376 k0_t6
  let v16791 : BitVec 32 := Scalar.subi c6_i32_11412 arg11
  let c2_i32_11413 : BitVec 32 := 2#32
  let c0_i32_11414 : BitVec 32 := 0#32
  let v16792 : BitVec 1 := Scalar.cmpi .eq c2_i32_11413 c0_i32_11414
  let c1_i32_11415 : BitVec 32 := 1#32
  let v16793 : BitVec 32 := Scalar.select v16792 c1_i32_11415 c2_i32_11413
  let v16794 : BitVec 32 := Scalar.remsi v16791 v16793
  let c0_i32_11417 : BitVec 32 := 0#32
  let v16796 : BitVec 1 := Scalar.cmpi .slt v16794 c0_i32_11417
  let c0_i32_11418 : BitVec 32 := 0#32
  let v16797 : BitVec 1 := Scalar.cmpi .slt v16793 c0_i32_11418
  let v16798 : BitVec 1 := Scalar.xori v16796 v16797
  let c0_i32_11416 : BitVec 32 := 0#32
  let v16795 : BitVec 1 := Scalar.cmpi .ne v16794 c0_i32_11416
  let v16799 : BitVec 1 := Scalar.andi v16798 v16795
  let v16800 : BitVec 32 := Scalar.addi v16794 v16793
  let v16801 : BitVec 32 := Scalar.select v16799 v16800 v16794
  let v17805 : BitVec 32 := Scalar.subi c1_i32_12167 v16801
  let v17806 : Index := Scalar.indexCast v17805
  let c1_12168 : Index := 1#32
  let c0_12169 : Index := 0#32
  let c0_12170 : Index := 0#32
  ![v17806.toNat, 1, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32x2048x1024 : Shape := ⟨3, ![32, 2048, 1024]⟩
abbrev S32x2048x16x64 : Shape := ⟨4, ![32, 2048, 16, 64]⟩
abbrev S32x16x2048x64 : Shape := ⟨4, ![32, 16, 2048, 64]⟩
abbrev S32x16x2048x2048 : Shape := ⟨4, ![32, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x16x64x2048 : Shape := ⟨4, ![32, 16, 64, 2048]⟩
abbrev S32x1024x2048 : Shape := ⟨3, ![32, 1024, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S32x2048x16x64, .f32⟩
  | .hbm, ⟨4, _⟩ => ⟨S32x16x2048x64, .f32⟩
  | .hbm, ⟨5, _⟩ => ⟨S32x2048x16x64, .f32⟩
  | .hbm, ⟨6, _⟩ => ⟨S32x16x2048x64, .f32⟩
  | .hbm, ⟨7, _⟩ => ⟨S32x2048x16x64, .f32⟩
  | .hbm, ⟨8, _⟩ => ⟨S32x16x2048x64, .f32⟩
  | .hbm, ⟨9, _⟩ => ⟨S32x16x2048x2048, .f32⟩
  | .hbm, ⟨10, _⟩ => ⟨S_, .f32⟩
  | .hbm, ⟨11, _⟩ => ⟨S32x16x2048x2048, .f32⟩
  | .hbm, ⟨12, _⟩ => ⟨S32x16x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S32x16x2048x2048, .f32⟩
  | .hbm, ⟨20, _⟩ => ⟨S_, .f32⟩
  | .hbm, ⟨21, _⟩ => ⟨S32x16x2048x2048, .f32⟩
  | .hbm, ⟨22, _⟩ => ⟨S32x16x2048x2048, .f32⟩
  | .hbm, ⟨23, _⟩ => ⟨S32x16x2048x2048, .f32⟩
  | .hbm, ⟨24, _⟩ => ⟨S32x16x2048x2048, .f32⟩
  | .hbm, ⟨25, _⟩ => ⟨S32x16x2048x2048, .i1⟩
  | .hbm, ⟨26, _⟩ => ⟨S32x16x2048x2048, .f32⟩
  | .hbm, ⟨27, _⟩ => ⟨S32x16x2048x2048, .f32⟩
  | .hbm, ⟨28, _⟩ => ⟨S32x16x2048x2048, .f32⟩
  | .hbm, ⟨29, _⟩ => ⟨S32x16x2048x2048, .f32⟩
  | .hbm, ⟨30, _⟩ => ⟨S32x16x2048x2048, .f32⟩
  | .hbm, ⟨31, _⟩ => ⟨S32x16x2048x2048, .f32⟩
  | .hbm, ⟨32, _⟩ => ⟨S32x16x2048x2048, .f32⟩
  | .hbm, ⟨33, _⟩ => ⟨S32x16x2048x2048, .f32⟩
  | .hbm, ⟨34, _⟩ => ⟨S32x16x2048x2048, .f32⟩
  | .hbm, ⟨35, _⟩ => ⟨S32x16x2048x2048, .f32⟩
  | .hbm, ⟨36, _⟩ => ⟨S_, .f32⟩
  | .hbm, ⟨37, _⟩ => ⟨S_, .f32⟩
  | .hbm, ⟨38, _⟩ => ⟨S32x16x2048x2048, .i1⟩
  | .hbm, ⟨39, _⟩ => ⟨S32x16x2048x2048, .f32⟩
  | .hbm, ⟨40, _⟩ => ⟨S32x16x2048x2048, .f32⟩
  | .hbm, ⟨41, _⟩ => ⟨S_, .f32⟩
  | .hbm, ⟨42, _⟩ => ⟨S_, .f32⟩
  | .hbm, ⟨43, _⟩ => ⟨S32x16x2048x2048, .f32⟩
  | .hbm, ⟨44, _⟩ => ⟨S32x16x2048x2048, .f32⟩
  | .hbm, ⟨45, _⟩ => ⟨S32x16x2048x2048, .f32⟩
  | .hbm, ⟨46, _⟩ => ⟨S32x16x2048x2048, .f32⟩
  | .hbm, ⟨47, _⟩ => ⟨S_, .f32⟩
  | .hbm, ⟨48, _⟩ => ⟨S_, .f32⟩
  | .hbm, ⟨49, _⟩ => ⟨S32x16x2048x2048, .i1⟩
  | .hbm, ⟨50, _⟩ => ⟨S32x16x2048x2048, .f32⟩
  | .hbm, ⟨51, _⟩ => ⟨S32x16x2048x2048, .f32⟩
  | .hbm, ⟨52, _⟩ => ⟨S32x16x2048x64, .f32⟩
  | .hbm, ⟨53, _⟩ => ⟨S32x16x64x2048, .f32⟩
  | .hbm, ⟨54, _⟩ => ⟨S32x1024x2048, .f32⟩
  | .hbm, ⟨55, _⟩ => ⟨S32x1024x2048, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x5632, .f32⟩
  | .hbm, ⟨21, _⟩ => ⟨S32x2048x2816, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S_, .f32⟩
  | .hbm, ⟨26, _⟩ => ⟨S32x2048x2816, .f32⟩
  | .hbm, ⟨27, _⟩ => ⟨S32x2048x2816, .f32⟩
  | .hbm, ⟨28, _⟩ => ⟨S_, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x1024, .f32⟩
  | .hbm, ⟨34, _⟩ => ⟨S32x2048x1024, .f32⟩
  | .hbm, ⟨35, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Kernel3.lean ====
abbrev S135168x1024 : Shape := ⟨2, ![135168, 1024]⟩
abbrev S264 : Shape := ⟨1, ![264]⟩
abbrev S1 : Shape := ⟨1, ![1]⟩
abbrev S8x1024x7168 : Shape := ⟨3, ![8, 1024, 7168]⟩
abbrev S8x3584x1024 : Shape := ⟨3, ![8, 3584, 1024]⟩
abbrev S512x1024 : Shape := ⟨2, ![512, 1024]⟩
abbrev S1x1024x896 : Shape := ⟨3, ![1, 1024, 896]⟩
abbrev S1x896x1024 : Shape := ⟨3, ![1, 896, 1024]⟩
abbrev S1024x896 : Shape := ⟨2, ![1024, 896]⟩
abbrev S512x896 : Shape := ⟨2, ![512, 896]⟩
abbrev S896x1024 : Shape := ⟨2, ![896, 1024]⟩

abbrev nBuf : Space → Nat
  | .hbm => 6
  | .vmem => 11
  | .smem => 2
  | _ => 0

abbrev bufTy : (tb : Table) → Fin (tcTables nBuf tb) → BufTy
  | .hbm, ⟨0, _⟩ => ⟨S135168x1024, .f32⟩
  | .hbm, ⟨1, _⟩ => ⟨S8x1024x7168, .f32⟩
  | .hbm, ⟨2, _⟩ => ⟨S8x3584x1024, .f32⟩
  | .hbm, ⟨3, _⟩ => ⟨S8x1024x7168, .bf16⟩
  | .hbm, ⟨4, _⟩ => ⟨S8x3584x1024, .bf16⟩
  | .hbm, ⟨5, _⟩ => ⟨S135168x1024, .f32⟩
  | .local _ .vmem, ⟨0, _⟩ => ⟨S512x1024, .f32⟩
  | .local _ .vmem, ⟨1, _⟩ => ⟨S512x1024, .f32⟩
  | .local _ .vmem, ⟨2, _⟩ => ⟨S1x1024x896, .bf16⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1x896x1024, .bf16⟩
  | .local _ .vmem, ⟨7, _⟩ => ⟨S1x896x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .smem, ⟨0, _⟩ => ⟨S264, .i32⟩
  | .local _ .smem, ⟨1, _⟩ => ⟨S1, .i32⟩
  | _, _ => ⟨S135168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![264, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) : BitVec 1 :=
  let arg0 : BitVec 32 := BitVec.ofNat 32 (i 0).val
  let v1 : BitVec 1 := Scalar.cmpi .slt arg0 v0
  let v6 : BitVec 32 := Scalar.extui v1
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c0_i32_20 : BitVec 32 := 0#32
  let v33 : BitVec 1 := Scalar.cmpi .eq arg1 c0_i32_20
  let v34 : BitVec 32 := Scalar.extui v33
  let c0_i32_21 : BitVec 32 := 0#32
  let v35 : BitVec 1 := Scalar.cmpi .ne v34 c0_i32_21
  v35

def k0_cond4 (i : grid0.Coords) : BitVec 1 :=
  let arg1 : BitVec 32 := BitVec.ofNat 32 (i 1).val
  let c0_i32_22 : BitVec 32 := 0#32
  let v36 : BitVec 1 := Scalar.cmpi .sgt arg1 c0_i32_22
  let v37 : BitVec 32 := Scalar.extui v36
  let c0_i32_23 : BitVec 32 := 0#32
  let v38 : BitVec 1 := Scalar.cmpi .ne v37 c0_i32_23
  v38

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v8 : BitVec 1 := Scalar.xori v1 v_true
  let arg1 : BitVec 32 := BitVec.ofNat 32 (i 1).val
  let c0_i32_2 : BitVec 32 := 0#32
  let v9 : BitVec 1 := Scalar.cmpi .eq arg1 c0_i32_2
  let v10 : BitVec 1 := Scalar.andi v8 v9
  let v11 : BitVec 32 := Scalar.extui v10
  let c0_i32_3 : BitVec 32 := 0#32
  let v12 : BitVec 1 := Scalar.cmpi .ne v11 c0_i32_3
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c4_i32 : BitVec 32 := 4#32
  let v5 : BitVec 32 := Scalar.addi v4 c4_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x896x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S135168x1024 : Shape := ⟨2, ![135168, 1024]⟩
abbrev S264 : Shape := ⟨1, ![264]⟩
abbrev S1 : Shape := ⟨1, ![1]⟩
abbrev S8x1024x7168 : Shape := ⟨3, ![8, 1024, 7168]⟩
abbrev S8x3584x1024 : Shape := ⟨3, ![8, 3584, 1024]⟩
abbrev S264x512x1024 : Shape := ⟨3, ![264, 512, 1024]⟩
abbrev S264x1 : Shape := ⟨2, ![264, 1]⟩
abbrev S264x1024x7168 : Shape := ⟨3, ![264, 1024, 7168]⟩
abbrev S264x512x7168 : Shape := ⟨3, ![264, 512, 7168]⟩
abbrev S264x512x3584 : Shape := ⟨3, ![264, 512, 3584]⟩
abbrev S_ : Shape := ⟨0, ![]⟩
abbrev S264x3584x1024 : Shape := ⟨3, ![264, 3584, 1024]⟩
abbrev S264x1x1 : Shape := ⟨3, ![264, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S135168x1024, .f32⟩
  | .hbm, ⟨1, _⟩ => ⟨S264, .i32⟩
  | .hbm, ⟨2, _⟩ => ⟨S1, .i32⟩
  | .hbm, ⟨3, _⟩ => ⟨S8x1024x7168, .f32⟩
  | .hbm, ⟨4, _⟩ => ⟨S8x3584x1024, .f32⟩
  | .hbm, ⟨5, _⟩ => ⟨S264x512x1024, .f32⟩
  | .hbm, ⟨6, _⟩ => ⟨S264x1, .i32⟩
  | .hbm, ⟨7, _⟩ => ⟨S264x1024x7168, .f32⟩
  | .hbm, ⟨8, _⟩ => ⟨S264x512x7168, .f32⟩
  | .hbm, ⟨9, _⟩ => ⟨S264x512x3584, .f32⟩
  | .hbm, ⟨10, _⟩ => ⟨S264x512x3584, .f32⟩
  | .hbm, ⟨11, _⟩ => ⟨S264x512x3584, .f32⟩
  | .hbm, ⟨12, _⟩ => ⟨S264x512x3584, .f32⟩
  | .hbm, ⟨13, _⟩ => ⟨S_, .f32⟩
  | .hbm, ⟨14, _⟩ => ⟨S264x512x3584, .f32⟩
  | .hbm, ⟨15, _⟩ => ⟨S264x512x3584, .f32⟩
  | .hbm, ⟨16, _⟩ => ⟨S_, .f32⟩
  | .hbm, ⟨17, _⟩ => ⟨S264x512x3584, .f32⟩
  | .hbm, ⟨18, _⟩ => ⟨S264x512x3584, .f32⟩
  | .hbm, ⟨19, _⟩ => ⟨S264x512x3584, .f32⟩
  | .hbm, ⟨20, _⟩ => ⟨S264x512x3584, .f32⟩
  | .hbm, ⟨21, _⟩ => ⟨S264x1, .i32⟩
  | .hbm, ⟨22, _⟩ => ⟨S264x3584x1024, .f32⟩
  | .hbm, ⟨23, _⟩ => ⟨S264x512x1024, .f32⟩
  | .hbm, ⟨24, _⟩ => ⟨S264, .i32⟩
  | .hbm, ⟨25, _⟩ => ⟨S264, .i32⟩
  | .hbm, ⟨26, _⟩ => ⟨S264, .i1⟩
  | .hbm, ⟨27, _⟩ => ⟨S264x1x1, .i1⟩
  | .hbm, ⟨28, _⟩ => ⟨S_, .f32⟩
  | .hbm, ⟨29, _⟩ => ⟨S_, .f32⟩
  | .hbm, ⟨30, _⟩ => ⟨S264x512x1024, .i1⟩
  | .hbm, ⟨31, _⟩ => ⟨S264x512x1024, .f32⟩
  | .hbm, ⟨32, _⟩ => ⟨S264x512x1024, .f32⟩
  | .hbm, ⟨33, _⟩ => ⟨S135168x1024, .f32⟩
  | _, _ => ⟨S135168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_v1 : Ref sig .tc := ⟨.hbm, 12, rfl⟩
abbrev main_call1_cst : Ref sig .tc := ⟨.hbm, 13, rfl⟩
abbrev main_call1_v2 : Ref sig .tc := ⟨.hbm, 14, rfl⟩
abbrev main_call1_v3 : Ref sig .tc := ⟨.hbm, 15, rfl⟩
abbrev main_call1_cst_0 : Ref sig .tc := ⟨.hbm, 16, rfl⟩
abbrev main_call1_v4 : Ref sig .tc := ⟨.hbm, 17, rfl⟩
abbrev main_call1_v5 : Ref sig .tc := ⟨.hbm, 18, rfl⟩
abbrev main_v5 : Ref sig .tc := ⟨.hbm, 19, rfl⟩
abbrev main_v6 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel4.lean ====
abbrev S32x2048x1024 : Shape := ⟨3, ![32, 2048, 1024]⟩
abbrev S65536x8 : Shape := ⟨2, ![65536, 8]⟩
abbrev S133120x1024 : Shape := ⟨2, ![133120, 1024]⟩
abbrev S1024 : Shape := ⟨1, ![1024]⟩
abbrev S65536x1024 : Shape := ⟨2, ![65536, 1024]⟩
abbrev S1x1024 : Shape := ⟨2, ![1, 1024]⟩
abbrev S2x66560x1024 : Shape := ⟨3, ![2, 66560, 1024]⟩
abbrev S512x1024 : Shape := ⟨2, ![512, 1024]⟩
abbrev S512x8 : Shape := ⟨2, ![512, 8]⟩
abbrev S2x512x1024 : Shape := ⟨3, ![2, 512, 1024]⟩
abbrev S1x512x1024 : Shape := ⟨3, ![1, 512, 1024]⟩
abbrev S512x1 : Shape := ⟨2, ![512, 1]⟩
abbrev S512 : Shape := ⟨1, ![512]⟩

abbrev nBuf : Space → Nat
  | .hbm => 8
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S65536x8, .f32⟩
  | .hbm, ⟨2, _⟩ => ⟨S133120x1024, .f32⟩
  | .hbm, ⟨3, _⟩ => ⟨S1024, .f32⟩
  | .hbm, ⟨4, _⟩ => ⟨S65536x1024, .f32⟩
  | .hbm, ⟨5, _⟩ => ⟨S1x1024, .f32⟩
  | .hbm, ⟨6, _⟩ => ⟨S2x66560x1024, .f32⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x8, .f32⟩
  | .local _ .vmem, ⟨3, _⟩ => ⟨S512x8, .f32⟩
  | .local _ .vmem, ⟨4, _⟩ => ⟨S1x1024, .f32⟩
  | .local _ .vmem, ⟨5, _⟩ => ⟨S2x512x1024, .f32⟩
  | .local _ .vmem, ⟨6, _⟩ => ⟨S2x512x1024, .f32⟩
  | .local _ .vmem, ⟨7, _⟩ => ⟨S512x1024, .f32⟩
  | .local _ .vmem, ⟨8, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32x2048x1024 : Shape := ⟨3, ![32, 2048, 1024]⟩
abbrev S65536x8 : Shape := ⟨2, ![65536, 8]⟩
abbrev S133120x1024 : Shape := ⟨2, ![133120, 1024]⟩
abbrev S1024 : Shape := ⟨1, ![1024]⟩
abbrev S2x66560x1024 : Shape := ⟨3, ![2, 66560, 1024]⟩
abbrev S2x65536x1024 : Shape := ⟨3, ![2, 65536, 1024]⟩
abbrev S65536x2 : Shape := ⟨2, ![65536, 2]⟩
abbrev S2x65536 : Shape := ⟨2, ![2, 65536]⟩
abbrev S2x65536x1 : Shape := ⟨3, ![2, 65536, 1]⟩
abbrev S_ : Shape := ⟨0, ![]⟩
abbrev S65536x1024 : Shape := ⟨2, ![65536, 1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x8, .f32⟩
  | .hbm, ⟨2, _⟩ => ⟨S133120x1024, .f32⟩
  | .hbm, ⟨3, _⟩ => ⟨S1024, .f32⟩
  | .hbm, ⟨4, _⟩ => ⟨S2x66560x1024, .f32⟩
  | .hbm, ⟨5, _⟩ => ⟨S2x65536x1024, .f32⟩
  | .hbm, ⟨6, _⟩ => ⟨S65536x2, .f32⟩
  | .hbm, ⟨7, _⟩ => ⟨S2x65536, .f32⟩
  | .hbm, ⟨8, _⟩ => ⟨S2x65536x1, .f32⟩
  | .hbm, ⟨9, _⟩ => ⟨S2x65536x1024, .f32⟩
  | .hbm, ⟨10, _⟩ => ⟨S2x65536x1024, .f32⟩
  | .hbm, ⟨11, _⟩ => ⟨S_, .f32⟩
  | .hbm, ⟨12, _⟩ => ⟨S65536x1024, .f32⟩
  | .hbm, ⟨13, _⟩ => ⟨S32x2048x1024, .f32⟩
  | .hbm, ⟨14, _⟩ => ⟨S32x2048x1024, .f32⟩
  | .hbm, ⟨15, _⟩ => ⟨S32x2048x1024, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S32x2048x1, .f32⟩
  | .hbm, ⟨26, _⟩ => ⟨S32x2048x1024, .f32⟩
  | .hbm, ⟨27, _⟩ => ⟨S32x2048x1024, .f32⟩
  | .hbm, ⟨28, _⟩ => ⟨S1x1x1024, .f32⟩
  | .hbm, ⟨29, _⟩ => ⟨S32x2048x1024, .f32⟩
  | .hbm, ⟨30, _⟩ => ⟨S32x2048x1024, .f32⟩
  | .hbm, ⟨31, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Attn.Struct.lean ====
/- The attention body as a short program: the same loads and stores in the same order as the printed body, written
   by recursion over the rows of a key block, the two head pairs, the key blocks of a query block and the query blocks. -/
module

public import proofs.«01_k».proof.Proof.Gen.KernelIdeal
public import Idealize.ShloMosaic.Lib.Tactic

@[expose] public section

noncomputable section

namespace Cert.Proof.Attn

open Idealize.ShloMosaic Idealize.SL.Sem
open Cert.KernelIdeal Cert.KernelIdeal.Facts₀ Cert.KernelIdeal.Facts

variable {F : FTy → Type} [FloatOps F]

/-! ## Offsets lie inside their arrays -/

theorem inbQ (p : Fin 2) (qi : Fin 8) : ∀ a, (![0, 128 * p.val, 256 * qi.val] : Fin 3 → Nat) a + S1x128x256.size a ≤ S1x256x2048.size a := by
  revert p qi; decide
theorem inbK (p : Fin 2) (j : Fin 8) : ∀ a, (![0, j.val, 0, 128 * p.val] : Fin 4 → Nat) a + S1x1x256x128.size a ≤ S1x8x256x256.size a := by
  revert p j; decide
theorem inbV (p : Fin 2) (j : Fin 8) : ∀ a, (![0, j.val, 128 * p.val, 0] : Fin 4 → Nat) a + S1x1x128x256.size a ≤ S1x8x256x256.size a := by
  revert p j; decide
theorem inbO (p h : Fin 2) (qi : Fin 8) : ∀ a, (![0, 128 * p.val + 64 * h.val, 256 * qi.val] : Fin 3 → Nat) a + S1x64x256.size a ≤ S1x256x2048.size a := by
  revert p h qi; decide
theorem inbZ (b p : Fin 2) : ∀ a, (![b.val, p.val, 0, 0] : Fin 4 → Nat) a + S1x1x256x512.size a ≤ S2x2x256x512.size a := by
  revert b p; decide
theorem inbB (p : Fin 2) : ∀ a, (![p.val, 0, 0] : Fin 3 → Nat) a + S1x256x512.size a ≤ S2x256x512.size a := by
  revert p; decide
theorem inbC (p : Fin 2) : ∀ a, (![p.val, 0, 0] : Fin 3 → Nat) a + S1x128x512.size a ≤ S2x128x512.size a := by
  revert p; decide
theorem inbR (r : Fin 32) : ∀ a, (![8 * r.val, 0] : Fin 2 → Nat) a + S8x512.size a ≤ S256x512.size a := by
  revert r; decide
theorem inbD (p : Fin 2) (r : Fin 32) : ∀ a, (![p.val, 8 * r.val, 0] : Fin 3 → Nat) a + S1x8x512.size a ≤ S2x256x512.size a := by
  revert p r; decide
theorem inbA (p : Fin 2) (u : Fin 16) : ∀ a, (![p.val, 16 * u.val, 0] : Fin 3 → Nat) a + S1x16x512.size a ≤ S2x256x512.size a := by
  revert p u; decide
theorem packA (p : Fin 2) (u : Fin 16) : (Rect.unit (s := S2x256x512) ![p.val, 16 * u.val, 0] S1x16x512.size (inbA p u)).PackedRows (EltTy.packing .bf16) := by
  revert p u; decide
theorem packO (p h : Fin 2) (qi : Fin 8) : (Rect.unit (s := S1x256x2048) ![0, 128 * p.val + 64 * h.val, 256 * qi.val] S1x64x256.size (inbO p h qi)).PackedRows (EltTy.packing .bf16) := by
  revert p h qi; decide

/-! ## The values computed between the loads and the stores -/

/-- The row of an element in its group of eight. -/
def sub : IVec S8x512 32 := iota .tc S8x512 32 [0] iota_S8x512_d0_w32
/-- The query of a column: its index modulo 256. -/
def qoff : IVec S8x512 32 :=
  let v1 : IVec S8x512 32 := iota .tc S8x512 32 [1] iota_S8x512_d1_w32
  let v3 : BitVec 32 := Scalar.select (Scalar.cmpi .eq 256#32 0#32) 1#32 256#32
  let v5 : IVec S8x512 32 := remsi v1 (broadcast S8x512 v3)
  let v7 : IVec S8x512 1 := cmpi .ne v5 (broadcast S8x512 0#32)
  let v9 : IVec S8x512 1 := cmpi .slt v5 (broadcast S8x512 0#32)
  let v12 : IVec S8x512 1 := broadcastTo S8x512 (broadcast S8x512 (Scalar.cmpi .slt v3 0#32)) broadcasts_S8x512_S8x512
  select (andi (xori v9 v12) v7) (addi v5 (broadcast S8x512 v3)) v5
/-- The channels of a pair's first head. -/
def headA : IVec S128x256 1 := cmpi .slt (iota .tc S128x256 32 [0] iota_S128x256_d0_w32) (broadcast S128x256 64#32)

/-- The two heads' queries side by side, each with the other head's channels at zero. -/
def qPair (q : Vec F S1x128x256 .bf16) : FVec F S128x512 .bf16 :=
  let q2 : FVec F S128x256 .bf16 := shapeCast S128x256 q shapeCasts_S1x128x256_S128x256
  let z : FVec F S128x256 .bf16 := broadcast S128x256 (Scalar.ofBits .bf16 0x0000#16)
  concatenate S128x512 1 [⟨S128x256, select headA q2 z⟩, ⟨S128x256, select headA z q2⟩] concatenates_S128x256_S128x256_S128x512_d1
/-- The scores of one key block. -/
def zBlk (k : Vec F S1x1x256x128 .bf16) (q : FVec F S128x512 .bf16) : FVec F S256x512 .f32 :=
  matmul dot_S256x128_S128x512_S256x512_1_0_0_1_n_n none (shapeCast S256x128 k shapeCasts_S1x1x256x128_S256x128) q (constant S256x512 .f32 0x00000000#32)
def half : FVec F S8x512 .f32 := broadcast S8x512 (Scalar.ofBits .f32 0x3F000000#32)
def one8 : FVec F S8x512 .f32 := broadcast S8x512 (Scalar.ofBits .f32 0x3F800000#32)
def one1 : FVec F S1x512 .f32 := broadcast S1x512 (Scalar.ofBits .f32 0x3F800000#32)
/-- Half the hyperbolic tangent of the halved score: the weight less one half. -/
def tFull (r : Fin 32) (z : FVec F S8x512 .f32) : FVec F S8x512 .f32 := mulf (tanh z) half
/-- The same under the strict causal mask. -/
def tDiag (r : Fin 32) (z : FVec F S8x512 .f32) : FVec F S8x512 .f32 :=
  select (cmpi .slt (addi (broadcast S8x512 (BitVec.ofNat 32 r.val)) (muli (broadcast S8x512 32#32) sub)) qoff)
    (tFull r z) (broadcast S8x512 (Scalar.ofBits .f32 0xBF000000#32))
def dRow (t run : FVec F S8x512 .f32) : FVec F S8x512 .f32 := mulf (addf half t) run
def keepRow (t run : FVec F S8x512 .f32) : FVec F S8x512 .f32 := mulf run (subf half t)
/-- The rows moved up by `dd`, one where a row is moved in. -/
def up (dd : BitVec 32) (by' : BitVec 32) (x : FVec F S8x512 .f32) : FVec F S8x512 .f32 :=
  select (cmpi .slt (addi sub (broadcast S8x512 dd)) (broadcast S8x512 8#32)) (dynamicRotate 0 by' none x rotates_S8x512_d0) one8
/-- The product of the rows below each row. -/
def yOf (run : FVec F S8x512 .f32) : FVec F S8x512 .f32 :=
  let y0 := up 1#32 7#32 run
  let y1 := mulf y0 (up 1#32 7#32 y0)
  let y2 := mulf y1 (up 2#32 6#32 y1)
  mulf y2 (up 4#32 4#32 y2)
def ocOf (run : FVec F S8x512 .f32) (cs : FVec F S1x512 .f32) : FVec F S8x512 .f32 :=
  mulf (yOf run) (broadcastTo S8x512 cs broadcasts_S1x512_S8x512)
def csOf (run : FVec F S8x512 .f32) (cs : FVec F S1x512 .f32) : FVec F S1x512 .f32 :=
  mulf cs (mulf (extractStridedSlice S1x512 ![0, 0] (yOf run) slices_S8x512_o0_0_S1x512)
    (extractStridedSlice S1x512 ![0, 0] run slices_S8x512_o0_0_S1x512))
def atTwo (d0 d1 : Vec F S1x8x512 .f32) (oc : FVec F S8x512 .f32) : FVec F S16x512 .bf16 :=
  truncf .bf16 (concatenate S16x512 0 [⟨S8x512, mulf (shapeCast S8x512 d0 shapeCasts_S1x8x512_S8x512) oc⟩,
    ⟨S8x512, mulf (shapeCast S8x512 d1 shapeCasts_S1x8x512_S8x512) oc⟩] concatenates_S8x512_S8x512_S16x512_d0) bitsLt_bf16_f32
/-- One key block's share of the result. -/
def pv (acc : Vec F S1x128x512 .f32) (v : Vec F S1x1x128x256 .bf16) (at' : Vec F S1x256x512 .bf16) : FVec F S128x512 .f32 :=
  addf (shapeCast S128x512 acc shapeCasts_S1x128x512_S128x512)
    (matmul dot_S128x256_S256x512_S128x512_1_0_0_1_n_n none (shapeCast S128x256 v shapeCasts_S1x1x128x256_S128x256)
      (shapeCast S256x512 at' shapeCasts_S1x256x512_S256x512) (constant S128x512 .f32 0x00000000#32))

/-! ## The program -/

/-- The buffers of one run of the body. -/
structure Bufs where
  q : Memref sig .tc .vmem S1x256x2048 .bf16
  hq : q.IsWhole
  k : Memref sig .tc .vmem S1x8x256x256 .bf16
  hk : k.IsWhole
  v : Memref sig .tc .vmem S1x8x256x256 .bf16
  hv : v.IsWhole
  o : Memref sig .tc .vmem S1x256x2048 .bf16
  ho : o.IsWhole
  z : Memref sig .tc .vmem S2x2x256x512 .f32
  hz : z.IsWhole
  zd : Memref sig .tc .vmem S2x256x512 .f32
  hzd : zd.IsWhole
  d : Memref sig .tc .vmem S2x256x512 .f32
  hd : d.IsWhole
  t : Memref sig .tc .vmem S2x256x512 .bf16
  ht : t.IsWhole
  c : Memref sig .tc .vmem S2x128x512 .f32
  hc : c.IsWhole

abbrev BProg (F : FTy → Type) := Prog (TpuEff nD τ sig (Elt F) Λ₀ .tc)

variable (B : Bufs)

def ldQ (p : Fin 2) (qi : Fin 8) : BProg F (Vec F S1x128x256 .bf16) :=
  Prog.lift (.load B.q (Rect.unit (s := S1x256x2048) ![0, 128 * p.val, 256 * qi.val] S1x128x256.size (inbQ p qi)).toLoadRect (View.loadsAt_vmem h_S1x128x256))
def ldK (p : Fin 2) (j : Fin 8) : BProg F (Vec F S1x1x256x128 .bf16) :=
  Prog.lift (.load B.k (Rect.unit (s := S1x8x256x256) ![0, j.val, 0, 128 * p.val] S1x1x256x128.size (inbK p j)).toLoadRect (View.loadsAt_vmem h_S1x1x256x128))
def ldV (p : Fin 2) (j : Fin 8) : BProg F (Vec F S1x1x128x256 .bf16) :=
  Prog.lift (.load B.v (Rect.unit (s := S1x8x256x256) ![0, j.val, 128 * p.val, 0] S1x1x128x256.size (inbV p j)).toLoadRect (View.loadsAt_vmem h_S1x1x128x256))
def stO (p h : Fin 2) (qi : Fin 8) (w : FVec F S64x256 .bf16) : BProg F PUnit := do
  let _ : Vec F S1x64x256 .bf16 ← Prog.lift (.load B.o (Rect.unit (s := S1x256x2048) ![0, 128 * p.val + 64 * h.val, 256 * qi.val] S1x64x256.size (inbO p h qi)).toLoadRect (View.loadsAt_vmem h_S1x64x256))
  Prog.lift (.store B.o (Rect.unit (s := S1x256x2048) ![0, 128 * p.val + 64 * h.val, 256 * qi.val] S1x64x256.size (inbO p h qi)) (shapeCast S1x64x256 w shapeCasts_S64x256_S1x64x256 : FVec F S1x64x256 .bf16) Finset.univ (View.stores_vmem h_S1x64x256 (B.ho.storeExact_slice rfl _ (packO p h qi)) (fun _ => rfl)) (.inl rfl))
def stZ (b p : Fin 2) (w : FVec F S256x512 .f32) : BProg F PUnit := do
  let _ : Vec F S1x1x256x512 .f32 ← Prog.lift (.load B.z (Rect.unit (s := S2x2x256x512) ![b.val, p.val, 0, 0] S1x1x256x512.size (inbZ b p)).toLoadRect (View.loadsAt_vmem h_S1x1x256x512))
  Prog.lift (.store B.z (Rect.unit (s := S2x2x256x512) ![b.val, p.val, 0, 0] S1x1x256x512.size (inbZ b p)) (shapeCast S1x1x256x512 w shapeCasts_S256x512_S1x1x256x512 : FVec F S1x1x256x512 .f32) Finset.univ (View.stores_vmem_bits_univ h_S1x1x256x512 rfl) (.inl rfl))
def ldZ (b p : Fin 2) (r : Fin 32) : BProg F (Vec F S8x512 .f32) :=
  Prog.lift (.load ((B.z.slice (Rect.unit (s := S2x2x256x512) ![b.val, p.val, 0, 0] S1x1x256x512.size (inbZ b p)) (fun _ => rfl)).squeeze S256x512 squeezes_S1x1x256x512_S256x512)
    (Rect.unit (s := S256x512) ![8 * r.val, 0] S8x512.size (inbR r)).toLoadRect (View.loadsAt_vmem h_S8x512))
def stZd (p : Fin 2) (w : FVec F S256x512 .f32) : BProg F PUnit := do
  let _ : Vec F S1x256x512 .f32 ← Prog.lift (.load B.zd (Rect.unit (s := S2x256x512) ![p.val, 0, 0] S1x256x512.size (inbB p)).toLoadRect (View.loadsAt_vmem h_S1x256x512))
  Prog.lift (.store B.zd (Rect.unit (s := S2x256x512) ![p.val, 0, 0] S1x256x512.size (inbB p)) (shapeCast S1x256x512 w shapeCasts_S256x512_S1x256x512 : FVec F S1x256x512 .f32) Finset.univ (View.stores_vmem_bits_univ h_S1x256x512 rfl) (.inl rfl))
def ldZd (p : Fin 2) (r : Fin 32) : BProg F (Vec F S8x512 .f32) :=
  Prog.lift (.load ((B.zd.slice (Rect.unit (s := S2x256x512) ![p.val, 0, 0] S1x256x512.size (inbB p)) (fun _ => rfl)).squeeze S256x512 squeezes_S1x256x512_S256x512)
    (Rect.unit (s := S256x512) ![8 * r.val, 0] S8x512.size (inbR r)).toLoadRect (View.loadsAt_vmem h_S8x512))
def ldD (p : Fin 2) (r : Fin 32) : BProg F (Vec F S1x8x512 .f32) :=
  Prog.lift (.load B.d (Rect.unit (s := S2x256x512) ![p.val, 8 * r.val, 0] S1x8x512.size (inbD p r)).toLoadRect (View.loadsAt_vmem h_S1x8x512))
def stD (p : Fin 2) (r : Fin 32) (w : FVec F S8x512 .f32) : BProg F PUnit := do
  let _ : Vec F S1x8x512 .f32 ← ldD B p r
  Prog.lift (.store B.d (Rect.unit (s := S2x256x512) ![p.val, 8 * r.val, 0] S1x8x512.size (inbD p r)) (shapeCast S1x8x512 w shapeCasts_S8x512_S1x8x512 : FVec F S1x8x512 .f32) Finset.univ (View.stores_vmem_bits_univ h_S1x8x512 rfl) (.inl rfl))
def stT (p : Fin 2) (u : Fin 16) (w : FVec F S16x512 .bf16) : BProg F PUnit := do
  let _ : Vec F S1x16x512 .bf16 ← Prog.lift (.load B.t (Rect.unit (s := S2x256x512) ![p.val, 16 * u.val, 0] S1x16x512.size (inbA p u)).toLoadRect (View.loadsAt_vmem h_S1x16x512))
  Prog.lift (.store B.t (Rect.unit (s := S2x256x512) ![p.val, 16 * u.val, 0] S1x16x512.size (inbA p u)) (shapeCast S1x16x512 w shapeCasts_S16x512_S1x16x512 : FVec F S1x16x512 .bf16) Finset.univ (View.stores_vmem h_S1x16x512 (B.ht.storeExact_slice rfl _ (packA p u)) (fun _ => rfl)) (.inl rfl))
def ldT (p : Fin 2) : BProg F (Vec F S1x256x512 .bf16) :=
  Prog.lift (.load B.t (Rect.unit (s := S2x256x512) ![p.val, 0, 0] S1x256x512.size (inbB p)).toLoadRect (View.loadsAt_vmem h_S1x256x512))
def ldC (p : Fin 2) : BProg F (Vec F S1x128x512 .f32) :=
  Prog.lift (.load B.c (Rect.unit (s := S2x128x512) ![p.val, 0, 0] S1x128x512.size (inbC p)).toLoadRect (View.loadsAt_vmem h_S1x128x512))
def stC (p : Fin 2) (w : FVec F S128x512 .f32) : BProg F PUnit := do
  let _ : Vec F S1x128x512 .f32 ← ldC B p
  Prog.lift (.store B.c (Rect.unit (s := S2x128x512) ![p.val, 0, 0] S1x128x512.size (inbC p)) (shapeCast S1x128x512 w shapeCasts_S128x512_S1x128x512 : FVec F S1x128x512 .f32) Finset.univ (View.stores_vmem_bits_univ h_S1x128x512 rfl) (.inl rfl))
def zeroC : BProg F PUnit := do
  let _ : Vec F S2x128x512 .f32 ← Prog.lift (.load B.c (Rect.unit (s := S2x128x512) ![0, 0, 0] S2x128x512.size inb_S2x128x512_S2x128x512_0_0_0).toLoadRect (View.loadsAt_vmem h_S2x128x512))
  Prog.lift (.store B.c (Rect.unit (s := S2x128x512) ![0, 0, 0] S2x128x512.size inb_S2x128x512_S2x128x512_0_0_0) (shapeCast S2x128x512 (broadcast S2x128x512 (Scalar.ofBits .f32 0x00000000#32) : FVec F S2x128x512 .f32) shapeCasts_S2x128x512_S2x128x512 : FVec F S2x128x512 .f32) Finset.univ (View.stores_vmem_bits_univ h_S2x128x512 rfl) (.inl rfl))

/-- The rows `n - 1, …, 0` of a score block, from the product of the keeps of the rows above. -/
def rows (ld : Fin 32 → BProg F (Vec F S8x512 .f32)) (tf : Fin 32 → FVec F S8x512 .f32 → FVec F S8x512 .f32) (p : Fin 2) :
    (n : Nat) → n ≤ 32 → FVec F S8x512 .f32 → BProg F (FVec F S8x512 .f32)
  | 0, _, run => pure run
  | n + 1, h, run => do
    let z ← ld ⟨n, h⟩
    stD B p ⟨n, h⟩ (dRow (tf ⟨n, h⟩ z) run)
    rows ld tf p n (Nat.le_of_succ_le h) (keepRow (tf ⟨n, h⟩ z) run)

/-- The weights of the row groups below `n`. -/
def atRows (p : Fin 2) (oc : FVec F S8x512 .f32) : (n : Nat) → n ≤ 16 → BProg F PUnit
  | 0, _ => pure ⟨⟩
  | n + 1, h => do
    atRows p oc n (Nat.le_of_succ_le h)
    let d0 ← ldD B p ⟨2 * n, by omega⟩
    let d1 ← ldD B p ⟨2 * n + 1, by omega⟩
    stT B p ⟨n, h⟩ (atTwo d0 d1 oc)

abbrev Two (α : Type) := α × α

def finish (r0 r1 : FVec F S8x512 .f32) (cs : Two (FVec F S1x512 .f32)) : BProg F (Two (FVec F S1x512 .f32)) := do
  atRows B 0 (ocOf r0 cs.1) 16 (Nat.le_refl _)
  atRows B 1 (ocOf r1 cs.2) 16 (Nat.le_refl _)
  pure (csOf r0 cs.1, csOf r1 cs.2)

/-- One pair's scores of key block `j` into slot `b`. -/
def scoreZ (b : Fin 2) (j : Fin 8) (p : Fin 2) (q : FVec F S128x512 .bf16) : BProg F PUnit := do
  let k ← ldK B p j
  stZ B b p (zBlk k q)
def scoreZd (j : Fin 8) (p : Fin 2) (q : FVec F S128x512 .bf16) : BProg F PUnit := do
  let k ← ldK B p j
  stZd B p (zBlk k q)
def addPv (j : Fin 8) (p : Fin 2) : BProg F PUnit := do
  let c ← ldC B p
  let v ← ldV B p j
  let t ← ldT B p
  stC B p (pv c v t)

def slot (j : Nat) : Fin 2 := ⟨j % 2, Nat.mod_lt _ (by decide)⟩
def other (j : Nat) : Fin 2 := ⟨1 - j % 2, by omega⟩

/-- A key block `j` below the diagonal. -/
def step (j : Nat) (hj : j + 1 < 8) (q : Two (FVec F S128x512 .bf16)) (cs : Two (FVec F S1x512 .f32)) : BProg F (Two (FVec F S1x512 .f32)) := do
  addPv B ⟨j + 1, hj⟩ 0
  addPv B ⟨j + 1, hj⟩ 1
  let r0 ← rows B (ldZ B (slot j) 0) tFull 0 32 (Nat.le_refl _) one8
  let r1 ← rows B (ldZ B (slot j) 1) tFull 1 32 (Nat.le_refl _) one8
  scoreZ B (other j) ⟨j - 1, by omega⟩ 0 q.1
  scoreZ B (other j) ⟨j - 1, by omega⟩ 1 q.2
  finish B r0 r1 cs

/-- The key blocks below the diagonal of query block `qi`, the `n` nearest. -/
def steps (qi : Nat) (hq : qi < 8) (q : Two (FVec F S128x512 .bf16)) (cs : Two (FVec F S1x512 .f32)) :
    (n : Nat) → n ≤ qi → BProg F (Two (FVec F S1x512 .f32))
  | 0, _ => pure cs
  | n + 1, h => do
    let cs ← steps qi hq q cs n (Nat.le_of_succ_le h)
    step B (qi - 1 - n) (by omega) q cs

def ldQs (qi : Fin 8) : BProg F (Two (FVec F S128x512 .bf16)) := do
  let a ← ldQ B 0 qi
  let b ← ldQ B 1 qi
  pure (qPair a, qPair b)

/-- A pair's last share and the two heads' results. -/
def out (qi : Fin 8) (p : Fin 2) : BProg F PUnit := do
  let c ← ldC B p
  let v ← ldV B p 0
  let t ← ldT B p
  stO B p 0 qi (truncf .bf16 (extractStridedSlice S64x256 ![0, 0] (pv c v t) slices_S128x512_o0_0_S64x256) bitsLt_bf16_f32)
  stO B p 1 qi (truncf .bf16 (extractStridedSlice S64x256 ![64, 256] (pv c v t) slices_S128x512_o64_256_S64x256) bitsLt_bf16_f32)

/-- The diagonal block of query block `qi`. -/
def diagRows : BProg F (Two (FVec F S8x512 .f32)) := do
  zeroC B
  let r0 ← rows B (ldZd B 0) tDiag 0 32 (Nat.le_refl _) one8
  let r1 ← rows B (ldZd B 1) tDiag 1 32 (Nat.le_refl _) one8
  pure (r0, r1)

/-- The first scores below the diagonal of query block `qi`, into the other slot. -/
def firstZ : (qi : Nat) → qi < 8 → Two (FVec F S128x512 .bf16) → BProg F PUnit
  | 0, _, _ => pure ⟨⟩
  | j + 1, h, q => do
    scoreZ B (other (j + 1)) ⟨j, by omega⟩ 0 q.1
    scoreZ B (other (j + 1)) ⟨j, by omega⟩ 1 q.2

def nextZd (qi : Nat) (h : qi + 1 < 8) (q' : Two (FVec F S128x512 .bf16)) : BProg F PUnit := do
  scoreZd B ⟨qi + 1, h⟩ 0 q'.1
  scoreZd B ⟨qi + 1, h⟩ 1 q'.2

/-- What a query block does after its diagonal rows. -/
def tail (qi : Nat) (h : qi < 8) (q : Two (FVec F S128x512 .bf16)) (r : Two (FVec F S8x512 .f32)) : BProg F PUnit := do
  let cs ← finish B r.1 r.2 (one1, one1)
  let _ ← steps B qi h q cs qi (Nat.le_refl _)
  out B ⟨qi, h⟩ 0
  out B ⟨qi, h⟩ 1

/-- A query block that has one after it. -/
def query (qi : Nat) (h : qi + 1 < 8) (q : Two (FVec F S128x512 .bf16)) : BProg F (Two (FVec F S128x512 .bf16)) := do
  let q' ← ldQs B ⟨qi + 1, h⟩
  let r ← diagRows B
  firstZ B qi (Nat.lt_of_succ_lt h) q
  nextZd B qi h q'
  tail B qi (Nat.lt_of_succ_lt h) q r
  pure q'

def queries : (n : Nat) → n < 8 → BProg F (Two (FVec F S128x512 .bf16))
  | 0, h => do
    let q ← ldQs B ⟨0, h⟩
    scoreZd B ⟨0, h⟩ 0 q.1
    scoreZd B ⟨0, h⟩ 1 q.2
    pure q
  | n + 1, h => do
    let q ← queries n (Nat.lt_of_succ_lt h)
    query B n h q

/-- The whole body. -/
def body : BProg F PUnit := do
  let q ← queries B 7 (by decide)
  let r ← diagRows B
  firstZ B 7 (by decide) q
  tail B 7 (by decide) q r

end Cert.Proof.Attn

end
-- ==== Proof.Attn.Run.lean ====
/- Running the short program: nine owned buffers, their contents cut into the blocks the program moves, and what each
   load and store does to them. -/
module

public import proofs.«01_k».proof.Proof.Attn.Struct
public import Idealize.ShloMosaic.Lib.Pipeline.FrameBody
public import Idealize.ShloMosaic.Lib.Pointwise.Reshape
public import Idealize.ShloMosaic.Lib.ValueLayout

@[expose] public section

noncomputable section

namespace Cert.Proof.Attn

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ (UR sig nD τ) ℕ

variable (𝒱 : Variants) (c : Dev nD)

/-- The core's program meets a postcondition. -/
abbrev runs {α : Type} (p : BProg F α) (Q : α → sProp 𝕄) : sProp 𝕄 :=
  wp frame (wpE (defs₀ (F := F)) 𝒱 (c : Thread nD τ) none) Set.univ p Q

abbrev own {s : Shape} {e : EltTy} (m : Memref sig .tc .vmem s e) (X : s.Idx → Elt F e) : sProp 𝕄 :=
  owns (c : Thread nD τ) m fullShare X

/-! ## One load, one store -/

theorem load_own {s : Shape} {e : EltTy} (m : Memref sig .tc .vmem s e) (r : Rect s) (hl : m.view.LoadsAt r.toLoadRect)
    (X : s.Idx → Elt F e) (Q : (r.shape.Idx → Elt F e) → sProp 𝕄) :
    iprop(own c m X ∗ (own c m X -∗ Q (fun j => X (r.emb j)))) ⊢ runs 𝒱 c (Prog.lift (.load m r.toLoadRect hl)) Q := by
  unfold own owns runs Prog.lift
  iintro ⟨⟨%f, %hf, H⟩, K⟩
  iapply (wp_load 𝒱 (c : Thread nD τ) none Set.univ (m := m) (r := r.toLoadRect) (View.setOn_subset_set _ _)) $$ H
  iintro H
  rw [wp_ret]; imodintro
  subst hf
  have e : m.view.readAt (Elt F) r.toLoadRect f = fun j => m.view.read (Elt F) f (r.emb j) := rfl
  rw [e]
  iapply K
  iexists f
  isplitr; · ipureintro; rfl
  iexact H

theorem load_own_sub {s s' : Shape} {e : EltTy} (m : Memref sig .tc .vmem s e) (r : Rect s) (hr : ∀ a, r.stride a = 1)
    (hq : r.shape.Squeezes s') (r' : Rect s') (hl : ((m.slice r hr).squeeze s' hq).view.LoadsAt r'.toLoadRect)
    (X : s.Idx → Elt F e) (Q : (r'.shape.Idx → Elt F e) → sProp 𝕄) :
    iprop(own c m X ∗ (own c m X -∗ Q (fun j => X (r.emb (Shape.reshapeEquiv hq.numel_eq (r'.emb j)))))) ⊢
      runs 𝒱 c (Prog.lift (.load ((m.slice r hr).squeeze s' hq) r'.toLoadRect hl)) Q := by
  unfold own owns runs Prog.lift
  iintro ⟨⟨%f, %hf, H⟩, K⟩
  have hS : ((m.slice r hr).squeeze s' hq).view.setOn r'.toLoadRect.set ⊆ m.view.set := by
    refine (View.setOn_subset_set _ _).trans ?_
    intro i hi
    obtain ⟨x, -, rfl⟩ := Finset.mem_map.mp hi
    exact m.view.emb_mem_set _
  iapply (wp_load 𝒱 (c : Thread nD τ) none Set.univ (m := (m.slice r hr).squeeze s' hq) (r := r'.toLoadRect) hS) $$ H
  iintro H
  rw [wp_ret]; imodintro
  subst hf
  have e : ((m.slice r hr).squeeze s' hq).view.readAt (Elt F) r'.toLoadRect f
      = fun j => m.view.read (Elt F) f (r.emb (Shape.reshapeEquiv hq.numel_eq (r'.emb j))) := rfl
  rw [e]
  iapply K
  iexists f
  isplitr; · ipureintro; rfl
  iexact H

theorem store_own {s : Shape} {e : EltTy} (m : Memref sig .tc .vmem s e) (r : Rect s) (w : r.shape.Idx → Elt F e)
    (hx : (m.access r).Stores Finset.univ) (hm) (X X' : s.Idx → Elt F e)
    (h1 : ∀ j, X' (r.emb j) = w j) (h2 : ∀ i, i ∉ r.set → X' i = X i) (Q : PUnit → sProp 𝕄) :
    iprop(own c m X ∗ (own c m X' -∗ Q ⟨⟩)) ⊢ runs 𝒱 c (Prog.lift (.store m r w Finset.univ hx hm)) Q := by
  unfold own owns runs Prog.lift
  iintro ⟨⟨%f, %hf, H⟩, K⟩
  have hS : (m.access r).setOn Finset.univ ⊆ m.view.set := by
    intro i hi
    obtain ⟨x, -, rfl⟩ := Finset.mem_map.mp hi
    exact m.view.emb_mem_set _
  iapply (wp_store 𝒱 (c : Thread nD τ) none Set.univ (m := m) (r := r) (Mk := Finset.univ) hS) $$ H
  iintro H
  rw [wp_ret]; imodintro
  subst hf
  iapply K
  iexists _
  isplitr
  swap; · iexact H
  ipureintro
  funext i
  by_cases hi : i ∈ r.set
  · rw [← r.map_emb_univ] at hi
    obtain ⟨j, -, rfl⟩ := Finset.mem_map.mp hi
    rw [h1]; exact View.read_slice_write_emb r f w (Finset.mem_univ j)
  · rw [h2 i hi]
    exact View.read_slice_write_of_not_mem r f w Finset.univ (by rwa [r.map_emb_univ])

/-! ## Contents by blocks -/

/-- What the nine buffers hold. -/
structure St (F : FTy → Type) where
  q : Vec F S1x256x2048 .bf16
  k : Vec F S1x8x256x256 .bf16
  v : Vec F S1x8x256x256 .bf16
  o : Fin 2 → Fin 2 → Fin 8 → FVec F S64x256 .bf16
  z : Fin 2 → Fin 2 → FVec F S256x512 .f32
  zd : Fin 2 → FVec F S256x512 .f32
  d : Fin 2 → Fin 32 → FVec F S8x512 .f32
  t : Fin 2 → Fin 16 → FVec F S16x512 .bf16
  c : Fin 2 → FVec F S128x512 .f32

theorem at2 {α β γ δ : Type} (f : α → β → γ → δ) {a a' : α} {b b' : β} {i i' : γ} (ha : a = a') (hb : b = b') (hi : i = i') :
    f a b i = f a' b' i' := by rw [ha, hb, hi]
theorem at3 {α β γ δ ε : Type} (f : α → β → γ → δ → ε) {a a' : α} {b b' : β} {d d' : γ} {i i' : δ} (ha : a = a') (hb : b = b')
    (hd : d = d') (hi : i = i') : f a b d i = f a' b' d' i' := by rw [ha, hb, hd, hi]
theorem ix2_ext {m n : Nat} {a a' : Fin m} {b b' : Fin n} (ha : a.val = a'.val) (hb : b.val = b'.val) : ValueIdx.ix2 a b = ValueIdx.ix2 a' b' := by
  rw [Fin.ext ha, Fin.ext hb]

theorem upd1 {α β : Type} [DecidableEq α] (f : α → β) (p : α) (w : β) (a : α) (h : ¬ a = p) : Function.update f p w a = f a :=
  Function.update_of_ne h w f
theorem upd2 {α α' β : Type} [DecidableEq α] [DecidableEq α'] (f : α → α' → β) (p : α) (r : α') (w : β) (a : α) (b : α')
    (h : ¬ (a = p ∧ b = r)) : Function.update f p (Function.update (f p) r w) a b = f a b := by
  by_cases h1 : a = p
  · subst h1; rw [Function.update_self, Function.update_of_ne fun e => h ⟨rfl, e⟩]
  · rw [Function.update_of_ne h1]
theorem upd3 {α α' α'' β : Type} [DecidableEq α] [DecidableEq α'] [DecidableEq α''] (f : α → α' → α'' → β) (p : α) (r : α') (u : α'') (w : β)
    (a : α) (b : α') (d : α'') (h : ¬ (a = p ∧ b = r ∧ d = u)) :
    Function.update f p (Function.update (f p) r (Function.update (f p r) u w)) a b d = f a b d := by
  by_cases h1 : a = p
  · subst h1; rw [Function.update_self]; exact upd2 (f a) r u w b d fun e => h ⟨rfl, e⟩
  · rw [Function.update_of_ne h1]

def glueO (X : Fin 2 → Fin 2 → Fin 8 → FVec F S64x256 .bf16) : Vec F S1x256x2048 .bf16 := fun i =>
  X ⟨(i 1).val / 128, by have : (i 1).val < 256 := (i 1).isLt; omega⟩ ⟨(i 1).val / 64 % 2, by omega⟩
    ⟨(i 2).val / 256, by have : (i 2).val < 2048 := (i 2).isLt; omega⟩
    (ValueIdx.ix2 ⟨(i 1).val % 64, by omega⟩ ⟨(i 2).val % 256, by omega⟩)
def glueZ (X : Fin 2 → Fin 2 → FVec F S256x512 .f32) : Vec F S2x2x256x512 .f32 := fun i => X (i 0) (i 1) (ValueIdx.ix2 (i 2) (i 3))
def glueB (X : Fin 2 → FVec F S256x512 .f32) : Vec F S2x256x512 .f32 := fun i => X (i 0) (ValueIdx.ix2 (i 1) (i 2))
def glueD (X : Fin 2 → Fin 32 → FVec F S8x512 .f32) : Vec F S2x256x512 .f32 := fun i =>
  X (i 0) ⟨(i 1).val / 8, by have : (i 1).val < 256 := (i 1).isLt; omega⟩ (ValueIdx.ix2 ⟨(i 1).val % 8, by omega⟩ (i 2))
def glueT (X : Fin 2 → Fin 16 → FVec F S16x512 .bf16) : Vec F S2x256x512 .bf16 := fun i =>
  X (i 0) ⟨(i 1).val / 16, by have : (i 1).val < 256 := (i 1).isLt; omega⟩ (ValueIdx.ix2 ⟨(i 1).val % 16, by omega⟩ (i 2))
def glueC (X : Fin 2 → FVec F S128x512 .f32) : Vec F S2x128x512 .f32 := fun i => X (i 0) (ValueIdx.ix2 (i 1) (i 2))

abbrev rQ (p : Fin 2) (qi : Fin 8) : Rect S1x256x2048 := Rect.unit (s := S1x256x2048) ![0, 128 * p.val, 256 * qi.val] S1x128x256.size (inbQ p qi)
abbrev rK (p : Fin 2) (j : Fin 8) : Rect S1x8x256x256 := Rect.unit (s := S1x8x256x256) ![0, j.val, 0, 128 * p.val] S1x1x256x128.size (inbK p j)
abbrev rV (p : Fin 2) (j : Fin 8) : Rect S1x8x256x256 := Rect.unit (s := S1x8x256x256) ![0, j.val, 128 * p.val, 0] S1x1x128x256.size (inbV p j)
abbrev rO (p h : Fin 2) (qi : Fin 8) : Rect S1x256x2048 := Rect.unit (s := S1x256x2048) ![0, 128 * p.val + 64 * h.val, 256 * qi.val] S1x64x256.size (inbO p h qi)
abbrev rZ (b p : Fin 2) : Rect S2x2x256x512 := Rect.unit (s := S2x2x256x512) ![b.val, p.val, 0, 0] S1x1x256x512.size (inbZ b p)
abbrev rB (p : Fin 2) : Rect S2x256x512 := Rect.unit (s := S2x256x512) ![p.val, 0, 0] S1x256x512.size (inbB p)
abbrev rR (r : Fin 32) : Rect S256x512 := Rect.unit (s := S256x512) ![8 * r.val, 0] S8x512.size (inbR r)
abbrev rD (p : Fin 2) (r : Fin 32) : Rect S2x256x512 := Rect.unit (s := S2x256x512) ![p.val, 8 * r.val, 0] S1x8x512.size (inbD p r)
abbrev rA (p : Fin 2) (u : Fin 16) : Rect S2x256x512 := Rect.unit (s := S2x256x512) ![p.val, 16 * u.val, 0] S1x16x512.size (inbA p u)
abbrev rC (p : Fin 2) : Rect S2x128x512 := Rect.unit (s := S2x128x512) ![p.val, 0, 0] S1x128x512.size (inbC p)

/-- The rows `8 r, …, 8 r + 7` of a block. -/
def rowAt (z : FVec F S256x512 .f32) (r : Fin 32) : FVec F S8x512 .f32 := fun i =>
  z (ValueIdx.ix2 ⟨8 * r.val + (i 0).val, by have : (i 0).val < 8 := (i 0).isLt; omega⟩ (i 1))
/-- A block of weights from its groups of sixteen rows. -/
def allRows (X : Fin 16 → FVec F S16x512 .bf16) : FVec F S256x512 .bf16 := fun i =>
  X ⟨(i 0).val / 16, by have : (i 0).val < 256 := (i 0).isLt; omega⟩ (ValueIdx.ix2 ⟨(i 0).val % 16, by omega⟩ (i 1))

theorem val_o (X : Fin 2 → Fin 2 → Fin 8 → FVec F S64x256 .bf16) (p h : Fin 2) (qi : Fin 8) (j : (rO p h qi).shape.Idx) :
    glueO X ((rO p h qi).emb j) = (shapeCast S1x64x256 (X p h qi) shapeCasts_S64x256_S1x64x256 : FVec F S1x64x256 .bf16) j := by
  obtain ⟨u, a, b, rfl⟩ : ∃ (u : Fin 1) (a : Fin 64) (b : Fin 256), j = ValueIdx.ix3 u a b := ⟨_, _, _, ValueIdx.eq_ix3 j⟩
  rw [shapeCast_ab_1ab_apply]
  have hp := p.isLt; have hh := h.isLt; have ha := a.isLt; have hb := b.isLt
  have e1 : (((rO p h qi).emb (ValueIdx.ix3 u a b)) 1).val = 128 * p.val + 64 * h.val + 1 * a.val := rfl
  have e2 : (((rO p h qi).emb (ValueIdx.ix3 u a b)) 2).val = 256 * qi.val + 1 * b.val := rfl
  show X _ _ _ _ = _
  refine at3 X (Fin.ext ?_) (Fin.ext ?_) (Fin.ext ?_) (ix2_ext ?_ ?_)
  · show _ / 128 = _; rw [e1]; omega
  · show _ / 64 % 2 = _; rw [e1]; omega
  · show _ / 256 = _; rw [e2]; omega
  · show _ % 64 = _; rw [e1]; omega
  · show _ % 256 = _; rw [e2]; omega

theorem out_o (X : Fin 2 → Fin 2 → Fin 8 → FVec F S64x256 .bf16) (p h : Fin 2) (qi : Fin 8) (w : FVec F S64x256 .bf16)
    (i : S1x256x2048.Idx) (hi : i ∉ (rO p h qi).set) :
    glueO (Function.update X p (Function.update (X p) h (Function.update (X p h) qi w))) i = glueO X i := by
  refine congrFun (upd3 X p h qi w _ _ _ fun ⟨h1, h2, h3⟩ => hi ?_) _
  have h0 : (i 0).val < 1 := (i 0).isLt
  have h1' : (i 1).val / 128 = p.val := congrArg Fin.val h1
  have h2' : (i 1).val / 64 % 2 = h.val := congrArg Fin.val h2
  have h3' : (i 2).val / 256 = qi.val := congrArg Fin.val h3
  rw [Rect.mem_set_unit]
  intro a
  match a with
  | ⟨0, _⟩ => exact ⟨Nat.zero_le _, by show (i 0).val < 0 + 1; omega⟩
  | ⟨1, _⟩ => exact ⟨by show 128 * p.val + 64 * h.val ≤ (i 1).val; omega, by show (i 1).val < 128 * p.val + 64 * h.val + 64; omega⟩
  | ⟨2, _⟩ => exact ⟨by show 256 * qi.val ≤ (i 2).val; omega, by show (i 2).val < 256 * qi.val + 256; omega⟩

theorem val_z (X : Fin 2 → Fin 2 → FVec F S256x512 .f32) (b p : Fin 2) (j : (rZ b p).shape.Idx) :
    glueZ X ((rZ b p).emb j) = (shapeCast S1x1x256x512 (X b p) shapeCasts_S256x512_S1x1x256x512 : FVec F S1x1x256x512 .f32) j := by
  obtain ⟨u, u', x, y, rfl⟩ : ∃ (u u' : Fin 1) (x : Fin 256) (y : Fin 512), j = ValueIdx.ix4 u u' x y := ⟨_, _, _, _, ValueIdx.eq_ix4 j⟩
  have hu := u.isLt; have hu' := u'.isLt
  have e : (shapeCast S1x1x256x512 (X b p) shapeCasts_S256x512_S1x1x256x512 : FVec F S1x1x256x512 .f32) (ValueIdx.ix4 u u' x y) = X b p (ValueIdx.ix2 x y) :=
    shapeCast_apply _ _ _ _ (by rw [Shape.rowMajor_val_four, Shape.rowMajor_val_two]; show x.val * 512 + y.val = ((u.val * 1 + u'.val) * 256 + x.val) * 512 + y.val; omega)
  rw [e]
  refine at2 X (Fin.ext ?_) (Fin.ext ?_) (ix2_ext ?_ ?_)
  · show b.val + 1 * u.val = b.val; omega
  · show p.val + 1 * u'.val = p.val; omega
  · show 0 + 1 * x.val = x.val; omega
  · show 0 + 1 * y.val = y.val; omega

theorem out_z (X : Fin 2 → Fin 2 → FVec F S256x512 .f32) (b p : Fin 2) (w : FVec F S256x512 .f32) (i : S2x2x256x512.Idx) (hi : i ∉ (rZ b p).set) :
    glueZ (Function.update X b (Function.update (X b) p w)) i = glueZ X i := by
  refine congrFun (upd2 X b p w (i 0) (i 1) fun ⟨h1, h2⟩ => hi ?_) _
  have h1' : (i 0).val = b.val := congrArg Fin.val h1
  have h2' : (i 1).val = p.val := congrArg Fin.val h2
  rw [Rect.mem_set_unit]
  intro a
  match a with
  | ⟨0, _⟩ => exact ⟨by show b.val ≤ (i 0).val; omega, by show (i 0).val < b.val + 1; omega⟩
  | ⟨1, _⟩ => exact ⟨by show p.val ≤ (i 1).val; omega, by show (i 1).val < p.val + 1; omega⟩
  | ⟨2, _⟩ => exact ⟨Nat.zero_le _, by show (i 2).val < 0 + 256; rw [Nat.zero_add]; exact (i 2).isLt⟩
  | ⟨3, _⟩ => exact ⟨Nat.zero_le _, by show (i 3).val < 0 + 512; rw [Nat.zero_add]; exact (i 3).isLt⟩

theorem row_z (X : Fin 2 → Fin 2 → FVec F S256x512 .f32) (b p : Fin 2) (r : Fin 32) (hq : S256x512.numel = (rZ b p).shape.numel) :
    (fun j => glueZ X ((rZ b p).emb (Shape.reshapeEquiv hq ((rR r).emb j)))) = rowAt (X b p) r := by
  funext j
  obtain ⟨x, y, rfl⟩ : ∃ (x : Fin 8) (y : Fin 512), j = ValueIdx.ix2 x y := ⟨_, _, ValueIdx.eq_ix2 j⟩
  have hr := r.isLt; have hx := x.isLt
  have e : (rR r).emb (ValueIdx.ix2 x y) = (ValueIdx.ix2 (⟨8 * r.val + x.val, by omega⟩ : Fin 256) y : S256x512.Idx) := by
    funext a
    match a with
    | ⟨0, _⟩ => exact Fin.ext (show 8 * r.val + 1 * x.val = 8 * r.val + x.val by omega)
    | ⟨1, _⟩ => exact Fin.ext (show 0 + 1 * y.val = y.val by omega)
  simp only [e]
  refine (val_z X b p _).trans ?_
  unfold shapeCast rowAt
  rw [Shape.reshapeEquiv_reshapeEquiv, Shape.reshapeEquiv_self]

theorem val_zd (X : Fin 2 → FVec F S256x512 .f32) (p : Fin 2) (j : (rB p).shape.Idx) :
    glueB X ((rB p).emb j) = (shapeCast S1x256x512 (X p) shapeCasts_S256x512_S1x256x512 : FVec F S1x256x512 .f32) j := by
  obtain ⟨u, x, y, rfl⟩ : ∃ (u : Fin 1) (x : Fin 256) (y : Fin 512), j = ValueIdx.ix3 u x y := ⟨_, _, _, ValueIdx.eq_ix3 j⟩
  rw [shapeCast_ab_1ab_apply]
  have hu := u.isLt
  refine at2 (fun (_ : Unit) => X) (a := ()) (a' := ()) rfl (Fin.ext ?_) (ix2_ext ?_ ?_)
  · show p.val + 1 * u.val = p.val; omega
  · show 0 + 1 * x.val = x.val; omega
  · show 0 + 1 * y.val = y.val; omega

theorem out_zd (X : Fin 2 → FVec F S256x512 .f32) (p : Fin 2) (w : FVec F S256x512 .f32) (i : S2x256x512.Idx) (hi : i ∉ (rB p).set) :
    glueB (Function.update X p w) i = glueB X i := by
  refine congrFun (upd1 X p w (i 0) fun h1 => hi ?_) _
  have h1' : (i 0).val = p.val := congrArg Fin.val h1
  rw [Rect.mem_set_unit]
  intro a
  match a with
  | ⟨0, _⟩ => exact ⟨by show p.val ≤ (i 0).val; omega, by show (i 0).val < p.val + 1; omega⟩
  | ⟨1, _⟩ => exact ⟨Nat.zero_le _, by show (i 1).val < 0 + 256; rw [Nat.zero_add]; exact (i 1).isLt⟩
  | ⟨2, _⟩ => exact ⟨Nat.zero_le _, by show (i 2).val < 0 + 512; rw [Nat.zero_add]; exact (i 2).isLt⟩

theorem row_zd (X : Fin 2 → FVec F S256x512 .f32) (p : Fin 2) (r : Fin 32) (hq : S256x512.numel = (rB p).shape.numel) :
    (fun j => glueB X ((rB p).emb (Shape.reshapeEquiv hq ((rR r).emb j)))) = rowAt (X p) r := by
  funext j
  obtain ⟨x, y, rfl⟩ : ∃ (x : Fin 8) (y : Fin 512), j = ValueIdx.ix2 x y := ⟨_, _, ValueIdx.eq_ix2 j⟩
  have hr := r.isLt; have hx := x.isLt
  have e : (rR r).emb (ValueIdx.ix2 x y) = (ValueIdx.ix2 (⟨8 * r.val + x.val, by omega⟩ : Fin 256) y : S256x512.Idx) := by
    funext a
    match a with
    | ⟨0, _⟩ => exact Fin.ext (show 8 * r.val + 1 * x.val = 8 * r.val + x.val by omega)
    | ⟨1, _⟩ => exact Fin.ext (show 0 + 1 * y.val = y.val by omega)
  simp only [e]
  refine (val_zd X p _).trans ?_
  unfold shapeCast rowAt
  rw [Shape.reshapeEquiv_reshapeEquiv, Shape.reshapeEquiv_self]

theorem val_d (X : Fin 2 → Fin 32 → FVec F S8x512 .f32) (p : Fin 2) (r : Fin 32) (j : (rD p r).shape.Idx) :
    glueD X ((rD p r).emb j) = (shapeCast S1x8x512 (X p r) shapeCasts_S8x512_S1x8x512 : FVec F S1x8x512 .f32) j := by
  obtain ⟨u, x, y, rfl⟩ : ∃ (u : Fin 1) (x : Fin 8) (y : Fin 512), j = ValueIdx.ix3 u x y := ⟨_, _, _, ValueIdx.eq_ix3 j⟩
  rw [shapeCast_ab_1ab_apply]
  have hu := u.isLt; have hx := x.isLt
  have e1 : (((rD p r).emb (ValueIdx.ix3 u x y)) 1).val = 8 * r.val + 1 * x.val := rfl
  refine at2 X (Fin.ext ?_) (Fin.ext ?_) (ix2_ext ?_ ?_)
  · show p.val + 1 * u.val = p.val; omega
  · show _ / 8 = _; rw [e1]; omega
  · show _ % 8 = _; rw [e1]; omega
  · show 0 + 1 * y.val = y.val; omega

theorem out_d (X : Fin 2 → Fin 32 → FVec F S8x512 .f32) (p : Fin 2) (r : Fin 32) (w : FVec F S8x512 .f32) (i : S2x256x512.Idx) (hi : i ∉ (rD p r).set) :
    glueD (Function.update X p (Function.update (X p) r w)) i = glueD X i := by
  refine congrFun (upd2 X p r w (i 0) _ fun ⟨h1, h2⟩ => hi ?_) _
  have h1' : (i 0).val = p.val := congrArg Fin.val h1
  have h2' : (i 1).val / 8 = r.val := congrArg Fin.val h2
  rw [Rect.mem_set_unit]
  intro a
  match a with
  | ⟨0, _⟩ => exact ⟨by show p.val ≤ (i 0).val; omega, by show (i 0).val < p.val + 1; omega⟩
  | ⟨1, _⟩ => exact ⟨by show 8 * r.val ≤ (i 1).val; omega, by show (i 1).val < 8 * r.val + 8; omega⟩
  | ⟨2, _⟩ => exact ⟨Nat.zero_le _, by show (i 2).val < 0 + 512; rw [Nat.zero_add]; exact (i 2).isLt⟩

theorem val_t (X : Fin 2 → Fin 16 → FVec F S16x512 .bf16) (p : Fin 2) (r : Fin 16) (j : (rA p r).shape.Idx) :
    glueT X ((rA p r).emb j) = (shapeCast S1x16x512 (X p r) shapeCasts_S16x512_S1x16x512 : FVec F S1x16x512 .bf16) j := by
  obtain ⟨u, x, y, rfl⟩ : ∃ (u : Fin 1) (x : Fin 16) (y : Fin 512), j = ValueIdx.ix3 u x y := ⟨_, _, _, ValueIdx.eq_ix3 j⟩
  rw [shapeCast_ab_1ab_apply]
  have hu := u.isLt; have hx := x.isLt
  have e1 : (((rA p r).emb (ValueIdx.ix3 u x y)) 1).val = 16 * r.val + 1 * x.val := rfl
  refine at2 X (Fin.ext ?_) (Fin.ext ?_) (ix2_ext ?_ ?_)
  · show p.val + 1 * u.val = p.val; omega
  · show _ / 16 = _; rw [e1]; omega
  · show _ % 16 = _; rw [e1]; omega
  · show 0 + 1 * y.val = y.val; omega

theorem out_t (X : Fin 2 → Fin 16 → FVec F S16x512 .bf16) (p : Fin 2) (r : Fin 16) (w : FVec F S16x512 .bf16) (i : S2x256x512.Idx) (hi : i ∉ (rA p r).set) :
    glueT (Function.update X p (Function.update (X p) r w)) i = glueT X i := by
  refine congrFun (upd2 X p r w (i 0) _ fun ⟨h1, h2⟩ => hi ?_) _
  have h1' : (i 0).val = p.val := congrArg Fin.val h1
  have h2' : (i 1).val / 16 = r.val := congrArg Fin.val h2
  rw [Rect.mem_set_unit]
  intro a
  match a with
  | ⟨0, _⟩ => exact ⟨by show p.val ≤ (i 0).val; omega, by show (i 0).val < p.val + 1; omega⟩
  | ⟨1, _⟩ => exact ⟨by show 16 * r.val ≤ (i 1).val; omega, by show (i 1).val < 16 * r.val + 16; omega⟩
  | ⟨2, _⟩ => exact ⟨Nat.zero_le _, by show (i 2).val < 0 + 512; rw [Nat.zero_add]; exact (i 2).isLt⟩

theorem all_t (X : Fin 2 → Fin 16 → FVec F S16x512 .bf16) (p : Fin 2) :
    (fun j => glueT X ((rB p).emb j)) = (shapeCast S1x256x512 (allRows (X p)) (by decide) : FVec F S1x256x512 .bf16) := by
  funext j
  obtain ⟨u, x, y, rfl⟩ : ∃ (u : Fin 1) (x : Fin 256) (y : Fin 512), j = ValueIdx.ix3 u x y := ⟨_, _, _, ValueIdx.eq_ix3 j⟩
  rw [shapeCast_ab_1ab_apply]
  have hu := u.isLt; have hx := x.isLt
  have e1 : (((rB p).emb (ValueIdx.ix3 u x y)) 1).val = 0 + 1 * x.val := rfl
  refine at2 X (Fin.ext ?_) (Fin.ext ?_) (ix2_ext ?_ ?_)
  · show p.val + 1 * u.val = p.val; omega
  · show _ / 16 = x.val / 16; rw [e1]; omega
  · show _ % 16 = x.val % 16; rw [e1]; omega
  · show 0 + 1 * y.val = y.val; omega

theorem val_c (X : Fin 2 → FVec F S128x512 .f32) (p : Fin 2) (j : (rC p).shape.Idx) :
    glueC X ((rC p).emb j) = (shapeCast S1x128x512 (X p) shapeCasts_S128x512_S1x128x512 : FVec F S1x128x512 .f32) j := by
  obtain ⟨u, x, y, rfl⟩ : ∃ (u : Fin 1) (x : Fin 128) (y : Fin 512), j = ValueIdx.ix3 u x y := ⟨_, _, _, ValueIdx.eq_ix3 j⟩
  rw [shapeCast_ab_1ab_apply]
  have hu := u.isLt
  refine at2 (fun (_ : Unit) => X) (a := ()) (a' := ()) rfl (Fin.ext ?_) (ix2_ext ?_ ?_)
  · show p.val + 1 * u.val = p.val; omega
  · show 0 + 1 * x.val = x.val; omega
  · show 0 + 1 * y.val = y.val; omega

theorem out_c (X : Fin 2 → FVec F S128x512 .f32) (p : Fin 2) (w : FVec F S128x512 .f32) (i : S2x128x512.Idx) (hi : i ∉ (rC p).set) :
    glueC (Function.update X p w) i = glueC X i := by
  refine congrFun (upd1 X p w (i 0) fun h1 => hi ?_) _
  have h1' : (i 0).val = p.val := congrArg Fin.val h1
  rw [Rect.mem_set_unit]
  intro a
  match a with
  | ⟨0, _⟩ => exact ⟨by show p.val ≤ (i 0).val; omega, by show (i 0).val < p.val + 1; omega⟩
  | ⟨1, _⟩ => exact ⟨Nat.zero_le _, by show (i 1).val < 0 + 128; rw [Nat.zero_add]; exact (i 1).isLt⟩
  | ⟨2, _⟩ => exact ⟨Nat.zero_le _, by show (i 2).val < 0 + 512; rw [Nat.zero_add]; exact (i 2).isLt⟩

/-- Any contents are glued from their blocks. -/
theorem glueO_surj (Y : Vec F S1x256x2048 .bf16) : ∃ X, glueO X = Y :=
  ⟨fun p h qi i => Y (ValueIdx.ix3 0 ⟨128 * p.val + 64 * h.val + (i 0).val, by have : (i 0).val < 64 := (i 0).isLt; omega⟩
      ⟨256 * qi.val + (i 1).val, by have : (i 1).val < 256 := (i 1).isLt; omega⟩), by
    funext i
    obtain ⟨u, x, y, rfl⟩ : ∃ (u : Fin 1) (x : Fin 256) (y : Fin 2048), i = ValueIdx.ix3 u x y := ⟨_, _, _, ValueIdx.eq_ix3 i⟩
    have hu := u.isLt; have hx := x.isLt; have hy := y.isLt
    show Y (ValueIdx.ix3 _ ⟨128 * (x.val / 128) + 64 * (x.val / 64 % 2) + x.val % 64, _⟩ ⟨256 * (y.val / 256) + y.val % 256, _⟩) = _
    congr 1
    funext a
    match a with
    | ⟨0, _⟩ => exact Fin.ext (show 0 = u.val by omega)
    | ⟨1, _⟩ => exact Fin.ext (show 128 * (x.val / 128) + 64 * (x.val / 64 % 2) + x.val % 64 = x.val by omega)
    | ⟨2, _⟩ => exact Fin.ext (show 256 * (y.val / 256) + y.val % 256 = y.val by omega)⟩
theorem glueZ_surj (Y : Vec F S2x2x256x512 .f32) : ∃ X, glueZ X = Y :=
  ⟨fun b p i => Y (ValueIdx.ix4 b p (i 0) (i 1)), by funext i; exact congrArg Y (ValueIdx.eq_ix4 i).symm⟩
theorem glueB_surj (Y : Vec F S2x256x512 .f32) : ∃ X, glueB X = Y :=
  ⟨fun p i => Y (ValueIdx.ix3 p (i 0) (i 1)), by funext i; exact congrArg Y (ValueIdx.eq_ix3 i).symm⟩
theorem glueC_surj (Y : Vec F S2x128x512 .f32) : ∃ X, glueC X = Y :=
  ⟨fun p i => Y (ValueIdx.ix3 p (i 0) (i 1)), by funext i; exact congrArg Y (ValueIdx.eq_ix3 i).symm⟩
theorem glueD_surj (Y : Vec F S2x256x512 .f32) : ∃ X, glueD X = Y :=
  ⟨fun p r i => Y (ValueIdx.ix3 p ⟨8 * r.val + (i 0).val, by have : (i 0).val < 8 := (i 0).isLt; omega⟩ (i 1)), by
    funext i
    obtain ⟨u, x, y, rfl⟩ : ∃ (u : Fin 2) (x : Fin 256) (y : Fin 512), i = ValueIdx.ix3 u x y := ⟨_, _, _, ValueIdx.eq_ix3 i⟩
    show Y (ValueIdx.ix3 u ⟨8 * (x.val / 8) + x.val % 8, _⟩ y) = _
    congr 2
    exact Fin.ext (show 8 * (x.val / 8) + x.val % 8 = x.val by omega)⟩
theorem glueT_surj (Y : Vec F S2x256x512 .bf16) : ∃ X, glueT X = Y :=
  ⟨fun p r i => Y (ValueIdx.ix3 p ⟨16 * r.val + (i 0).val, by have : (i 0).val < 16 := (i 0).isLt; omega⟩ (i 1)), by
    funext i
    obtain ⟨u, x, y, rfl⟩ : ∃ (u : Fin 2) (x : Fin 256) (y : Fin 512), i = ValueIdx.ix3 u x y := ⟨_, _, _, ValueIdx.eq_ix3 i⟩
    show Y (ValueIdx.ix3 u ⟨16 * (x.val / 16) + x.val % 16, _⟩ y) = _
    congr 2
    exact Fin.ext (show 16 * (x.val / 16) + x.val % 16 = x.val by omega)⟩

end Cert.Proof.Attn

end
-- ==== Proof.Attn.Triples.lean ====
/- Runs of the short program's pieces: from the nine buffers at one state to the nine buffers at the next. -/
module

public import proofs.«01_k».proof.Proof.Attn.Run

@[expose] public section

noncomputable section

namespace Cert.Proof.Attn

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ (UR sig nD τ) ℕ

variable (𝒱 : Variants) (c : Dev nD) (B : Bufs)

/-- The nine buffers at a state. -/
def H (s : St F) : sProp 𝕄 :=
  iprop(own c B.q s.q ∗ own c B.k s.k ∗ own c B.v s.v ∗ own c B.o (glueO s.o) ∗ own c B.z (glueZ s.z) ∗ own c B.zd (glueB s.zd) ∗ own c B.d (glueD s.d) ∗ own c B.t (glueT s.t) ∗ own c B.c (glueC s.c))

/-- From state `s` the program returns `a` and leaves state `s'`. -/
def Ok {α : Type} (p : BProg F α) (s : St F) (a : α) (s' : St F) : Prop :=
  ∀ Q : α → sProp 𝕄, iprop(H c B s ∗ (H c B s' -∗ Q a)) ⊢ runs 𝒱 c p Q

variable {𝒱 c B}

theorem Ok.pure {α : Type} (a : α) (s : St F) : Ok 𝒱 c B (pure a) s a s := by
  intro Q
  show _ ⊢ runs 𝒱 c (.ret a) Q
  unfold runs
  rw [wp_ret]
  iintro ⟨h, K⟩
  imodintro
  iapply K $$ h

theorem Ok.bind {α β : Type} {p : BProg F α} {k : α → BProg F β} {s s' s'' : St F} {a : α} {b : β}
    (h : Ok 𝒱 c B p s a s') (h' : Ok 𝒱 c B (k a) s' b s'') : Ok 𝒱 c B (p >>= k) s b s'' := by
  intro Q
  unfold runs
  rw [wp_bind]
  refine BIBase.Entails.trans ?_ (h _)
  iintro ⟨h, K⟩
  isplitl [h]; · iexact h
  iintro h
  iapply (h' Q)
  isplitl [h]; · iexact h
  iexact K

theorem Ok.to {α : Type} {p : BProg F α} {s s₁ s₂ : St F} {a a' : α} (h : Ok 𝒱 c B p s a s₁) (ha : a = a') (hs : s₁ = s₂) :
    Ok 𝒱 c B p s a' s₂ := by subst ha; subst hs; exact h

theorem okLoad {s : Shape} {e : EltTy} {m : Memref sig .tc .vmem s e} {r : Rect s} {hl : m.view.LoadsAt r.toLoadRect}
    {X : s.Idx → Elt F e} {st : St F} (R : sProp 𝕄) (h1 : H c B st ⊢ own c m X ∗ R) (h2 : own c m X ∗ R ⊢ H c B st) :
    Ok 𝒱 c B (Prog.lift (.load m r.toLoadRect hl)) st (fun j => X (r.emb j)) st := by
  intro Q
  refine BIBase.Entails.trans ?_ (load_own 𝒱 c m r hl X Q)
  iintro ⟨h, K⟩
  icases h1 $$ h with ⟨h, R⟩
  isplitl [h]; · iexact h
  iintro h
  iapply K
  iapply h2
  isplitl [h]; · iexact h
  iexact R

theorem okLoadSub {s s' : Shape} {e : EltTy} {m : Memref sig .tc .vmem s e} {r : Rect s} {hr : ∀ a, r.stride a = 1}
    {hq : r.shape.Squeezes s'} {r' : Rect s'} {hl : ((m.slice r hr).squeeze s' hq).view.LoadsAt r'.toLoadRect}
    {X : s.Idx → Elt F e} {st : St F} (R : sProp 𝕄) (h1 : H c B st ⊢ own c m X ∗ R) (h2 : own c m X ∗ R ⊢ H c B st) :
    Ok 𝒱 c B (Prog.lift (.load ((m.slice r hr).squeeze s' hq) r'.toLoadRect hl)) st
      (fun j => X (r.emb (Shape.reshapeEquiv hq.numel_eq (r'.emb j)))) st := by
  intro Q
  refine BIBase.Entails.trans ?_ (load_own_sub 𝒱 c m r hr hq r' hl X Q)
  iintro ⟨h, K⟩
  icases h1 $$ h with ⟨h, R⟩
  isplitl [h]; · iexact h
  iintro h
  iapply K
  iapply h2
  isplitl [h]; · iexact h
  iexact R

theorem okStore {s : Shape} {e : EltTy} {m : Memref sig .tc .vmem s e} {r : Rect s} {w : r.shape.Idx → Elt F e}
    {hx : (m.access r).Stores Finset.univ} {hm} {X X' : s.Idx → Elt F e} {st st' : St F} (R : sProp 𝕄)
    (h1 : H c B st ⊢ own c m X ∗ R) (h2 : own c m X' ∗ R ⊢ H c B st')
    (e1 : ∀ j, X' (r.emb j) = w j) (e2 : ∀ i, i ∉ r.set → X' i = X i) :
    Ok 𝒱 c B (Prog.lift (.store m r w Finset.univ hx hm)) st ⟨⟩ st' := by
  intro Q
  refine BIBase.Entails.trans ?_ (store_own 𝒱 c m r w hx hm X X' e1 e2 Q)
  iintro ⟨h, K⟩
  icases h1 $$ h with ⟨h, R⟩
  isplitl [h]; · iexact h
  iintro h
  iapply K
  iapply h2
  isplitl [h]; · iexact h
  iexact R

/-! ## The rest of the buffers beside each -/

def rest_q (s : St F) : sProp 𝕄 := iprop(own c B.k s.k ∗ own c B.v s.v ∗ own c B.o (glueO s.o) ∗ own c B.z (glueZ s.z) ∗ own c B.zd (glueB s.zd) ∗ own c B.d (glueD s.d) ∗ own c B.t (glueT s.t) ∗ own c B.c (glueC s.c))
theorem take_q (s : St F) : H c B s ⊢ own c B.q s.q ∗ rest_q (c := c) (B := B) s := by
  unfold H rest_q
  iintro ⟨Hq, Hk, Hv, Ho, Hz, Hzd, Hd, Ht, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc
theorem give_q (s s' : St F) (h : rest_q (c := c) (B := B) s = rest_q (c := c) (B := B) s') : own c B.q s'.q ∗ rest_q (c := c) (B := B) s ⊢ H c B s' := by
  rw [h]
  unfold H rest_q
  iintro ⟨Hq, Hk, Hv, Ho, Hz, Hzd, Hd, Ht, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

def rest_k (s : St F) : sProp 𝕄 := iprop(own c B.q s.q ∗ own c B.v s.v ∗ own c B.o (glueO s.o) ∗ own c B.z (glueZ s.z) ∗ own c B.zd (glueB s.zd) ∗ own c B.d (glueD s.d) ∗ own c B.t (glueT s.t) ∗ own c B.c (glueC s.c))
theorem take_k (s : St F) : H c B s ⊢ own c B.k s.k ∗ rest_k (c := c) (B := B) s := by
  unfold H rest_k
  iintro ⟨Hq, Hk, Hv, Ho, Hz, Hzd, Hd, Ht, Hc⟩
  isplitl [Hk]; · iexact Hk
  isplitl [Hq]; · iexact Hq
  isplitl [Hv]; · iexact Hv
  isplitl [Ho]; · iexact Ho
  isplitl [Hz]; · iexact Hz
  isplitl [Hzd]; · iexact Hzd
  isplitl [Hd]; · iexact Hd
  isplitl [Ht]; · iexact Ht
  iexact Hc
theorem give_k (s s' : St F) (h : rest_k (c := c) (B := B) s = rest_k (c := c) (B := B) s') : own c B.k s'.k ∗ rest_k (c := c) (B := B) s ⊢ H c B s' := by
  rw [h]
  unfold H rest_k
  iintro ⟨Hk, Hq, Hv, Ho, Hz, Hzd, Hd, Ht, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

def rest_v (s : St F) : sProp 𝕄 := iprop(own c B.q s.q ∗ own c B.k s.k ∗ own c B.o (glueO s.o) ∗ own c B.z (glueZ s.z) ∗ own c B.zd (glueB s.zd) ∗ own c B.d (glueD s.d) ∗ own c B.t (glueT s.t) ∗ own c B.c (glueC s.c))
theorem take_v (s : St F) : H c B s ⊢ own c B.v s.v ∗ rest_v (c := c) (B := B) s := by
  unfold H rest_v
  iintro ⟨Hq, Hk, Hv, Ho, Hz, Hzd, Hd, Ht, Hc⟩
  isplitl [Hv]; · iexact Hv
  isplitl [Hq]; · iexact Hq
  isplitl [Hk]; · iexact Hk
  isplitl [Ho]; · iexact Ho
  isplitl [Hz]; · iexact Hz
  isplitl [Hzd]; · iexact Hzd
  isplitl [Hd]; · iexact Hd
  isplitl [Ht]; · iexact Ht
  iexact Hc
theorem give_v (s s' : St F) (h : rest_v (c := c) (B := B) s = rest_v (c := c) (B := B) s') : own c B.v s'.v ∗ rest_v (c := c) (B := B) s ⊢ H c B s' := by
  rw [h]
  unfold H rest_v
  iintro ⟨Hv, Hq, Hk, Ho, Hz, Hzd, Hd, Ht, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

def rest_o (s : St F) : sProp 𝕄 := iprop(own c B.q s.q ∗ own c B.k s.k ∗ own c B.v s.v ∗ own c B.z (glueZ s.z) ∗ own c B.zd (glueB s.zd) ∗ own c B.d (glueD s.d) ∗ own c B.t (glueT s.t) ∗ own c B.c (glueC s.c))
theorem take_o (s : St F) : H c B s ⊢ own c B.o (glueO s.o) ∗ rest_o (c := c) (B := B) s := by
  unfold H rest_o
  iintro ⟨Hq, Hk, Hv, Ho, Hz, Hzd, Hd, Ht, Hc⟩
  isplitl [Ho]; · iexact Ho
  isplitl [Hq]; · iexact Hq
  isplitl [Hk]; · iexact Hk
  isplitl [Hv]; · iexact Hv
  isplitl [Hz]; · iexact Hz
  isplitl [Hzd]; · iexact Hzd
  isplitl [Hd]; · iexact Hd
  isplitl [Ht]; · iexact Ht
  iexact Hc
theorem give_o (s s' : St F) (h : rest_o (c := c) (B := B) s = rest_o (c := c) (B := B) s') : own c B.o (glueO s'.o) ∗ rest_o (c := c) (B := B) s ⊢ H c B s' := by
  rw [h]
  unfold H rest_o
  iintro ⟨Ho, Hq, Hk, Hv, Hz, Hzd, Hd, Ht, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

def rest_z (s : St F) : sProp 𝕄 := iprop(own c B.q s.q ∗ own c B.k s.k ∗ own c B.v s.v ∗ own c B.o (glueO s.o) ∗ own c B.zd (glueB s.zd) ∗ own c B.d (glueD s.d) ∗ own c B.t (glueT s.t) ∗ own c B.c (glueC s.c))
theorem take_z (s : St F) : H c B s ⊢ own c B.z (glueZ s.z) ∗ rest_z (c := c) (B := B) s := by
  unfold H rest_z
  iintro ⟨Hq, Hk, Hv, Ho, Hz, Hzd, Hd, Ht, Hc⟩
  isplitl [Hz]; · iexact Hz
  isplitl [Hq]; · iexact Hq
  isplitl [Hk]; · iexact Hk
  isplitl [Hv]; · iexact Hv
  isplitl [Ho]; · iexact Ho
  isplitl [Hzd]; · iexact Hzd
  isplitl [Hd]; · iexact Hd
  isplitl [Ht]; · iexact Ht
  iexact Hc
theorem give_z (s s' : St F) (h : rest_z (c := c) (B := B) s = rest_z (c := c) (B := B) s') : own c B.z (glueZ s'.z) ∗ rest_z (c := c) (B := B) s ⊢ H c B s' := by
  rw [h]
  unfold H rest_z
  iintro ⟨Hz, Hq, Hk, Hv, Ho, Hzd, Hd, Ht, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

def rest_zd (s : St F) : sProp 𝕄 := iprop(own c B.q s.q ∗ own c B.k s.k ∗ own c B.v s.v ∗ own c B.o (glueO s.o) ∗ own c B.z (glueZ s.z) ∗ own c B.d (glueD s.d) ∗ own c B.t (glueT s.t) ∗ own c B.c (glueC s.c))
theorem take_zd (s : St F) : H c B s ⊢ own c B.zd (glueB s.zd) ∗ rest_zd (c := c) (B := B) s := by
  unfold H rest_zd
  iintro ⟨Hq, Hk, Hv, Ho, Hz, Hzd, Hd, Ht, Hc⟩
  isplitl [Hzd]; · iexact Hzd
  isplitl [Hq]; · iexact Hq
  isplitl [Hk]; · iexact Hk
  isplitl [Hv]; · iexact Hv
  isplitl [Ho]; · iexact Ho
  isplitl [Hz]; · iexact Hz
  isplitl [Hd]; · iexact Hd
  isplitl [Ht]; · iexact Ht
  iexact Hc
theorem give_zd (s s' : St F) (h : rest_zd (c := c) (B := B) s = rest_zd (c := c) (B := B) s') : own c B.zd (glueB s'.zd) ∗ rest_zd (c := c) (B := B) s ⊢ H c B s' := by
  rw [h]
  unfold H rest_zd
  iintro ⟨Hzd, Hq, Hk, Hv, Ho, Hz, Hd, Ht, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

def rest_d (s : St F) : sProp 𝕄 := iprop(own c B.q s.q ∗ own c B.k s.k ∗ own c B.v s.v ∗ own c B.o (glueO s.o) ∗ own c B.z (glueZ s.z) ∗ own c B.zd (glueB s.zd) ∗ own c B.t (glueT s.t) ∗ own c B.c (glueC s.c))
theorem take_d (s : St F) : H c B s ⊢ own c B.d (glueD s.d) ∗ rest_d (c := c) (B := B) s := by
  unfold H rest_d
  iintro ⟨Hq, Hk, Hv, Ho, Hz, Hzd, Hd, Ht, Hc⟩
  isplitl [Hd]; · iexact Hd
  isplitl [Hq]; · iexact Hq
  isplitl [Hk]; · iexact Hk
  isplitl [Hv]; · iexact Hv
  isplitl [Ho]; · iexact Ho
  isplitl [Hz]; · iexact Hz
  isplitl [Hzd]; · iexact Hzd
  isplitl [Ht]; · iexact Ht
  iexact Hc
theorem give_d (s s' : St F) (h : rest_d (c := c) (B := B) s = rest_d (c := c) (B := B) s') : own c B.d (glueD s'.d) ∗ rest_d (c := c) (B := B) s ⊢ H c B s' := by
  rw [h]
  unfold H rest_d
  iintro ⟨Hd, Hq, Hk, Hv, Ho, Hz, Hzd, Ht, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

def rest_t (s : St F) : sProp 𝕄 := iprop(own c B.q s.q ∗ own c B.k s.k ∗ own c B.v s.v ∗ own c B.o (glueO s.o) ∗ own c B.z (glueZ s.z) ∗ own c B.zd (glueB s.zd) ∗ own c B.d (glueD s.d) ∗ own c B.c (glueC s.c))
theorem take_t (s : St F) : H c B s ⊢ own c B.t (glueT s.t) ∗ rest_t (c := c) (B := B) s := by
  unfold H rest_t
  iintro ⟨Hq, Hk, Hv, Ho, Hz, Hzd, Hd, Ht, Hc⟩
  isplitl [Ht]; · iexact Ht
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  iexact Hc
theorem give_t (s s' : St F) (h : rest_t (c := c) (B := B) s = rest_t (c := c) (B := B) s') : own c B.t (glueT s'.t) ∗ rest_t (c := c) (B := B) s ⊢ H c B s' := by
  rw [h]
  unfold H rest_t
  iintro ⟨Ht, Hq, Hk, Hv, Ho, Hz, Hzd, Hd, Hc⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

def rest_c (s : St F) : sProp 𝕄 := iprop(own c B.q s.q ∗ own c B.k s.k ∗ own c B.v s.v ∗ own c B.o (glueO s.o) ∗ own c B.z (glueZ s.z) ∗ own c B.zd (glueB s.zd) ∗ own c B.d (glueD s.d) ∗ own c B.t (glueT s.t))
theorem take_c (s : St F) : H c B s ⊢ own c B.c (glueC s.c) ∗ rest_c (c := c) (B := B) s := by
  unfold H rest_c
  iintro ⟨Hq, Hk, Hv, Ho, Hz, Hzd, Hd, Ht, Hc⟩
  isplitl [Hc]; · iexact Hc
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  iexact Ht
theorem give_c (s s' : St F) (h : rest_c (c := c) (B := B) s = rest_c (c := c) (B := B) s') : own c B.c (glueC s'.c) ∗ rest_c (c := c) (B := B) s ⊢ H c B s' := by
  rw [h]
  unfold H rest_c
  iintro ⟨Hc, Hq, Hk, Hv, Ho, Hz, Hzd, Hd, Ht⟩
  isplitl [Hq]; · iexact Hq
  isplitl [Hk]; · iexact Hk
  isplitl [Hv]; · iexact Hv
  isplitl [Ho]; · iexact Ho
  isplitl [Hz]; · iexact Hz
  isplitl [Hzd]; · iexact Hzd
  isplitl [Hd]; · iexact Hd
  isplitl [Ht]; · iexact Ht
  iexact Hc

/-! ## The primitives -/

theorem ok_ldQ (s : St F) (p : Fin 2) (qi : Fin 8) : Ok 𝒱 c B (ldQ B p qi) s (fun j => s.q ((rQ p qi).emb j)) s :=
  okLoad _ (take_q s) (give_q s s rfl)
theorem ok_ldK (s : St F) (p : Fin 2) (j : Fin 8) : Ok 𝒱 c B (ldK B p j) s (fun i => s.k ((rK p j).emb i)) s :=
  okLoad _ (take_k s) (give_k s s rfl)
theorem ok_ldV (s : St F) (p : Fin 2) (j : Fin 8) : Ok 𝒱 c B (ldV B p j) s (fun i => s.v ((rV p j).emb i)) s :=
  okLoad _ (take_v s) (give_v s s rfl)
theorem ok_stO (s : St F) (p h : Fin 2) (qi : Fin 8) (w : FVec F S64x256 .bf16) :
    Ok 𝒱 c B (stO B p h qi w) s ⟨⟩ { s with o := Function.update s.o p (Function.update (s.o p) h (Function.update (s.o p h) qi w)) } :=
  Ok.bind (okLoad _ (take_o s) (give_o s s rfl)) (okStore _ (take_o s) (give_o s _ rfl)
    (fun j => (val_o _ p h qi j).trans (by simp only [Function.update_self])) (fun i hi => out_o s.o p h qi w i hi))
theorem ok_stZ (s : St F) (b p : Fin 2) (w : FVec F S256x512 .f32) :
    Ok 𝒱 c B (stZ B b p w) s ⟨⟩ { s with z := Function.update s.z b (Function.update (s.z b) p w) } :=
  Ok.bind (okLoad _ (take_z s) (give_z s s rfl)) (okStore _ (take_z s) (give_z s _ rfl)
    (fun j => (val_z _ b p j).trans (by simp only [Function.update_self])) (fun i hi => out_z s.z b p w i hi))
theorem ok_ldZ (s : St F) (b p : Fin 2) (r : Fin 32) : Ok 𝒱 c B (ldZ B b p r) s (rowAt (s.z b p) r) s :=
  (okLoadSub _ (take_z s) (give_z s s rfl)).to (row_z s.z b p r _) rfl
theorem ok_stZd (s : St F) (p : Fin 2) (w : FVec F S256x512 .f32) :
    Ok 𝒱 c B (stZd B p w) s ⟨⟩ { s with zd := Function.update s.zd p w } :=
  Ok.bind (okLoad _ (take_zd s) (give_zd s s rfl)) (okStore _ (take_zd s) (give_zd s _ rfl)
    (fun j => (val_zd _ p j).trans (by simp only [Function.update_self])) (fun i hi => out_zd s.zd p w i hi))
theorem ok_ldZd (s : St F) (p : Fin 2) (r : Fin 32) : Ok 𝒱 c B (ldZd B p r) s (rowAt (s.zd p) r) s :=
  (okLoadSub _ (take_zd s) (give_zd s s rfl)).to (row_zd s.zd p r _) rfl
theorem ok_ldD (s : St F) (p : Fin 2) (r : Fin 32) :
    Ok 𝒱 c B (ldD B p r) s (shapeCast S1x8x512 (s.d p r) shapeCasts_S8x512_S1x8x512 : FVec F S1x8x512 .f32) s :=
  (okLoad _ (take_d s) (give_d s s rfl)).to (funext fun j => val_d s.d p r j) rfl
theorem ok_stD (s : St F) (p : Fin 2) (r : Fin 32) (w : FVec F S8x512 .f32) :
    Ok 𝒱 c B (stD B p r w) s ⟨⟩ { s with d := Function.update s.d p (Function.update (s.d p) r w) } :=
  Ok.bind (ok_ldD s p r) (okStore _ (take_d s) (give_d s _ rfl)
    (fun j => (val_d _ p r j).trans (by simp only [Function.update_self])) (fun i hi => out_d s.d p r w i hi))
theorem ok_stT (s : St F) (p : Fin 2) (u : Fin 16) (w : FVec F S16x512 .bf16) :
    Ok 𝒱 c B (stT B p u w) s ⟨⟩ { s with t := Function.update s.t p (Function.update (s.t p) u w) } :=
  Ok.bind (okLoad _ (take_t s) (give_t s s rfl)) (okStore _ (take_t s) (give_t s _ rfl)
    (fun j => (val_t _ p u j).trans (by simp only [Function.update_self])) (fun i hi => out_t s.t p u w i hi))
theorem ok_ldT (s : St F) (p : Fin 2) :
    Ok 𝒱 c B (ldT B p) s (shapeCast S1x256x512 (allRows (s.t p)) (by decide) : FVec F S1x256x512 .bf16) s :=
  (okLoad _ (take_t s) (give_t s s rfl)).to (all_t s.t p) rfl
theorem ok_ldC (s : St F) (p : Fin 2) :
    Ok 𝒱 c B (ldC B p) s (shapeCast S1x128x512 (s.c p) shapeCasts_S128x512_S1x128x512 : FVec F S1x128x512 .f32) s :=
  (okLoad _ (take_c s) (give_c s s rfl)).to (funext fun j => val_c s.c p j) rfl
theorem ok_stC (s : St F) (p : Fin 2) (w : FVec F S128x512 .f32) :
    Ok 𝒱 c B (stC B p w) s ⟨⟩ { s with c := Function.update s.c p w } :=
  Ok.bind (ok_ldC s p) (okStore _ (take_c s) (give_c s _ rfl)
    (fun j => (val_c _ p j).trans (by simp only [Function.update_self])) (fun i hi => out_c s.c p w i hi))

/-- The zero block of sums. -/
def zero128 : FVec F S128x512 .f32 := broadcast S128x512 (Scalar.ofBits .f32 0x00000000#32)

theorem ok_zeroC (s : St F) : Ok 𝒱 c B (zeroC B) s ⟨⟩ { s with c := fun _ => zero128 } :=
  Ok.bind (okLoad _ (take_c s) (give_c s s rfl)) (okStore _ (take_c s) (give_c s _ rfl)
    (fun j => rfl) (fun i hi => absurd (by
      rw [Rect.mem_set_unit]
      intro a
      have h0 : (i 0).val < 2 := (i 0).isLt
      have h1 : (i 1).val < 128 := (i 1).isLt
      have h2 : (i 2).val < 512 := (i 2).isLt
      match a with
      | ⟨0, _⟩ => exact ⟨Nat.zero_le _, by show (i 0).val < 0 + 2; omega⟩
      | ⟨1, _⟩ => exact ⟨Nat.zero_le _, by show (i 1).val < 0 + 128; omega⟩
      | ⟨2, _⟩ => exact ⟨Nat.zero_le _, by show (i 2).val < 0 + 512; omega⟩) hi))

/-! ## Rows and weights -/

/-- The keeps' product after the rows `n - 1, …, 0`. -/
def runFrom (tf : Fin 32 → FVec F S8x512 .f32 → FVec F S8x512 .f32) (Z : Fin 32 → FVec F S8x512 .f32) :
    (n : Nat) → n ≤ 32 → FVec F S8x512 .f32 → FVec F S8x512 .f32
  | 0, _, run => run
  | n + 1, h, run => runFrom tf Z n (Nat.le_of_succ_le h) (keepRow (tf ⟨n, h⟩ (Z ⟨n, h⟩)) run)
/-- The rows stored by the rows `n - 1, …, 0`. -/
def dFrom (tf : Fin 32 → FVec F S8x512 .f32 → FVec F S8x512 .f32) (Z : Fin 32 → FVec F S8x512 .f32) :
    (n : Nat) → n ≤ 32 → FVec F S8x512 .f32 → (Fin 32 → FVec F S8x512 .f32) → Fin 32 → FVec F S8x512 .f32
  | 0, _, run, D => D
  | n + 1, h, run, D => dFrom tf Z n (Nat.le_of_succ_le h) (keepRow (tf ⟨n, h⟩ (Z ⟨n, h⟩)) run) (Function.update D ⟨n, h⟩ (dRow (tf ⟨n, h⟩ (Z ⟨n, h⟩)) run))

theorem ok_rows (ld : Fin 32 → BProg F (Vec F S8x512 .f32)) (tf : Fin 32 → FVec F S8x512 .f32 → FVec F S8x512 .f32) (p : Fin 2)
    (Z : Fin 32 → FVec F S8x512 .f32) (s : St F) (hld : ∀ r D, Ok 𝒱 c B (ld r) { s with d := D } (Z r) { s with d := D })
    (n : Nat) (h : n ≤ 32) (run : FVec F S8x512 .f32) (D : Fin 2 → Fin 32 → FVec F S8x512 .f32) :
    Ok 𝒱 c B (rows B ld tf p n h run) { s with d := D } (runFrom tf Z n h run)
      { s with d := Function.update D p (dFrom tf Z n h run (D p)) } := by
  induction n generalizing run D with
  | zero => exact (Ok.pure run _).to rfl (by simp only [dFrom, Function.update_eq_self])
  | succ n ih =>
    refine Ok.bind (hld ⟨n, h⟩ D) (Ok.bind (ok_stD _ p ⟨n, h⟩ _) ((ih (Nat.le_of_succ_le h) _ _).to rfl ?_))
    simp only [Function.update_idem, Function.update_self, dFrom]

/-- The weights stored by the groups below `n`. -/
def tFrom (oc : FVec F S8x512 .f32) (D : Fin 32 → FVec F S8x512 .f32) : (n : Nat) → n ≤ 16 → (Fin 16 → FVec F S16x512 .bf16) → Fin 16 → FVec F S16x512 .bf16
  | 0, _, T => T
  | n + 1, h, T => Function.update (tFrom oc D n (Nat.le_of_succ_le h) T) ⟨n, h⟩
      (atTwo (shapeCast S1x8x512 (D ⟨2 * n, by omega⟩) shapeCasts_S8x512_S1x8x512 : FVec F S1x8x512 .f32)
        (shapeCast S1x8x512 (D ⟨2 * n + 1, by omega⟩) shapeCasts_S8x512_S1x8x512 : FVec F S1x8x512 .f32) oc)

theorem ok_atRows (p : Fin 2) (oc : FVec F S8x512 .f32) (s : St F) (n : Nat) (h : n ≤ 16) :
    Ok 𝒱 c B (atRows B p oc n h) s ⟨⟩ { s with t := Function.update s.t p (tFrom oc (s.d p) n h (s.t p)) } := by
  induction n with
  | zero => exact (Ok.pure _ _).to rfl (by simp only [tFrom, Function.update_eq_self])
  | succ n ih =>
    refine Ok.bind (ih _) (Ok.bind (ok_ldD _ p _) (Ok.bind (ok_ldD _ p _) ((ok_stT _ p ⟨n, h⟩ _).to rfl ?_)))
    simp only [Function.update_idem, Function.update_self, tFrom]

attribute [local irreducible] tFrom rows atRows

def St.setT (s : St F) (t : Fin 2 → Fin 16 → FVec F S16x512 .bf16) : St F := { s with t := t }
def St.setO (s : St F) (o : Fin 2 → Fin 2 → Fin 8 → FVec F S64x256 .bf16) : St F := { s with o := o }

theorem ok_finish (r0 r1 : FVec F S8x512 .f32) (cs : Two (FVec F S1x512 .f32)) (s : St F) :
    Ok 𝒱 c B (finish B r0 r1 cs) s (csOf r0 cs.1, csOf r1 cs.2) (s.setT
      ![tFrom (ocOf r0 cs.1) (s.d 0) 16 (Nat.le_refl _) (s.t 0), tFrom (ocOf r1 cs.2) (s.d 1) 16 (Nat.le_refl _) (s.t 1)]) := by
  refine Ok.to (Ok.bind (ok_atRows 0 _ s 16 (Nat.le_refl _)) (Ok.bind (ok_atRows 1 (ocOf r1 cs.2) _ 16 (Nat.le_refl _)) (Ok.pure (csOf r0 cs.1, csOf r1 cs.2) _))) rfl ?_
  unfold St.setT
  congr 1
  funext p
  match p with
  | 0 => simp [Function.update]
  | 1 => simp [Function.update]

theorem ok_scoreZ (b : Fin 2) (j : Fin 8) (p : Fin 2) (q : FVec F S128x512 .bf16) (s : St F) :
    Ok 𝒱 c B (scoreZ B b j p q) s ⟨⟩ { s with z := Function.update s.z b (Function.update (s.z b) p (zBlk (fun i => s.k ((rK p j).emb i)) q)) } :=
  Ok.bind (ok_ldK s p j) (ok_stZ s b p _)
theorem ok_scoreZd (j : Fin 8) (p : Fin 2) (q : FVec F S128x512 .bf16) (s : St F) :
    Ok 𝒱 c B (scoreZd B j p q) s ⟨⟩ { s with zd := Function.update s.zd p (zBlk (fun i => s.k ((rK p j).emb i)) q) } :=
  Ok.bind (ok_ldK s p j) (ok_stZd s p _)
/-- A pair's sums after one more key block. -/
def plus (c : FVec F S128x512 .f32) (v : Vec F S1x1x128x256 .bf16) (t : Fin 16 → FVec F S16x512 .bf16) : FVec F S128x512 .f32 :=
  pv (shapeCast S1x128x512 c shapeCasts_S128x512_S1x128x512 : FVec F S1x128x512 .f32) v
    (shapeCast S1x256x512 (allRows t) (by decide) : FVec F S1x256x512 .bf16)
theorem ok_addPv (j : Fin 8) (p : Fin 2) (s : St F) :
    Ok 𝒱 c B (addPv B j p) s ⟨⟩ { s with c := Function.update s.c p (plus (s.c p) (fun i => s.v ((rV p j).emb i)) (s.t p)) } :=
  Ok.bind (ok_ldC s p) (Ok.bind (ok_ldV s p j) (Ok.bind (ok_ldT s p) (ok_stC s p _)))

theorem ok_ldQs (qi : Fin 8) (s : St F) :
    Ok 𝒱 c B (ldQs B qi) s (qPair (fun j => s.q ((rQ 0 qi).emb j)), qPair (fun j => s.q ((rQ 1 qi).emb j))) s :=
  Ok.bind (ok_ldQ s 0 qi) (Ok.bind (ok_ldQ s 1 qi) (Ok.pure _ _))

theorem ok_out (qi : Fin 8) (p : Fin 2) (s : St F) :
    Ok 𝒱 c B (out B qi p) s ⟨⟩ (s.setO (Function.update s.o p fun h => Function.update (s.o p h) qi
      (![truncf .bf16 (extractStridedSlice S64x256 ![0, 0] (plus (s.c p) (fun i => s.v ((rV p 0).emb i)) (s.t p)) slices_S128x512_o0_0_S64x256) bitsLt_bf16_f32,
        truncf .bf16 (extractStridedSlice S64x256 ![64, 256] (plus (s.c p) (fun i => s.v ((rV p 0).emb i)) (s.t p)) slices_S128x512_o64_256_S64x256) bitsLt_bf16_f32] h))) := by
  refine (Ok.bind (ok_ldC s p) (Ok.bind (ok_ldV s p 0) (Ok.bind (ok_ldT s p) (Ok.bind (ok_stO _ p 0 qi _) (ok_stO _ p 1 qi _))))).to rfl ?_
  simp only [Function.update_idem, Function.update_self]
  unfold St.setO
  congr 2
  funext h
  fin_cases h <;> rfl

end Cert.Proof.Attn

end
-- ==== Proof.Attn.Cps.lean ====
/- The short program once more, each piece taking what comes after it. -/
module

public import proofs.«01_k».proof.Proof.Attn.Struct

@[expose] public section

noncomputable section

namespace Cert.Proof.Attn

open Idealize.ShloMosaic Idealize.SL.Sem
open Cert.KernelIdeal Cert.KernelIdeal.Facts₀ Cert.KernelIdeal.Facts

variable {F : FTy → Type} [FloatOps F] (B : Bufs) {α : Type}

def ldQK (p : Fin 2) (qi : Fin 8) (k : Vec F S1x128x256 .bf16 → BProg F α) : BProg F α :=
  .op (.load B.q (Rect.unit (s := S1x256x2048) ![0, 128 * p.val, 256 * qi.val] S1x128x256.size (inbQ p qi)).toLoadRect (View.loadsAt_vmem h_S1x128x256)) k
def ldKK (p : Fin 2) (j : Fin 8) (k : Vec F S1x1x256x128 .bf16 → BProg F α) : BProg F α :=
  .op (.load B.k (Rect.unit (s := S1x8x256x256) ![0, j.val, 0, 128 * p.val] S1x1x256x128.size (inbK p j)).toLoadRect (View.loadsAt_vmem h_S1x1x256x128)) k
def ldVK (p : Fin 2) (j : Fin 8) (k : Vec F S1x1x128x256 .bf16 → BProg F α) : BProg F α :=
  .op (.load B.v (Rect.unit (s := S1x8x256x256) ![0, j.val, 128 * p.val, 0] S1x1x128x256.size (inbV p j)).toLoadRect (View.loadsAt_vmem h_S1x1x128x256)) k
def stOK (p h : Fin 2) (qi : Fin 8) (w : FVec F S64x256 .bf16) (k : BProg F α) : BProg F α :=
  .op (.load B.o (Rect.unit (s := S1x256x2048) ![0, 128 * p.val + 64 * h.val, 256 * qi.val] S1x64x256.size (inbO p h qi)).toLoadRect (View.loadsAt_vmem h_S1x64x256)) fun _ =>
  .op (.store B.o (Rect.unit (s := S1x256x2048) ![0, 128 * p.val + 64 * h.val, 256 * qi.val] S1x64x256.size (inbO p h qi)) (shapeCast S1x64x256 w shapeCasts_S64x256_S1x64x256 : FVec F S1x64x256 .bf16) Finset.univ (View.stores_vmem h_S1x64x256 (B.ho.storeExact_slice rfl _ (packO p h qi)) (fun _ => rfl)) (.inl rfl)) fun _ => k
def stZK (b p : Fin 2) (w : FVec F S256x512 .f32) (k : BProg F α) : BProg F α :=
  .op (.load B.z (Rect.unit (s := S2x2x256x512) ![b.val, p.val, 0, 0] S1x1x256x512.size (inbZ b p)).toLoadRect (View.loadsAt_vmem h_S1x1x256x512)) fun _ =>
  .op (.store B.z (Rect.unit (s := S2x2x256x512) ![b.val, p.val, 0, 0] S1x1x256x512.size (inbZ b p)) (shapeCast S1x1x256x512 w shapeCasts_S256x512_S1x1x256x512 : FVec F S1x1x256x512 .f32) Finset.univ (View.stores_vmem_bits_univ h_S1x1x256x512 rfl) (.inl rfl)) fun _ => k
def ldZK (b p : Fin 2) (r : Fin 32) (k : Vec F S8x512 .f32 → BProg F α) : BProg F α :=
  .op (.load ((B.z.slice (Rect.unit (s := S2x2x256x512) ![b.val, p.val, 0, 0] S1x1x256x512.size (inbZ b p)) (fun _ => rfl)).squeeze S256x512 squeezes_S1x1x256x512_S256x512)
    (Rect.unit (s := S256x512) ![8 * r.val, 0] S8x512.size (inbR r)).toLoadRect (View.loadsAt_vmem h_S8x512)) k
def stZdK (p : Fin 2) (w : FVec F S256x512 .f32) (k : BProg F α) : BProg F α :=
  .op (.load B.zd (Rect.unit (s := S2x256x512) ![p.val, 0, 0] S1x256x512.size (inbB p)).toLoadRect (View.loadsAt_vmem h_S1x256x512)) fun _ =>
  .op (.store B.zd (Rect.unit (s := S2x256x512) ![p.val, 0, 0] S1x256x512.size (inbB p)) (shapeCast S1x256x512 w shapeCasts_S256x512_S1x256x512 : FVec F S1x256x512 .f32) Finset.univ (View.stores_vmem_bits_univ h_S1x256x512 rfl) (.inl rfl)) fun _ => k
def ldZdK (p : Fin 2) (r : Fin 32) (k : Vec F S8x512 .f32 → BProg F α) : BProg F α :=
  .op (.load ((B.zd.slice (Rect.unit (s := S2x256x512) ![p.val, 0, 0] S1x256x512.size (inbB p)) (fun _ => rfl)).squeeze S256x512 squeezes_S1x256x512_S256x512)
    (Rect.unit (s := S256x512) ![8 * r.val, 0] S8x512.size (inbR r)).toLoadRect (View.loadsAt_vmem h_S8x512)) k
def ldDK (p : Fin 2) (r : Fin 32) (k : Vec F S1x8x512 .f32 → BProg F α) : BProg F α :=
  .op (.load B.d (Rect.unit (s := S2x256x512) ![p.val, 8 * r.val, 0] S1x8x512.size (inbD p r)).toLoadRect (View.loadsAt_vmem h_S1x8x512)) k
def stDK (p : Fin 2) (r : Fin 32) (w : FVec F S8x512 .f32) (k : BProg F α) : BProg F α :=
  .op (.load B.d (Rect.unit (s := S2x256x512) ![p.val, 8 * r.val, 0] S1x8x512.size (inbD p r)).toLoadRect (View.loadsAt_vmem h_S1x8x512)) fun _ =>
  .op (.store B.d (Rect.unit (s := S2x256x512) ![p.val, 8 * r.val, 0] S1x8x512.size (inbD p r)) (shapeCast S1x8x512 w shapeCasts_S8x512_S1x8x512 : FVec F S1x8x512 .f32) Finset.univ (View.stores_vmem_bits_univ h_S1x8x512 rfl) (.inl rfl)) fun _ => k
def stTK (p : Fin 2) (u : Fin 16) (w : FVec F S16x512 .bf16) (k : BProg F α) : BProg F α :=
  .op (.load B.t (Rect.unit (s := S2x256x512) ![p.val, 16 * u.val, 0] S1x16x512.size (inbA p u)).toLoadRect (View.loadsAt_vmem h_S1x16x512)) fun _ =>
  .op (.store B.t (Rect.unit (s := S2x256x512) ![p.val, 16 * u.val, 0] S1x16x512.size (inbA p u)) (shapeCast S1x16x512 w shapeCasts_S16x512_S1x16x512 : FVec F S1x16x512 .bf16) Finset.univ (View.stores_vmem h_S1x16x512 (B.ht.storeExact_slice rfl _ (packA p u)) (fun _ => rfl)) (.inl rfl)) fun _ => k
def ldTK (p : Fin 2) (k : Vec F S1x256x512 .bf16 → BProg F α) : BProg F α :=
  .op (.load B.t (Rect.unit (s := S2x256x512) ![p.val, 0, 0] S1x256x512.size (inbB p)).toLoadRect (View.loadsAt_vmem h_S1x256x512)) k
def ldCK (p : Fin 2) (k : Vec F S1x128x512 .f32 → BProg F α) : BProg F α :=
  .op (.load B.c (Rect.unit (s := S2x128x512) ![p.val, 0, 0] S1x128x512.size (inbC p)).toLoadRect (View.loadsAt_vmem h_S1x128x512)) k
def stCK (p : Fin 2) (w : FVec F S128x512 .f32) (k : BProg F α) : BProg F α :=
  .op (.load B.c (Rect.unit (s := S2x128x512) ![p.val, 0, 0] S1x128x512.size (inbC p)).toLoadRect (View.loadsAt_vmem h_S1x128x512)) fun _ =>
  .op (.store B.c (Rect.unit (s := S2x128x512) ![p.val, 0, 0] S1x128x512.size (inbC p)) (shapeCast S1x128x512 w shapeCasts_S128x512_S1x128x512 : FVec F S1x128x512 .f32) Finset.univ (View.stores_vmem_bits_univ h_S1x128x512 rfl) (.inl rfl)) fun _ => k
def zeroCK (k : BProg F α) : BProg F α :=
  .op (.load B.c (Rect.unit (s := S2x128x512) ![0, 0, 0] S2x128x512.size inb_S2x128x512_S2x128x512_0_0_0).toLoadRect (View.loadsAt_vmem h_S2x128x512)) fun _ =>
  .op (.store B.c (Rect.unit (s := S2x128x512) ![0, 0, 0] S2x128x512.size inb_S2x128x512_S2x128x512_0_0_0) (shapeCast S2x128x512 (broadcast S2x128x512 (Scalar.ofBits .f32 0x00000000#32) : FVec F S2x128x512 .f32) shapeCasts_S2x128x512_S2x128x512 : FVec F S2x128x512 .f32) Finset.univ (View.stores_vmem_bits_univ h_S2x128x512 rfl) (.inl rfl)) fun _ => k

def rowsK (ld : Fin 32 → (Vec F S8x512 .f32 → BProg F α) → BProg F α) (tf : Fin 32 → FVec F S8x512 .f32 → FVec F S8x512 .f32) (p : Fin 2)
    (k : FVec F S8x512 .f32 → BProg F α) : (n : Nat) → n ≤ 32 → FVec F S8x512 .f32 → BProg F α
  | 0, _, run => k run
  | n + 1, h, run => ld ⟨n, h⟩ fun z => stDK B p ⟨n, h⟩ (dRow (tf ⟨n, h⟩ z) run)
      (rowsK ld tf p k n (Nat.le_of_succ_le h) (keepRow (tf ⟨n, h⟩ z) run))

def atRowsK (p : Fin 2) (oc : FVec F S8x512 .f32) : (n : Nat) → n ≤ 16 → BProg F α → BProg F α
  | 0, _, k => k
  | n + 1, h, k => atRowsK p oc n (Nat.le_of_succ_le h) (ldDK B p ⟨2 * n, by omega⟩ fun d0 => ldDK B p ⟨2 * n + 1, by omega⟩ fun d1 =>
      stTK B p ⟨n, h⟩ (atTwo d0 d1 oc) k)

def finishK (r0 r1 : FVec F S8x512 .f32) (cs : Two (FVec F S1x512 .f32)) (k : Two (FVec F S1x512 .f32) → BProg F α) : BProg F α :=
  atRowsK B 0 (ocOf r0 cs.1) 16 (Nat.le_refl _) <| atRowsK B 1 (ocOf r1 cs.2) 16 (Nat.le_refl _) <| k (csOf r0 cs.1, csOf r1 cs.2)
def scoreZK (b : Fin 2) (j : Fin 8) (p : Fin 2) (q : FVec F S128x512 .bf16) (k : BProg F α) : BProg F α :=
  ldKK B p j fun x => stZK B b p (zBlk x q) k
def scoreZdK (j : Fin 8) (p : Fin 2) (q : FVec F S128x512 .bf16) (k : BProg F α) : BProg F α :=
  ldKK B p j fun x => stZdK B p (zBlk x q) k
def addPvK (j : Fin 8) (p : Fin 2) (k : BProg F α) : BProg F α :=
  ldCK B p fun c => ldVK B p j fun v => ldTK B p fun t => stCK B p (pv c v t) k
def stepK (j : Nat) (hj : j + 1 < 8) (q : Two (FVec F S128x512 .bf16)) (cs : Two (FVec F S1x512 .f32))
    (k : Two (FVec F S1x512 .f32) → BProg F α) : BProg F α :=
  addPvK B ⟨j + 1, hj⟩ 0 <| addPvK B ⟨j + 1, hj⟩ 1 <|
  rowsK B (ldZK B (slot j) 0) tFull 0 (fun r0 => rowsK B (ldZK B (slot j) 1) tFull 1 (fun r1 =>
    scoreZK B (other j) ⟨j - 1, by omega⟩ 0 q.1 <| scoreZK B (other j) ⟨j - 1, by omega⟩ 1 q.2 <| finishK B r0 r1 cs k)
    32 (Nat.le_refl _) one8) 32 (Nat.le_refl _) one8
def stepsK (qi : Nat) (hq : qi < 8) (q : Two (FVec F S128x512 .bf16)) (cs : Two (FVec F S1x512 .f32)) :
    (n : Nat) → n ≤ qi → (Two (FVec F S1x512 .f32) → BProg F α) → BProg F α
  | 0, _, k => k cs
  | n + 1, h, k => stepsK qi hq q cs n (Nat.le_of_succ_le h) fun cs => stepK B (qi - 1 - n) (by omega) q cs k
def ldQsK (qi : Fin 8) (k : Two (FVec F S128x512 .bf16) → BProg F α) : BProg F α :=
  ldQK B 0 qi fun a => ldQK B 1 qi fun b => k (qPair a, qPair b)
def outK (qi : Fin 8) (p : Fin 2) (k : BProg F α) : BProg F α :=
  ldCK B p fun c => ldVK B p 0 fun v => ldTK B p fun t =>
  stOK B p 0 qi (truncf .bf16 (extractStridedSlice S64x256 ![0, 0] (pv c v t) slices_S128x512_o0_0_S64x256) bitsLt_bf16_f32) <|
  stOK B p 1 qi (truncf .bf16 (extractStridedSlice S64x256 ![64, 256] (pv c v t) slices_S128x512_o64_256_S64x256) bitsLt_bf16_f32) k
def diagRowsK (k : Two (FVec F S8x512 .f32) → BProg F α) : BProg F α :=
  zeroCK B <| rowsK B (ldZdK B 0) tDiag 0 (fun r0 => rowsK B (ldZdK B 1) tDiag 1 (fun r1 => k (r0, r1)) 32 (Nat.le_refl _) one8) 32 (Nat.le_refl _) one8
def firstZK : (qi : Nat) → qi < 8 → Two (FVec F S128x512 .bf16) → BProg F α → BProg F α
  | 0, _, _, k => k
  | j + 1, h, q, k => scoreZK B (other (j + 1)) ⟨j, by omega⟩ 0 q.1 <| scoreZK B (other (j + 1)) ⟨j, by omega⟩ 1 q.2 k
def nextZdK (qi : Nat) (h : qi + 1 < 8) (q' : Two (FVec F S128x512 .bf16)) (k : BProg F α) : BProg F α :=
  scoreZdK B ⟨qi + 1, h⟩ 0 q'.1 <| scoreZdK B ⟨qi + 1, h⟩ 1 q'.2 k
def tailK (qi : Nat) (h : qi < 8) (q : Two (FVec F S128x512 .bf16)) (r : Two (FVec F S8x512 .f32)) (k : BProg F α) : BProg F α :=
  finishK B r.1 r.2 (one1, one1) fun cs => stepsK B qi h q cs qi (Nat.le_refl _) fun _ => outK B ⟨qi, h⟩ 0 <| outK B ⟨qi, h⟩ 1 k
def queryK (qi : Nat) (h : qi + 1 < 8) (q : Two (FVec F S128x512 .bf16)) (k : Two (FVec F S128x512 .bf16) → BProg F α) : BProg F α :=
  ldQsK B ⟨qi + 1, h⟩ fun q' => diagRowsK B fun r => firstZK B qi (Nat.lt_of_succ_lt h) q <| nextZdK B qi h q' <|
    tailK B qi (Nat.lt_of_succ_lt h) q r <| k q'
def queriesK : (n : Nat) → n < 8 → (Two (FVec F S128x512 .bf16) → BProg F α) → BProg F α
  | 0, h, k => ldQsK B ⟨0, h⟩ fun q => scoreZdK B ⟨0, h⟩ 0 q.1 <| scoreZdK B ⟨0, h⟩ 1 q.2 <| k q
  | n + 1, h, k => queriesK n (Nat.lt_of_succ_lt h) fun q => queryK B n h q k
def bodyK : BProg F PUnit :=
  queriesK B 7 (by decide) fun q => diagRowsK B fun r => firstZK B 7 (by decide) q <| tailK B 7 (by decide) q r <| .ret ⟨⟩

end Cert.Proof.Attn

end
-- ==== Proof.Attn.CpsEq.lean ====
/- The two forms of the short program are equal. -/
module

public import proofs.«01_k».proof.Proof.Attn.Cps

@[expose] public section

noncomputable section

namespace Cert.Proof.Attn

open Idealize.ShloMosaic Idealize.SL.Sem
open Cert.KernelIdeal Cert.KernelIdeal.Facts₀ Cert.KernelIdeal.Facts

variable {F : FTy → Type} [FloatOps F] (B : Bufs) {α : Type}

theorem bassoc {β γ : Type} (p : BProg F α) (f : α → BProg F β) (g : β → BProg F γ) : (Prog.bind (Prog.bind p f) g : BProg F γ) = Prog.bind p fun x => Prog.bind (f x) g :=
  Prog.bind_assoc p f g

theorem bret (p : BProg F α) : Prog.bind p (fun x => .ret x) = p := Prog.bind_pure p

/-! ## The two forms -/

theorem rowsK_eq (ld : Fin 32 → BProg F (Vec F S8x512 .f32)) (ldK : Fin 32 → (Vec F S8x512 .f32 → BProg F α) → BProg F α)
    (hld : ∀ r k, (ld r).bind k = ldK r k) (tf) (p : Fin 2) (k : FVec F S8x512 .f32 → BProg F α) (n : Nat) (h : n ≤ 32) (run) :
    (rows B ld tf p n h run).bind k = rowsK B ldK tf p k n h run := by
  induction n generalizing run with
  | zero => rfl
  | succ n ih =>
    show ((ld ⟨n, h⟩).bind fun z => (stD B p ⟨n, h⟩ (dRow (tf ⟨n, h⟩ z) run)).bind fun _ => rows B ld tf p n _ (keepRow (tf ⟨n, h⟩ z) run)).bind k = _
    rw [bassoc, hld]
    show ldK _ _ = ldK _ _
    congr 1; funext z
    rw [bassoc]
    simp only [ih]
    rfl

theorem atRowsK_eq (p : Fin 2) (oc : FVec F S8x512 .f32) (n : Nat) (h : n ≤ 16) (k : PUnit → BProg F α) :
    (atRows B p oc n h).bind k = atRowsK B p oc n h (k ⟨⟩) := by
  induction n generalizing k with
  | zero => rfl
  | succ n ih =>
    show ((atRows B p oc n _).bind fun _ => _).bind k = _
    rw [bassoc, ih]
    rfl

attribute [local irreducible] atRows atRowsK rows rowsK

theorem finishK_eq (r0 r1 : FVec F S8x512 .f32) (cs : Two (FVec F S1x512 .f32)) (k : Two (FVec F S1x512 .f32) → BProg F α) :
    (finish B r0 r1 cs).bind k = finishK B r0 r1 cs k := by
  show ((atRows B 0 (ocOf r0 cs.1) 16 (Nat.le_refl _)).bind fun _ => (atRows B 1 (ocOf r1 cs.2) 16 (Nat.le_refl _)).bind fun _ => .ret (csOf r0 cs.1, csOf r1 cs.2)).bind k = _
  rw [bassoc, atRowsK_eq, bassoc, atRowsK_eq]
  rfl

attribute [local irreducible] finish finishK

theorem stepK_eq (j : Nat) (hj : j + 1 < 8) (q : Two (FVec F S128x512 .bf16)) (cs : Two (FVec F S1x512 .f32))
    (k : Two (FVec F S1x512 .f32) → BProg F α) : (step B j hj q cs).bind k = stepK B j hj q cs k := by
  show ((addPv B ⟨j + 1, hj⟩ 0).bind fun _ => (addPv B ⟨j + 1, hj⟩ 1).bind fun _ =>
    (rows B (ldZ B (slot j) 0) tFull 0 32 (Nat.le_refl _) one8).bind fun r0 =>
    (rows B (ldZ B (slot j) 1) tFull 1 32 (Nat.le_refl _) one8).bind fun r1 =>
    (scoreZ B (other j) ⟨j - 1, by omega⟩ 0 q.1).bind fun _ => (scoreZ B (other j) ⟨j - 1, by omega⟩ 1 q.2).bind fun _ => finish B r0 r1 cs).bind k = _
  simp only [bassoc]
  simp only [finishK_eq]
  simp only [rowsK_eq B (ldZ B (slot j) 0) (ldZK B (slot j) 0) (fun _ _ => rfl), rowsK_eq B (ldZ B (slot j) 1) (ldZK B (slot j) 1) (fun _ _ => rfl)]
  rfl

attribute [local irreducible] step stepK

theorem stepsK_eq (qi : Nat) (hq : qi < 8) (q : Two (FVec F S128x512 .bf16)) (cs : Two (FVec F S1x512 .f32)) (n : Nat) (h : n ≤ qi)
    (k : Two (FVec F S1x512 .f32) → BProg F α) : (steps B qi hq q cs n h).bind k = stepsK B qi hq q cs n h k := by
  induction n generalizing k with
  | zero => rfl
  | succ n ih =>
    show ((steps B qi hq q cs n _).bind fun cs => step B (qi - 1 - n) _ q cs).bind k = _
    rw [bassoc, ih]
    simp only [stepK_eq]
    rfl

attribute [local irreducible] steps stepsK

theorem diagRowsK_eq (k : Two (FVec F S8x512 .f32) → BProg F α) : (diagRows B).bind k = diagRowsK B k := by
  show ((zeroC B).bind fun _ => (rows B (ldZd B 0) tDiag 0 32 (Nat.le_refl _) one8).bind fun r0 =>
    (rows B (ldZd B 1) tDiag 1 32 (Nat.le_refl _) one8).bind fun r1 => .ret (r0, r1)).bind k = _
  simp only [bassoc]
  simp only [rowsK_eq B (ldZd B 0) (ldZdK B 0) (fun _ _ => rfl), rowsK_eq B (ldZd B 1) (ldZdK B 1) (fun _ _ => rfl)]
  rfl

attribute [local irreducible] diagRows diagRowsK

theorem firstZK_eq (qi : Nat) (h : qi < 8) (q : Two (FVec F S128x512 .bf16)) (k : PUnit → BProg F α) :
    (firstZ B qi h q).bind k = firstZK B qi h q (k ⟨⟩) := by
  cases qi <;> rfl

attribute [local irreducible] firstZ firstZK

theorem tailK_eq (qi : Nat) (h : qi < 8) (q : Two (FVec F S128x512 .bf16)) (r : Two (FVec F S8x512 .f32)) (k : PUnit → BProg F α) :
    (tail B qi h q r).bind k = tailK B qi h q r (k ⟨⟩) := by
  show ((finish B r.1 r.2 (one1, one1)).bind fun cs => (steps B qi h q cs qi (Nat.le_refl _)).bind fun _ =>
    (out B ⟨qi, h⟩ 0).bind fun _ => out B ⟨qi, h⟩ 1).bind k = _
  simp only [bassoc]
  simp only [finishK_eq, stepsK_eq]
  rfl

attribute [local irreducible] tail tailK

theorem queryK_eq (qi : Nat) (h : qi + 1 < 8) (q : Two (FVec F S128x512 .bf16)) (k : Two (FVec F S128x512 .bf16) → BProg F α) :
    (query B qi h q).bind k = queryK B qi h q k := by
  show ((ldQs B ⟨qi + 1, h⟩).bind fun q' => (diagRows B).bind fun r => (firstZ B qi (Nat.lt_of_succ_lt h) q).bind fun _ =>
    (nextZd B qi h q').bind fun _ => (tail B qi (Nat.lt_of_succ_lt h) q r).bind fun _ => .ret q').bind k = _
  simp only [bassoc]
  simp only [diagRowsK_eq, firstZK_eq, tailK_eq]
  rfl

attribute [local irreducible] query queryK

theorem queriesK_eq (n : Nat) (h : n < 8) (k : Two (FVec F S128x512 .bf16) → BProg F α) : (queries B n h).bind k = queriesK B n h k := by
  induction n generalizing k with
  | zero => rfl
  | succ n ih =>
    show ((queries B n _).bind fun q => query B n h q).bind k = _
    rw [bassoc, ih]
    simp only [queryK_eq]
    rfl

attribute [local irreducible] queries queriesK

theorem bodyK_eq : body (F := F) B = bodyK B := by
  show ((queries B 7 (by decide)).bind fun q => (diagRows B).bind fun r => (firstZ B 7 (by decide) q).bind fun _ => tail B 7 (by decide) q r) = _
  have e : ∀ (q : Two (FVec F S128x512 .bf16)) r, tail B 7 (by decide) q r = (tail B 7 (by decide) q r).bind fun x => .ret x := fun q r => (bret _).symm
  rw [queriesK_eq]
  unfold bodyK
  congr 1; funext q
  rw [diagRowsK_eq]
  congr 1; funext r
  rw [firstZK_eq, e q r, tailK_eq]

end Cert.Proof.Attn

end
-- ==== Proof.Attn.Model.lean ====
/- What the whole body computes: by query block and key block, as a recursion away from the diagonal; and the run of the
   short program to it. -/
module

public import proofs.«01_k».proof.Proof.Attn.Triples
public import proofs.«01_k».proof.Proof.Attn.CpsEq

@[expose] public section

noncomputable section

namespace Cert.Proof.Attn

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ (UR sig nD τ) ℕ

/-! ## The model -/

def blk (j : Nat) : Fin 8 := ⟨j % 8, Nat.mod_lt _ (by decide)⟩
def rr (m : Nat) : Fin 32 := ⟨31 - m, by omega⟩

/-- The product of the keeps of the `m` last row groups. -/
def above (tf : Fin 32 → FVec F S8x512 .f32 → FVec F S8x512 .f32) (Z : Fin 32 → FVec F S8x512 .f32) : Nat → FVec F S8x512 .f32
  | 0 => one8
  | m + 1 => keepRow (tf (rr m) (Z (rr m))) (above tf Z m)
def dAll (tf : Fin 32 → FVec F S8x512 .f32 → FVec F S8x512 .f32) (Z : Fin 32 → FVec F S8x512 .f32) (r : Fin 32) : FVec F S8x512 .f32 :=
  dRow (tf r (Z r)) (above tf Z (31 - r.val))
def tAll (oc : FVec F S8x512 .f32) (D : Fin 32 → FVec F S8x512 .f32) (u : Fin 16) : FVec F S16x512 .bf16 :=
  atTwo (shapeCast S1x8x512 (D ⟨2 * u.val, by omega⟩) shapeCasts_S8x512_S1x8x512 : FVec F S1x8x512 .f32)
    (shapeCast S1x8x512 (D ⟨2 * u.val + 1, by omega⟩) shapeCasts_S8x512_S1x8x512 : FVec F S1x8x512 .f32) oc

theorem runFrom_eq (tf Z) (n : Nat) (h : n ≤ 32) : runFrom (F := F) tf Z n h (above tf Z (32 - n)) = above tf Z 32 := by
  induction n with
  | zero => rfl
  | succ n ih =>
    have e : 32 - n = (32 - (n + 1)) + 1 := by omega
    have e' : rr (32 - (n + 1)) = ⟨n, h⟩ := Fin.ext (show 31 - (32 - (n + 1)) = n by omega)
    rw [← ih (Nat.le_of_succ_le h), e]
    show runFrom tf Z n _ _ = runFrom tf Z n _ (keepRow (tf (rr _) (Z (rr _))) _)
    rw [e']

theorem dFrom_eq (tf Z D) (n : Nat) (h : n ≤ 32) (r : Fin 32) :
    dFrom (F := F) tf Z n h (above tf Z (32 - n)) D r = bif r.val < n then dAll tf Z r else D r := by
  induction n generalizing D with
  | zero => rfl
  | succ n ih =>
    have e : 32 - n = (32 - (n + 1)) + 1 := by omega
    have e' : rr (32 - (n + 1)) = ⟨n, h⟩ := Fin.ext (show 31 - (32 - (n + 1)) = n by omega)
    have s : dFrom tf Z (n + 1) h (above tf Z (32 - (n + 1))) D = dFrom tf Z n (Nat.le_of_succ_le h) (above tf Z (32 - n))
        (Function.update D ⟨n, h⟩ (dRow (tf ⟨n, h⟩ (Z ⟨n, h⟩)) (above tf Z (32 - (n + 1))))) := by
      rw [e]
      show dFrom tf Z n _ _ _ = dFrom tf Z n _ (keepRow (tf (rr _) (Z (rr _))) _) _
      rw [e']
    rw [s, ih]
    by_cases h1 : r.val < n
    · rw [decide_eq_true h1, decide_eq_true (Nat.lt_succ_of_lt h1)]; rfl
    · rw [decide_eq_false h1]
      by_cases h2 : r = ⟨n, h⟩
      · subst h2
        rw [decide_eq_true (Nat.lt_succ_self n)]
        show Function.update _ _ _ _ = _
        rw [Function.update_self]
        have e2 : 32 - (n + 1) = 31 - n := by omega
        rw [e2]; rfl
      · have : ¬ r.val < n + 1 := fun h3 => h2 (Fin.ext (show r.val = n by omega))
        rw [decide_eq_false this]
        exact Function.update_of_ne h2 _ _

theorem tFrom_eq (oc D T) (n : Nat) (h : n ≤ 16) (u : Fin 16) : tFrom (F := F) oc D n h T u = bif u.val < n then tAll oc D u else T u := by
  induction n with
  | zero => rfl
  | succ n ih =>
    show Function.update (tFrom oc D n _ T) ⟨n, h⟩ _ u = _
    by_cases h2 : u = ⟨n, h⟩
    · subst h2
      rw [decide_eq_true (Nat.lt_succ_self n), Function.update_self]
      rfl
    · rw [Function.update_of_ne h2, ih]
      have e : decide (u.val < n) = decide (u.val < n + 1) := decide_eq_decide.mpr
        ⟨Nat.lt_succ_of_lt, fun h3 => Nat.lt_of_le_of_ne (Nat.le_of_lt_succ h3) fun h4 => h2 (Fin.ext h4)⟩
      rw [e]

theorem runFrom_all (tf Z) : runFrom (F := F) tf Z 32 (Nat.le_refl _) one8 = above tf Z 32 := runFrom_eq tf Z 32 _
theorem dFrom_all (tf Z D) : dFrom (F := F) tf Z 32 (Nat.le_refl _) one8 D = dAll tf Z := by
  funext r
  refine (dFrom_eq tf Z D 32 _ r).trans ?_
  rw [decide_eq_true r.isLt]; rfl
theorem tFrom_all (oc D T) : tFrom (F := F) oc D 16 (Nat.le_refl _) T = tAll oc D := by
  funext r
  refine (tFrom_eq oc D T 16 _ r).trans ?_
  rw [decide_eq_true r.isLt]; rfl

section
variable (q : Vec F S1x256x2048 .bf16) (k v : Vec F S1x8x256x256 .bf16)

def tm : Nat → Fin 32 → FVec F S8x512 .f32 → FVec F S8x512 .f32
  | 0 => tDiag
  | _ + 1 => tFull
/-- The queries of block `i`. -/
def Qv (p : Fin 2) (i : Nat) : FVec F S128x512 .bf16 := qPair fun x => q ((rQ p (blk i)).emb x)
/-- The scores of query block `i` against key block `j`. -/
def Zb (p : Fin 2) (i j : Nat) : FVec F S256x512 .f32 := zBlk (fun x => k ((rK p (blk j)).emb x)) (Qv q p i)
def Zr (p : Fin 2) (i n : Nat) : Fin 32 → FVec F S8x512 .f32 := rowAt (Zb q k p i (i - n))
def Keep (p : Fin 2) (i n : Nat) : FVec F S8x512 .f32 := above (tm n) (Zr q k p i n) 32
def Cs (p : Fin 2) (i : Nat) : Nat → FVec F S1x512 .f32
  | 0 => one1
  | n + 1 => csOf (Keep q k p i n) (Cs p i n)
def Tw (p : Fin 2) (i n : Nat) : Fin 16 → FVec F S16x512 .bf16 :=
  tAll (ocOf (Keep q k p i n) (Cs q k p i n)) (dAll (tm n) (Zr q k p i n))
def Acc (p : Fin 2) (i : Nat) : Nat → FVec F S128x512 .f32
  | 0 => zero128
  | n + 1 => plus (Acc p i n) (fun x => v ((rV p (blk (i - n))).emb x)) (Tw q k p i n)
def Out (p h : Fin 2) (i : Nat) : FVec F S64x256 .bf16 :=
  ![truncf .bf16 (extractStridedSlice S64x256 ![0, 0] (Acc q k v p i (i + 1)) slices_S128x512_o0_0_S64x256) bitsLt_bf16_f32,
    truncf .bf16 (extractStridedSlice S64x256 ![64, 256] (Acc q k v p i (i + 1)) slices_S128x512_o64_256_S64x256) bitsLt_bf16_f32] h
end

/-! ## The run -/

variable {𝒱 : Variants} {c : Dev nD} {B : Bufs}

theorem upd01 {β : Type} (f : Fin 2 → β) (a b : β) : Function.update (Function.update f 0 a) 1 b = ![a, b] := by
  funext p
  match p with
  | 0 => rfl
  | 1 => rfl
theorem upd0_1 {β : Type} (f : Fin 2 → β) (a : β) : Function.update f 0 a 1 = f 1 := rfl

attribute [local irreducible] tFrom runFrom dFrom rows finish

theorem ok_rowsZ (b p : Fin 2) (s : St F) : Ok 𝒱 c B (rows B (ldZ B b p) tFull p 32 (Nat.le_refl _) one8) s
    (above tFull (rowAt (s.z b p)) 32) { s with d := Function.update s.d p (dAll tFull (rowAt (s.z b p))) } := by
  have h := ok_rows (𝒱 := 𝒱) (c := c) (B := B) (ldZ B b p) tFull p (rowAt (s.z b p)) s (fun r D => ok_ldZ { s with d := D } b p r) 32 (Nat.le_refl _) one8 s.d
  rw [runFrom_all, dFrom_all] at h
  exact h
theorem ok_rowsZd (p : Fin 2) (s : St F) : Ok 𝒱 c B (rows B (ldZd B p) tDiag p 32 (Nat.le_refl _) one8) s
    (above tDiag (rowAt (s.zd p)) 32) { s with d := Function.update s.d p (dAll tDiag (rowAt (s.zd p))) } := by
  have h := ok_rows (𝒱 := 𝒱) (c := c) (B := B) (ldZd B p) tDiag p (rowAt (s.zd p)) s (fun r D => ok_ldZd { s with d := D } p r) 32 (Nat.le_refl _) one8 s.d
  rw [runFrom_all, dFrom_all] at h
  exact h
theorem ok_finish' (r0 r1 : FVec F S8x512 .f32) (cs : Two (FVec F S1x512 .f32)) (s : St F) :
    Ok 𝒱 c B (finish B r0 r1 cs) s (csOf r0 cs.1, csOf r1 cs.2) (s.setT ![tAll (ocOf r0 cs.1) (s.d 0), tAll (ocOf r1 cs.2) (s.d 1)]) := by
  have h := ok_finish (𝒱 := 𝒱) (c := c) (B := B) r0 r1 cs s
  rw [tFrom_all, tFrom_all] at h
  exact h

attribute [local irreducible] above dAll tAll

/-- Both pairs' scores of a key block. -/
theorem ok_scoreZ2 {α : Type} (b : Fin 2) (j : Fin 8) (q : Two (FVec F S128x512 .bf16)) (s s' : St F) (k : BProg F α) (a : α)
    (h : Ok 𝒱 c B k { s with z := Function.update s.z b ![zBlk (fun i => s.k ((rK 0 j).emb i)) q.1, zBlk (fun i => s.k ((rK 1 j).emb i)) q.2] } a s') :
    Ok 𝒱 c B (do scoreZ B b j 0 q.1; scoreZ B b j 1 q.2; k) s a s' := by
  refine Ok.bind (ok_scoreZ b j 0 q.1 s) (Ok.bind (ok_scoreZ b j 1 q.2 _) ?_)
  simp only [Function.update_idem, Function.update_self, upd01]
  exact h
theorem ok_scoreZd2 (j : Fin 8) (q : Two (FVec F S128x512 .bf16)) (s : St F) :
    Ok 𝒱 c B (do scoreZd B j 0 q.1; scoreZd B j 1 q.2) s ⟨⟩
      { s with zd := ![zBlk (fun i => s.k ((rK 0 j).emb i)) q.1, zBlk (fun i => s.k ((rK 1 j).emb i)) q.2] } := by
  refine (Ok.bind (ok_scoreZd j 0 q.1 s) (ok_scoreZd j 1 q.2 _)).to rfl ?_
  simp only [upd01]
theorem ok_rows2 {α : Type} (b : Fin 2) (s s' : St F) (k : Two (FVec F S8x512 .f32) → BProg F α) (a : α)
    (h : Ok 𝒱 c B (k (above tFull (rowAt (s.z b 0)) 32, above tFull (rowAt (s.z b 1)) 32))
      { s with d := ![dAll tFull (rowAt (s.z b 0)), dAll tFull (rowAt (s.z b 1))] } a s') :
    Ok 𝒱 c B (do
      let r0 ← rows B (ldZ B b 0) tFull 0 32 (Nat.le_refl _) one8
      let r1 ← rows B (ldZ B b 1) tFull 1 32 (Nat.le_refl _) one8
      k (r0, r1)) s a s' := by
  refine Ok.bind (ok_rowsZ b 0 s) (Ok.bind (ok_rowsZ b 1 _) ?_)
  simp only [upd01]
  exact h
theorem ok_addPv2 {α : Type} (j : Fin 8) (s s' : St F) (k : BProg F α) (a : α)
    (h : Ok 𝒱 c B k { s with c := ![plus (s.c 0) (fun i => s.v ((rV 0 j).emb i)) (s.t 0), plus (s.c 1) (fun i => s.v ((rV 1 j).emb i)) (s.t 1)] } a s') :
    Ok 𝒱 c B (do addPv B j 0; addPv B j 1; k) s a s' := by
  refine Ok.bind (ok_addPv j 0 s) (Ok.bind (ok_addPv j 1 _) ?_)
  simp only [upd01, upd0_1]
  exact h

/-- What a key block below the diagonal does. -/
def St.next (s : St F) (j : Nat) (hj : j + 1 < 8) (q : Two (FVec F S128x512 .bf16)) (cs : Two (FVec F S1x512 .f32)) : St F :=
  { s with
    c := ![plus (s.c 0) (fun i => s.v ((rV 0 ⟨j + 1, hj⟩).emb i)) (s.t 0), plus (s.c 1) (fun i => s.v ((rV 1 ⟨j + 1, hj⟩).emb i)) (s.t 1)]
    d := ![dAll tFull (rowAt (s.z (slot j) 0)), dAll tFull (rowAt (s.z (slot j) 1))]
    z := Function.update s.z (other j) ![zBlk (fun i => s.k ((rK 0 ⟨j - 1, by omega⟩).emb i)) q.1, zBlk (fun i => s.k ((rK 1 ⟨j - 1, by omega⟩).emb i)) q.2]
    t := ![tAll (ocOf (above tFull (rowAt (s.z (slot j) 0)) 32) cs.1) (dAll tFull (rowAt (s.z (slot j) 0))),
      tAll (ocOf (above tFull (rowAt (s.z (slot j) 1)) 32) cs.2) (dAll tFull (rowAt (s.z (slot j) 1)))] }

theorem ok_step (j : Nat) (hj : j + 1 < 8) (q : Two (FVec F S128x512 .bf16)) (cs : Two (FVec F S1x512 .f32)) (s : St F) :
    Ok 𝒱 c B (step B j hj q cs) s
      (csOf (above tFull (rowAt (s.z (slot j) 0)) 32) cs.1, csOf (above tFull (rowAt (s.z (slot j) 1)) 32) cs.2) (s.next j hj q cs) := by
  unfold step
  refine ok_addPv2 _ _ _ _ _ ?_
  refine ok_rows2 (slot j) _ _ (fun r => do
    scoreZ B (other j) ⟨j - 1, by omega⟩ 0 q.1
    scoreZ B (other j) ⟨j - 1, by omega⟩ 1 q.2
    finish B r.1 r.2 cs) _ ?_
  refine ok_scoreZ2 _ _ _ _ _ _ _ ?_
  exact (ok_finish' _ _ cs _).to rfl rfl

attribute [local irreducible] step

section
variable (q : Vec F S1x256x2048 .bf16) (k v : Vec F S1x8x256x256 .bf16)

/-- The inputs are as given, and the outputs of the query blocks below `i`. -/
structure Base (i : Nat) (s : St F) : Prop where
  hq : s.q = q
  hk : s.k = k
  hv : s.v = v
  ho : ∀ i' : Fin 8, i'.val < i → ∀ p h, s.o p h i' = Out q k v p h i'.val
/-- `n + 1` key blocks of query block `i` have their weights, `n` of them their shares. -/
structure Mid (i n : Nat) (s : St F) : Prop where
  c : ∀ p, s.c p = Acc q k v p i n
  t : ∀ p, s.t p = Tw q k p i n
  z : n < i → ∀ p, s.z (slot (i - 1 - n)) p = Zb q k p i (i - 1 - n)

variable {q k v}

theorem blk_of (j : Nat) (h : j < 8) : (⟨j, h⟩ : Fin 8) = blk j := Fin.ext (Nat.mod_eq_of_lt h).symm
theorem other_eq (j : Nat) (h : 0 < j) : other j = slot (j - 1) := Fin.ext (show 1 - j % 2 = (j - 1) % 2 by omega)

theorem ok_steps (i : Nat) (hi : i < 8) (s : St F) (hb : Base q k v i s) (hm : Mid q k v i 0 s) (n : Nat) (h : n ≤ i) :
    ∃ s', Ok 𝒱 c B (steps B i hi (Qv q 0 i, Qv q 1 i) (Cs q k 0 i 1, Cs q k 1 i 1) n h) s (Cs q k 0 i (n + 1), Cs q k 1 i (n + 1)) s' ∧
      Base q k v i s' ∧ Mid q k v i n s' ∧ s'.zd = s.zd := by
  induction n with
  | zero => exact ⟨s, Ok.pure _ _, hb, hm, rfl⟩
  | succ n ih =>
    obtain ⟨s1, h1, b1, m1, e1⟩ := ih (Nat.le_of_succ_le h)
    have hn : n < i := h
    have hj : i - 1 - n + 1 < 8 := by omega
    have hz := m1.z hn
    have ez : ∀ p, rowAt (s1.z (slot (i - 1 - n)) p) = Zr q k p i (n + 1) := fun p => by
      rw [hz p]; unfold Zr; congr 2; omega
    have e0 : (csOf (above tFull (rowAt (s1.z (slot (i - 1 - n)) 0)) 32) (Cs q k 0 i (n + 1)), csOf (above tFull (rowAt (s1.z (slot (i - 1 - n)) 1)) 32) (Cs q k 1 i (n + 1)))
        = (Cs q k 0 i (n + 1 + 1), Cs q k 1 i (n + 1 + 1)) := by
      rw [ez, ez]; rfl
    refine ⟨s1.next (i - 1 - n) hj (Qv q 0 i, Qv q 1 i) (Cs q k 0 i (n + 1), Cs q k 1 i (n + 1)), Ok.bind h1 ((ok_step _ hj _ _ s1).to e0 rfl),
      ⟨b1.hq, b1.hk, b1.hv, b1.ho⟩, ⟨?_, ?_, ?_⟩, e1⟩
    · have e : ∀ p, plus (s1.c p) (fun x => s1.v ((rV p ⟨i - 1 - n + 1, hj⟩).emb x)) (s1.t p) = Acc q k v p i (n + 1) := fun p => by
        have : (⟨i - 1 - n + 1, hj⟩ : Fin 8) = blk (i - n) := by rw [blk_of]; congr 1; omega
        rw [m1.c p, m1.t p, b1.hv, this]; rfl
      intro p
      match p with
      | 0 => exact e 0
      | 1 => exact e 1
    · have e : ∀ p, tAll (ocOf (above tFull (rowAt (s1.z (slot (i - 1 - n)) p)) 32) (Cs q k p i (n + 1))) (dAll tFull (rowAt (s1.z (slot (i - 1 - n)) p))) = Tw q k p i (n + 1) := fun p => by
        rw [ez p]; rfl
      intro p
      match p with
      | 0 => exact e 0
      | 1 => exact e 1
    · intro h2
      have e : ∀ p, zBlk (fun x => s1.k ((rK p ⟨i - 1 - n - 1, by omega⟩).emb x)) (Qv q p i) = Zb q k p i (i - 1 - (n + 1)) := fun p => by
        rw [b1.hk, blk_of]; rfl
      have eo : other (i - 1 - n) = slot (i - 1 - (n + 1)) := by rw [other_eq _ (by omega)]; congr 1
      intro p
      show Function.update s1.z (other (i - 1 - n)) _ _ p = _
      rw [eo, Function.update_self]
      match p with
      | 0 => exact e 0
      | 1 => exact e 1

theorem ok_tail (i : Nat) (hi : i < 8) (s : St F) (hb : Base q k v i s) (hd : ∀ p, s.d p = dAll tDiag (Zr q k p i 0)) (hc : ∀ p, s.c p = zero128)
    (hz : 0 < i → ∀ p, s.z (slot (i - 1)) p = Zb q k p i (i - 1)) :
    ∃ s', Ok 𝒱 c B (tail B i hi (Qv q 0 i, Qv q 1 i) (Keep q k 0 i 0, Keep q k 1 i 0)) s ⟨⟩ s' ∧ Base q k v (i + 1) s' ∧ s'.zd = s.zd := by
  have hf := ok_finish' (𝒱 := 𝒱) (c := c) (B := B) (Keep q k 0 i 0) (Keep q k 1 i 0) (one1, one1) s
  have em : Mid q k v i 0 (s.setT ![tAll (ocOf (Keep q k 0 i 0) one1) (s.d 0), tAll (ocOf (Keep q k 1 i 0) one1) (s.d 1)]) := by
    refine ⟨hc, fun p => ?_, hz⟩
    match p with
    | 0 => show tAll _ (s.d 0) = _; rw [hd 0]; rfl
    | 1 => show tAll _ (s.d 1) = _; rw [hd 1]; rfl
  obtain ⟨s1, h1, b1, m1, e1⟩ := ok_steps (𝒱 := 𝒱) (c := c) (B := B) i hi
    (s.setT ![tAll (ocOf (Keep q k 0 i 0) one1) (s.d 0), tAll (ocOf (Keep q k 1 i 0) one1) (s.d 1)]) ⟨hb.hq, hb.hk, hb.hv, hb.ho⟩ em i (Nat.le_refl _)
  refine ⟨_, Ok.bind hf (Ok.bind h1 (Ok.bind (ok_out ⟨i, hi⟩ 0 s1) (ok_out ⟨i, hi⟩ 1 _))), ⟨b1.hq, b1.hk, b1.hv, ?_⟩, e1⟩
  have ea : ∀ p, plus (s1.c p) (fun x => s1.v ((rV p 0).emb x)) (s1.t p) = Acc q k v p i (i + 1) := fun p => by
    have : (0 : Fin 8) = blk (i - i) := by rw [Nat.sub_self]; rfl
    rw [m1.c p, m1.t p, b1.hv, this]; rfl
  intro i' h' p h
  show Function.update (Function.update s1.o 0 _) 1 _ p h i' = _
  have key : ∀ (p : Fin 2) (h : Fin 2), Function.update (s1.o p h) ⟨i, hi⟩
      (![truncf .bf16 (extractStridedSlice S64x256 ![0, 0] (plus (s1.c p) (fun x => s1.v ((rV p 0).emb x)) (s1.t p)) slices_S128x512_o0_0_S64x256) bitsLt_bf16_f32,
        truncf .bf16 (extractStridedSlice S64x256 ![64, 256] (plus (s1.c p) (fun x => s1.v ((rV p 0).emb x)) (s1.t p)) slices_S128x512_o64_256_S64x256) bitsLt_bf16_f32] h) i'
      = Out q k v p h i'.val := by
    intro p h
    by_cases e : i' = ⟨i, hi⟩
    · subst e; rw [Function.update_self, ea p]; rfl
    · rw [Function.update_of_ne e]
      exact b1.ho i' (Nat.lt_of_le_of_ne (Nat.le_of_lt_succ h') fun e' => e (Fin.ext e')) p h
  match p with
  | 0 => exact key 0 h
  | 1 => exact key 1 h

attribute [local irreducible] tail

theorem ok_diag {α : Type} (i : Nat) (s s' : St F) (hzd : ∀ p, s.zd p = Zb q k p i i) (kk : Two (FVec F S8x512 .f32) → BProg F α) (a : α)
    (h : Ok 𝒱 c B (kk (Keep q k 0 i 0, Keep q k 1 i 0)) { s with c := fun _ => zero128, d := ![dAll tDiag (Zr q k 0 i 0), dAll tDiag (Zr q k 1 i 0)] } a s') :
    Ok 𝒱 c B (diagRows B >>= kk) s a s' := by
  have ez : ∀ p, rowAt (s.zd p) = Zr q k p i 0 := fun p => by rw [hzd p]; rfl
  refine Ok.bind (a := (Keep q k 0 i 0, Keep q k 1 i 0)) (s' := { s with c := fun _ => zero128, d := ![dAll tDiag (Zr q k 0 i 0), dAll tDiag (Zr q k 1 i 0)] }) ?_ h
  refine Ok.bind (ok_zeroC s) (Ok.bind (ok_rowsZd 0 _) (Ok.bind (ok_rowsZd 1 _) ((Ok.pure _ _).to ?_ ?_)))
  · show (above tDiag (rowAt (s.zd 0)) 32, above tDiag (rowAt (s.zd 1)) 32) = _
    rw [ez, ez]; rfl
  · simp only [upd01, ez]

theorem ok_firstZ (i : Nat) (hi : i < 8) (s : St F) (hk : s.k = k) :
    ∃ z, (0 < i → ∀ p, z (slot (i - 1)) p = Zb q k p i (i - 1)) ∧ Ok 𝒱 c B (firstZ B i hi (Qv q 0 i, Qv q 1 i)) s ⟨⟩ { s with z := z } := by
  cases i with
  | zero => exact ⟨s.z, fun h => absurd h (by decide), Ok.pure _ _⟩
  | succ j =>
    have eo : other (j + 1) = slot (j + 1 - 1) := other_eq _ (Nat.succ_pos _)
    refine ⟨Function.update s.z (other (j + 1)) ![zBlk (fun x => s.k ((rK 0 ⟨j, by omega⟩).emb x)) (Qv q 0 (j + 1)), zBlk (fun x => s.k ((rK 1 ⟨j, by omega⟩).emb x)) (Qv q 1 (j + 1))], ?_, ?_⟩
    · intro _ p
      have e : ∀ p, zBlk (fun x => s.k ((rK p ⟨j, by omega⟩).emb x)) (Qv q p (j + 1)) = Zb q k p (j + 1) (j + 1 - 1) := fun p => by
        rw [hk, blk_of]; rfl
      rw [eo, Function.update_self]
      match p with
      | 0 => exact e 0
      | 1 => exact e 1
    · refine (Ok.bind (ok_scoreZ (other (j + 1)) ⟨j, by omega⟩ 0 (Qv q 0 (j + 1)) s) (ok_scoreZ (other (j + 1)) ⟨j, by omega⟩ 1 (Qv q 1 (j + 1)) _)).to rfl ?_
      simp only [Function.update_idem, Function.update_self, upd01]

attribute [local irreducible] firstZ diagRows

theorem two_at {β : Type} {a b : β} {f : Fin 2 → β} (h0 : a = f 0) (h1 : b = f 1) (p : Fin 2) : ![a, b] p = f p := by
  match p with
  | 0 => exact h0
  | 1 => exact h1

theorem ok_query (i : Nat) (hi : i + 1 < 8) (s : St F) (hb : Base q k v i s) (hzd : ∀ p, s.zd p = Zb q k p i i) :
    ∃ s', Ok 𝒱 c B (query B i hi (Qv q 0 i, Qv q 1 i)) s (Qv q 0 (i + 1), Qv q 1 (i + 1)) s' ∧ Base q k v (i + 1) s' ∧
      ∀ p, s'.zd p = Zb q k p (i + 1) (i + 1) := by
  have eq : ∀ p, qPair (fun x => s.q ((rQ p ⟨i + 1, hi⟩).emb x)) = Qv q p (i + 1) := fun p => by rw [hb.hq, blk_of]; rfl
  obtain ⟨z, hz, h1⟩ := ok_firstZ (𝒱 := 𝒱) (c := c) (B := B) (q := q) (k := k) i (Nat.lt_of_succ_lt hi)
    { s with c := fun _ => zero128, d := ![dAll tDiag (Zr q k 0 i 0), dAll tDiag (Zr q k 1 i 0)] } hb.hk
  have h2 := ok_scoreZd2 (𝒱 := 𝒱) (c := c) (B := B) ⟨i + 1, hi⟩ (Qv q 0 (i + 1), Qv q 1 (i + 1))
    { s with c := fun _ => zero128, d := ![dAll tDiag (Zr q k 0 i 0), dAll tDiag (Zr q k 1 i 0)], z := z }
  have e : ∀ p, zBlk (fun x => s.k ((rK p ⟨i + 1, hi⟩).emb x)) (Qv q p (i + 1)) = Zb q k p (i + 1) (i + 1) := fun p => by
    rw [hb.hk, blk_of]; rfl
  obtain ⟨s', h3, b3, e3⟩ := ok_tail (𝒱 := 𝒱) (c := c) (B := B) (q := q) (k := k) (v := v) i (Nat.lt_of_succ_lt hi)
    { s with c := fun _ => zero128, d := ![dAll tDiag (Zr q k 0 i 0), dAll tDiag (Zr q k 1 i 0)], z := z, zd := ![zBlk (fun x => s.k ((rK 0 ⟨i + 1, hi⟩).emb x)) (Qv q 0 (i + 1)), zBlk (fun x => s.k ((rK 1 ⟨i + 1, hi⟩).emb x)) (Qv q 1 (i + 1))] }
    ⟨hb.hq, hb.hk, hb.hv, hb.ho⟩ (two_at rfl rfl) (fun _ => rfl) hz
  refine ⟨s', ?_, b3, ?_⟩
  · refine Ok.bind ((ok_ldQs ⟨i + 1, hi⟩ s).to (by rw [eq, eq]) rfl) ?_
    exact ok_diag i s s' hzd _ _ (Ok.bind h1 (Ok.bind h2 (Ok.bind h3 (Ok.pure _ _))))
  · rw [e3]
    exact two_at (f := fun p => Zb q k p (i + 1) (i + 1)) (e 0) (e 1)

attribute [local irreducible] query

theorem ok_queries (n : Nat) (h : n < 8) (s : St F) (hb : Base q k v 0 s) :
    ∃ s', Ok 𝒱 c B (queries B n h) s (Qv q 0 n, Qv q 1 n) s' ∧ Base q k v n s' ∧ ∀ p, s'.zd p = Zb q k p n n := by
  induction n with
  | zero =>
    have eq : ∀ p, qPair (fun x => s.q ((rQ p ⟨0, h⟩).emb x)) = Qv q p 0 := fun p => by rw [hb.hq, blk_of]; rfl
    have e : ∀ p, zBlk (fun x => s.k ((rK p ⟨0, h⟩).emb x)) (Qv q p 0) = Zb q k p 0 0 := fun p => by rw [hb.hk, blk_of]; rfl
    have h1 : Ok 𝒱 c B (ldQs B ⟨0, h⟩) s (Qv q 0 0, Qv q 1 0) s := (ok_ldQs ⟨0, h⟩ s).to (by rw [eq, eq]) rfl
    have h2 : Ok 𝒱 c B (do scoreZd B ⟨0, h⟩ 0 (Qv q 0 0); scoreZd B ⟨0, h⟩ 1 (Qv q 1 0); pure (Qv q 0 0, Qv q 1 0)) s (Qv q 0 0, Qv q 1 0)
        { s with zd := Function.update (Function.update s.zd 0 (zBlk (fun x => s.k ((rK 0 ⟨0, h⟩).emb x)) (Qv q 0 0))) 1 (zBlk (fun x => s.k ((rK 1 ⟨0, h⟩).emb x)) (Qv q 1 0)) } :=
      Ok.bind (ok_scoreZd ⟨0, h⟩ 0 (Qv q 0 0) s) (Ok.bind (ok_scoreZd ⟨0, h⟩ 1 (Qv q 1 0) _) (Ok.pure (Qv q 0 0, Qv q 1 0) _))
    refine ⟨_, Ok.bind h1 h2, ⟨hb.hq, hb.hk, hb.hv, hb.ho⟩, fun p => ?_⟩
    rw [upd01]
    exact two_at (f := fun p => Zb q k p 0 0) (e 0) (e 1) p
  | succ n ih =>
    obtain ⟨s1, h1, b1, z1⟩ := ih (Nat.lt_of_succ_lt h)
    obtain ⟨s2, h2, b2, z2⟩ := ok_query (𝒱 := 𝒱) (c := c) (B := B) n h s1 b1 z1
    exact ⟨s2, Ok.bind h1 h2, b2, z2⟩

attribute [local irreducible] queries

/-- The body leaves in the output buffer the outputs of all eight query blocks, and the inputs as they were. -/
theorem ok_body (s : St F) : ∃ s', Ok 𝒱 c B (body B) s ⟨⟩ s' ∧ s'.q = s.q ∧ s'.k = s.k ∧ s'.v = s.v ∧
    s'.o = fun p h i => Out s.q s.k s.v p h i.val := by
  obtain ⟨s1, h1, b1, z1⟩ := ok_queries (𝒱 := 𝒱) (c := c) (B := B) (q := s.q) (k := s.k) (v := s.v) 7 (by decide) s
    ⟨rfl, rfl, rfl, fun i h => absurd h (Nat.not_lt_zero _)⟩
  obtain ⟨z, hz, h2⟩ := ok_firstZ (𝒱 := 𝒱) (c := c) (B := B) (q := s.q) (k := s.k) 7 (by decide)
    { s1 with c := fun _ => zero128, d := ![dAll tDiag (Zr s.q s.k 0 7 0), dAll tDiag (Zr s.q s.k 1 7 0)] } b1.hk
  obtain ⟨s', h3, b3, e3⟩ := ok_tail (𝒱 := 𝒱) (c := c) (B := B) (q := s.q) (k := s.k) (v := s.v) 7 (by decide)
    { s1 with c := fun _ => zero128, d := ![dAll tDiag (Zr s.q s.k 0 7 0), dAll tDiag (Zr s.q s.k 1 7 0)], z := z }
    ⟨b1.hq, b1.hk, b1.hv, b1.ho⟩ (two_at rfl rfl) (fun _ => rfl) hz
  refine ⟨s', Ok.bind h1 (ok_diag 7 s1 s' z1 _ _ (Ok.bind h2 h3)), b3.hq, b3.hk, b3.hv, ?_⟩
  funext p h i
  exact b3.ho i i.isLt p h

end

end Cert.Proof.Attn

end
-- ==== Proof.Attn.Trips.lean ====
/- The printed attention body is the short program. -/
module

public import proofs.«01_k».proof.Proof.Attn.Cps
public import Idealize.ShloMosaic.Lib.Scf

@[expose] public section

noncomputable section

namespace Cert.Proof.Attn

open Idealize.ShloMosaic Idealize.SL.Sem
open Cert.KernelIdeal Cert.KernelIdeal.Facts₀ Cert.KernelIdeal.Facts

variable {F : FTy → Type} [FloatOps F]

/-! ## The parts that hold a loop over key blocks, the loop as its trips -/

def part474 : {f // @k0_part474 F _ = f} := by
  refine ⟨?f, ?h⟩
  case h => (funext; unfold k0_part474; simp only [Scf.for_eq]; rfl)

def part529 : {f // @k0_part529 F _ = f} := by
  refine ⟨?f, ?h⟩
  case h => (funext; unfold k0_part529; simp only [Scf.for_eq]; rfl)

def part585 : {f // @k0_part585 F _ = f} := by
  refine ⟨?f, ?h⟩
  case h => (funext; unfold k0_part585; simp only [Scf.for_eq]; rfl)

def part640 : {f // @k0_part640 F _ = f} := by
  refine ⟨?f, ?h⟩
  case h => (funext; unfold k0_part640; simp only [Scf.for_eq]; rfl)

def part696 : {f // @k0_part696 F _ = f} := by
  refine ⟨?f, ?h⟩
  case h => (funext; unfold k0_part696; simp only [Scf.for_eq]; rfl)

def part750 : {f // @k0_part750 F _ = f} := by
  refine ⟨?f, ?h⟩
  case h => (funext; unfold k0_part750; simp only [Scf.for_eq]; rfl)

end Cert.Proof.Attn

end
-- ==== Proof.Attn.Eq.lean ====
/- The printed attention body is the short program. -/
module

public import proofs.«01_k».proof.Proof.Attn.Trips
public import Idealize.ShloMosaic.Lib.Scf

@[expose] public section

noncomputable section

namespace Cert.Proof.Attn

open Idealize.ShloMosaic Idealize.SL.Sem
open Cert.KernelIdeal Cert.KernelIdeal.Facts₀ Cert.KernelIdeal.Facts

variable {F : FTy → Type} [FloatOps F]

set_option maxRecDepth 100000 in
theorem body_eq (i : grid0.Coords) (B : Bufs) :
    (cc0_stickbreak_attn (F := F) i B.q B.hq B.k B.hk B.v B.hv B.o B.ho B.z B.hz B.zd B.hzd B.d B.hd B.t B.ht B.c B.hc) = (bodyK B) := by
  unfold cc0_stickbreak_attn k0_part755 k0_part756 k0_part757 k0_part758 k0_part759
  rw [part474.2, part529.2, part585.2, part640.2, part696.2, part750.2]
  sl_kernel_rfl

end Cert.Proof.Attn

end
-- ==== Proof.Attn.Frame.lean ====
/- The kernel's body at a grid point, the proof data of its pipeline, and the run of @main: it ends, with every array at what
   the write-backs leave. -/
module

public import proofs.«01_k».proof.Proof.Attn.Model
public import proofs.«01_k».proof.Proof.Attn.Eq
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal Cert.KernelIdeal.Facts₀ Cert.KernelIdeal.Facts

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-- What the body leaves in the result's block, from the query, key and value blocks. -/
def outB (q : Vec F S1x256x2048 .bf16) (k v : Vec F S1x8x256x256 .bf16) : Vec F S1x256x2048 .bf16 :=
  glueO fun p h i => Out q k v p h i.val

/-- The body from any contents of its result block and scratch: the input blocks are kept, the result block is `outB`. -/
theorem body_run (c : Dev nD) (B : Bufs) (q : Vec F S1x256x2048 .bf16) (k v : Vec F S1x8x256x256 .bf16) (Q : PUnit → sProp 𝕄) :
    iprop(own c B.q q ∗ own c B.k k ∗ own c B.v v ∗ (∃ o, own c B.o o) ∗ (∃ z, own c B.z z) ∗ (∃ zd, own c B.zd zd)
        ∗ (∃ d, own c B.d d) ∗ (∃ t, own c B.t t) ∗ (∃ a, own c B.c a)
        ∗ (iprop(own c B.q q ∗ own c B.k k ∗ own c B.v v ∗ own c B.o (outB q k v) ∗ (∃ z, own c B.z z) ∗ (∃ zd, own c B.zd zd)
            ∗ (∃ d, own c B.d d) ∗ (∃ t, own c B.t t) ∗ (∃ a, own c B.c a)) -∗ Q ⟨⟩))
      ⊢ runs 𝒱₀ c (bodyK B) Q := by
  iintro ⟨Hq, Hk, Hv, ⟨%o, Ho⟩, ⟨%z, Hz⟩, ⟨%zd, Hzd⟩, ⟨%d, Hd⟩, ⟨%t, Ht⟩, ⟨%a, Ha⟩, K⟩
  obtain ⟨o, rfl⟩ := glueO_surj o
  obtain ⟨z, rfl⟩ := glueZ_surj z
  obtain ⟨zd, rfl⟩ := glueB_surj zd
  obtain ⟨d, rfl⟩ := glueD_surj d
  obtain ⟨t, rfl⟩ := glueT_surj t
  obtain ⟨a, rfl⟩ := glueC_surj a
  obtain ⟨s', h, e1, e2, e3, e4⟩ := ok_body (𝒱 := 𝒱₀) (c := c) (B := B) (⟨q, k, v, o, z, zd, d, t, a⟩ : St F)
  rw [← bodyK_eq]
  iapply (h Q)
  unfold H
  isplitl [Hq Hk Hv Ho Hz Hzd Hd Ht Ha]
  · isplitl [Hq]; · iexact Hq
    isplitl [Hk]; · iexact Hk
    isplitl [Hv]; · iexact Hv
    isplitl [Ho]; · iexact Ho
    isplitl [Hz]; · iexact Hz
    isplitl [Hzd]; · iexact Hzd
    isplitl [Hd]; · iexact Hd
    isplitl [Ht]; · iexact Ht
    iexact Ha
  rw [e1, e2, e3, e4]
  iintro ⟨Hq, Hk, Hv, Ho, Hz, Hzd, Hd, Ht, Ha⟩
  iapply K
  isplitl [Hq]; · iexact Hq
  isplitl [Hk]; · iexact Hk
  isplitl [Hv]; · iexact Hv
  isplitl [Ho]; · iexact Ho
  isplitl [Hz]; · iexists _; iexact Hz
  isplitl [Hzd]; · iexists _; iexact Hzd
  isplitl [Hd]; · iexists _; iexact Hd
  isplitl [Ht]; · iexists _; iexact Ht
  iexists _; iexact Ha

/-! ## The pipeline's proof data -/

/-- The arrays as the region finds them; after the body each input's buffer at its block and the result's at `outB` of them;
    the scratch at anything; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => outB (Gen.iblk m c 0 t) (Gen.iblk m c 1 t) (Gen.iblk m c 2 t)
  Φ _ := Pipeline.ΦA spec0 c
  q _ := fullShare
  owed _ := 0

theorem A_eq (c : Dev nD) (w : Fin cfg0.W) : (dats m 0 c).A w = Gen.V m c (Pipeline.arrRef spec0 w) := rfl
theorem after0_0 (c : Dev nD) (t : Fin cfg0.N) : (dats m 0 c).after 0 t = Gen.iblk m c 0 t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) :
    (dats m 0 c).after 3 t = outB (Gen.iblk m c 0 t) (Gen.iblk m c 1 t) (Gen.iblk m c 2 t) := by dsimp only [dats]

theorem before0_0 (c : Dev nD) (t : Fin cfg0.N) (d) : (dats m 0 c).before 0 t d = Gen.iblk m c 0 t :=
  Gen.before0_0_of m (dats m 0 c) (A_eq m c 0) (after0_0 m c) t d
theorem before0_1 (c : Dev nD) (t : Fin cfg0.N) (d) : (dats m 0 c).before 1 t d = Gen.iblk m c 1 t :=
  Gen.before0_1_of m (dats m 0 c) (A_eq m c 1) (after0_1 m c) t d
theorem before0_2 (c : Dev nD) (t : Fin cfg0.N) (d) : (dats m 0 c).before 2 t d = Gen.iblk m c 2 t :=
  Gen.before0_2_of m (dats m 0 c) (A_eq m c 2) (after0_2 m c) t d

/-- The buffers the body is called with at point `t`. -/
def bufsAt (t : Fin cfg0.N) : Bufs :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    Memref.whole cc0_scratch0, Memref.isWhole_whole _, Memref.whole cc0_scratch1, Memref.isWhole_whole _,
    Memref.whole cc0_scratch2, Memref.isWhole_whole _, Memref.whole cc0_scratch3, Memref.isWhole_whole _,
    Memref.whole cc0_scratch4, Memref.isWhole_whole _⟩

theorem row_eq (t : Fin cfg0.N) : (defs₀ (F := F)) .tc 0 (t, cfg0.slots t) = bodyK (bufsAt t) := by
  unfold defs₀
  rw [Defs.onTc_tc]
  exact body_eq (grid0.coords t) (bufsAt t)

/-! ## The body obligation -/

theorem owns_whole_of (c : Dev nD) (b : Ref sig .tc) (f : b.ty.Contents (Elt F)) :
    (((c : Thread nD τ).loc b) ↦{fullShare} f : sProp 𝕄) ⊢ owns (c : Thread nD τ) (Memref.whole b) fullShare f := by
  rw [owns_whole]
theorem whole_of_owns (c : Dev nD) (b : Ref sig .tc) (f : b.ty.Contents (Elt F)) :
    owns (c : Thread nD τ) (Memref.whole b) fullShare f ⊢ (((c : Thread nD τ).loc b) ↦{fullShare} f : sProp 𝕄) := by
  rw [owns_whole]

theorem body_obligation (c : Dev nD) : BodyObligation (dats (F := F) m 0 c) (defs₀ (F := F)) 𝒱₀ () Set.univ := fun t => by
  rw [Gen.bigSep_W0, Gen.bigSep_W0]
  have hr := row_eq (F := F) t
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = Pipeline.ΦA spec0 c from rfl]
  unfold Pipeline.ΦA
  rw [Gen.scopedRest0_eq]
  have hrun := body_run c (bufsAt t) (Gen.iblk m c 0 t) (Gen.iblk m c 1 t) (Gen.iblk m c 2 t)
  unfold runs at hrun
  rw [← hr] at hrun
  iintro ⟨⟨⟨⟨%f0, S0⟩, ⟨%f1, S1⟩, ⟨%f2, S2⟩, ⟨%f3, S3⟩, ⟨%f4, S4⟩⟩, Hp⟩, Ho, ⟨%d0, H0⟩, ⟨%d1, H1⟩, ⟨%d2, H2⟩, ⟨%d3, H3⟩⟩
  iapply (hrun _)
  isplitl [H0]; · iexact H0
  isplitl [H1]; · iexact H1
  isplitl [H2]; · iexact H2
  isplitl [H3]; · iexists _; iexact H3
  isplitl [S0]; · iexists f0; iapply (owns_whole_of c cc0_scratch0 f0); iexact S0
  isplitl [S1]; · iexists f1; iapply (owns_whole_of c cc0_scratch1 f1); iexact S1
  isplitl [S2]; · iexists f2; iapply (owns_whole_of c cc0_scratch2 f2); iexact S2
  isplitl [S3]; · iexists f3; iapply (owns_whole_of c cc0_scratch3 f3); iexact S3
  isplitl [S4]; · iexists f4; iapply (owns_whole_of c cc0_scratch4 f4); iexact S4
  iintro ⟨H0, H1, H2, H3, ⟨%g0, S0⟩, ⟨%g1, S1⟩, ⟨%g2, S2⟩, ⟨%g3, S3⟩, ⟨%g4, S4⟩⟩
  isplitl [S0 S1 S2 S3 S4 Hp]
  · isplitr [Hp]
    · isplitl [S0]; · iexists g0; iapply (whole_of_owns c cc0_scratch0 g0); iexact S0
      isplitl [S1]; · iexists g1; iapply (whole_of_owns c cc0_scratch1 g1); iexact S1
      isplitl [S2]; · iexists g2; iapply (whole_of_owns c cc0_scratch2 g2); iexact S2
      isplitl [S3]; · iexists g3; iapply (whole_of_owns c cc0_scratch3 g3); iexact S3
      iexists g4; iapply (whole_of_owns c cc0_scratch4 g4); iexact S4
    iexact Hp
  isplitl [Ho]; · iexact Ho
  isplitl [H0]; · iexact H0
  isplitl [H1]; · iexact H1
  isplitl [H2]; · iexact H2
  iexact H3

/-! ## The run -/

set_option backward.isDefEq.respectTransparency.types false in
/-- Every weakly fair execution of @main terminates, nothing faulting, with every array of the pipeline at what the write-backs
    leave and every semaphore counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame (Q' := _) cfgs (dats m) (0 : Fin 1) Gen.launch0 defs₀ 𝒱₀ m ρ main
    (hbody := fun c => (body_obligation m c).loose) (hshare := fun c => (dats m 0 c).share_full fun _ => rfl)
    (howed := fun _ _ => rfl) (V := Gen.V m) (hmain := Gen.hmain m 𝒱₀) (hA := fun _ _ => rfl) (hΦ := fun _ _ => rfl)

/-- The arguments are unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (Gen.frame_of m ρ (dats m) fun _ _ => rfl) (run_main m ρ)

end Cert.Proof.Attn

end
-- ==== Proof.Attn.Bits.lean ====
/- The frame of the kernel as printed: its program is the idealized one, word for word, read at bits. -/
module

public import proofs.«01_k».proof.Defs
public import proofs.«01_k».proof.Proof.Gen.Kernel
public import proofs.«01_k».proof.Proof.Attn.Frame

@[expose] public section

noncomputable section

namespace Cert.Proof.Attn

open Idealize.ShloMosaic Idealize.SL.Sem Idealize.ShloMosaic.Tactic

/-- The frame of the idealized program, at bits. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem frameBits : FrameBits := fun m ρ _ => run_frame (F := Bits) m ρ

theorem frameBits_eq : FrameBits = Cert.quiescent_Kernel := by
  sl_kernel_rfl

theorem frame_kernel : Cert.quiescent_Kernel := frameBits_eq ▸ frameBits

end Cert.Proof.Attn

end
-- ==== Proof.Attn.Host.lean ====
/- The arrays that the kernel's call is given, read at an index: the queries scaled and transposed, the keys and the values in the
   order in which the kernel stores them. -/
module

public import proofs.«01_k».proof.Proof.Attn.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Attn

open Idealize.ShloMosaic Idealize.ShloMosaic.TcCoe
open Cert.KernelIdeal Cert.KernelIdeal.Facts₀ Cert.KernelIdeal.Facts

variable (m : (ℓ : Loc nD τ sig) → Buf (Elt Ideal) ℓ) (c : Dev nD)

def argQ : Vec Ideal S32x2048x1024 .f32 := m ((c.tc : Thread nD τ).loc main_arg0)
def argK : Vec Ideal S32x2048x1024 .f32 := m ((c.tc : Thread nD τ).loc main_arg1)
def argV : Vec Ideal S32x2048x1024 .f32 := m ((c.tc : Thread nD τ).loc main_arg2)

theorem V_q (b : Fin 32) (f : Fin 1024) (t : Fin 2048) :
    (Gen.V m c main_v3 : Vec Ideal S32x1024x2048 .bf16) (ix3 b f t) = argQ m c (ix3 b t f) * Ideal.ofBits .f32 0x3D800000#32 := by
  unfold Gen.V
  after_reads_at
  rfl
theorem V_k (b : Fin 32) (j : Fin 8) (row : Fin 256) (f : Fin 1024) :
    (Gen.V m c main_v7 : Vec Ideal S32x8x256x1024 .bf16) (ix4 b j row f)
      = argK m c (ix3 b ⟨256 * j.val + 32 * (row.val % 8) + row.val / 8, by omega⟩ f) := by
  unfold Gen.V
  after_reads_at
  refine congrArg (argK m c) (congrArg (fun y => ix3 b y f) (Fin.ext ?_))
  show j.val * 256 + row.val % 8 * 32 + row.val / 8 = 256 * j.val + 32 * (row.val % 8) + row.val / 8
  omega
theorem V_v (b : Fin 32) (j : Fin 8) (row : Fin 256) (f : Fin 1024) :
    (Gen.V m c main_v12 : Vec Ideal S32x8x1024x256 .bf16) (ix4 b j f row)
      = argV m c (ix3 b ⟨256 * j.val + 32 * (row.val % 8) + row.val / 8, by omega⟩ f) := by
  unfold Gen.V
  after_reads_at
  refine congrArg (argV m c) (congrArg (fun y => ix3 b y f) (Fin.ext ?_))
  show j.val * 256 + row.val % 8 * 32 + row.val / 8 = 256 * j.val + 32 * (row.val % 8) + row.val / 8
  omega

/-! ## The blocks -/

theorem idx0 : ∀ t : Fin cfg0.N, win0_0.index t = ![t.val / 4, t.val % 4, 0] := by decide +kernel
theorem idx1 : ∀ t : Fin cfg0.N, win0_1.index t = ![t.val / 4, 0, 0, t.val % 4] := by decide +kernel
theorem idx2 : ∀ t : Fin cfg0.N, win0_2.index t = ![t.val / 4, 0, t.val % 4, 0] := by decide +kernel
theorem idx3 : ∀ t : Fin cfg0.N, win0_3.index t = ![t.val / 4, t.val % 4, 0] := by decide +kernel
theorem pt_lt (t : Fin cfg0.N) : t.val < 128 := lt_of_lt_of_eq t.isLt Gen.N_0

theorem iblk_q (t : Fin cfg0.N) (f : Fin 256) (y : Fin 2048) : (Gen.iblk m c 0 t : Vec Ideal S1x256x2048 .bf16) (ix3 0 f y)
    = (Gen.V m c main_v3 : Vec Ideal S32x1024x2048 .bf16) (ix3 ⟨t.val / 4, by have := pt_lt t; omega⟩ ⟨256 * (t.val % 4) + f.val, by omega⟩ y) := by
  have := pt_lt t
  blk_ext [Gen.iblk, idx0 t]
theorem iblk_k (t : Fin cfg0.N) (j : Fin 8) (row : Fin 256) (f : Fin 256) : (Gen.iblk m c 1 t : Vec Ideal S1x8x256x256 .bf16) (ix4 0 j row f)
    = (Gen.V m c main_v7 : Vec Ideal S32x8x256x1024 .bf16) (ix4 ⟨t.val / 4, by have := pt_lt t; omega⟩ j row ⟨256 * (t.val % 4) + f.val, by omega⟩) := by
  have := pt_lt t
  blk_ext [Gen.iblk, idx1 t]
theorem iblk_v (t : Fin cfg0.N) (j : Fin 8) (f : Fin 256) (row : Fin 256) : (Gen.iblk m c 2 t : Vec Ideal S1x8x256x256 .bf16) (ix4 0 j f row)
    = (Gen.V m c main_v12 : Vec Ideal S32x8x1024x256 .bf16) (ix4 ⟨t.val / 4, by have := pt_lt t; omega⟩ j ⟨256 * (t.val % 4) + f.val, by omega⟩ row) := by
  have := pt_lt t
  blk_ext [Gen.iblk, idx2 t]

theorem out_eq (G : Vec Ideal S32x1024x2048 .bf16)
    (hG : ∀ (t : Fin cfg0.N) (f : Fin 256) (y : Fin 2048), outB (Gen.iblk m c 0 t) (Gen.iblk m c 1 t) (Gen.iblk m c 2 t) (ix3 0 f y)
      = G (ix3 ⟨t.val / 4, by have := pt_lt t; omega⟩ ⟨256 * (t.val % 4) + f.val, by omega⟩ y)) :
    (dats m 0 c).arrAt 3 (cfgs 0).N = G := by
  refine (dats m 0 c).arrAt_eq_of_covers 3 _ (by decide +kernel) fun t hf y => ?_
  blk_simp
  rw [after0_3]
  have ht := pt_lt t
  obtain ⟨a, f, z, rfl⟩ : ∃ (a : Fin 1) (f : Fin 256) (z : Fin 2048), y = ix3 a f z :=
    ⟨y 0, y 1, y 2, funext fun i => by fin_cases i <;> rfl⟩
  obtain rfl : a = 0 := Subsingleton.elim _ _
  refine (hG t f z).trans (congrArg G (funext fun i => Fin.ext ?_))
  refine Eq.trans ?_ (Pipeline.Window.rect_emb_val win0_3 t (ix3 0 f z) i).symm
  rw [idx3 t]
  fin_cases i <;> simp [ix3] <;> omega

end Cert.Proof.Attn
end
-- ==== Proof.Attn.RealMath.lean ====
/- The real mathematics of the stick-breaking weights: a score's weight and keep, the products along the keys, and the same written with
   logarithms. -/
module

public import Mathlib.Analysis.SpecialFunctions.Log.Basic
public import Mathlib.Analysis.SpecialFunctions.Trigonometric.DerivHyp

@[expose] public section

noncomputable section

namespace Cert.Proof.Attn

open Finset

/-- The share that a key with half score `w` takes of the stick. -/
def wt (w : ℝ) : ℝ := 1 / 2 + Real.tanh w * (1 / 2)
/-- The share that it leaves. -/
def kp (w : ℝ) : ℝ := 1 / 2 - Real.tanh w * (1 / 2)

/-- `log (1 + exp x)`, as `logaddexp x 0` computes it. -/
def softplus (x : ℝ) : ℝ := max x 0 + Real.log (1 + Real.exp (-|x|))

theorem softplus_eq (x : ℝ) : softplus x = Real.log (1 + Real.exp x) := by
  unfold softplus
  have h1 : ∀ y : ℝ, 0 < 1 + Real.exp y := fun y => by positivity
  rcases le_total 0 x with h | h
  · rw [max_eq_left h, abs_of_nonneg h]
    have : 1 + Real.exp x = Real.exp x * (1 + Real.exp (-x)) := by
      rw [mul_add, ← Real.exp_add]; simp [add_comm]
    rw [this, Real.log_mul (Real.exp_ne_zero _) (h1 _).ne', Real.log_exp]
  · rw [max_eq_right h, abs_of_nonpos h]; simp

theorem wt_eq (w : ℝ) : wt w = 1 / (1 + Real.exp (-(2 * w))) := by
  have h := Real.exp_pos w
  have h' := Real.exp_pos (-w)
  have e : Real.exp (-(2 * w)) = Real.exp (-w) / Real.exp w := by
    rw [← Real.exp_sub]; congr 1; ring
  unfold wt
  rw [Real.tanh_eq_sinh_div_cosh, Real.sinh_eq, Real.cosh_eq, e]
  field_simp
  ring
theorem kp_eq (w : ℝ) : kp w = Real.exp (-(2 * w)) / (1 + Real.exp (-(2 * w))) := by
  have : kp w = 1 - wt w := by unfold kp wt; ring
  have h : (1 + Real.exp (-(2 * w))) ≠ 0 := by positivity
  rw [this, wt_eq]; field_simp; ring
theorem exp_logBeta (z : ℝ) : Real.exp (-softplus (-z)) = wt (z / 2) := by
  rw [softplus_eq, wt_eq, Real.exp_neg, Real.exp_log (by positivity), one_div]
  congr 3; ring_nf
theorem exp_logKeep (z : ℝ) : Real.exp (-softplus (-z) - z) = kp (z / 2) := by
  rw [sub_eq_add_neg, Real.exp_add, exp_logBeta, wt_eq, kp_eq]
  have : 2 * (z / 2) = z := by ring
  rw [this]; ring

/-- The share of key `u` for a query at position `t`, zero from `t` on. -/
def wtM (ζ : ℕ → ℝ) (t u : ℕ) : ℝ := if u < t then wt (ζ u) else 0
/-- What key `u` leaves, all from `t` on. -/
def kpM (ζ : ℕ → ℝ) (t u : ℕ) : ℝ := if u < t then kp (ζ u) else 1
/-- The weight of key `s` for a query at `t`: its share of what the keys between them leave. -/
def weight (ζ : ℕ → ℝ) (t s : ℕ) : ℝ := wtM ζ t s * ∏ u ∈ Ico (s + 1) t, kp (ζ u)

/-- Keys from the query on leave all. -/
theorem prod_kpM (ζ : ℕ → ℝ) (t a E : ℕ) (h : t ≤ E) (ha : a ≤ t) : ∏ u ∈ Ico a E, kpM ζ t u = ∏ u ∈ Ico a t, kp (ζ u) := by
  have e1 : ∏ u ∈ Ico a t, kpM ζ t u = ∏ u ∈ Ico a t, kp (ζ u) :=
    Finset.prod_congr rfl fun u hu => if_pos (Finset.mem_Ico.1 hu).2
  have e2 : ∏ u ∈ Ico t E, kpM ζ t u = 1 :=
    Finset.prod_eq_one fun u hu => if_neg (Nat.not_lt.2 (Finset.mem_Ico.1 hu).1)
  rw [← Finset.prod_Ico_consecutive _ ha h, e1, e2, mul_one]
theorem weight_eq (ζ : ℕ → ℝ) (t s E : ℕ) (h : t ≤ E) : weight ζ t s = wtM ζ t s * ∏ u ∈ Ico (s + 1) E, kpM ζ t u := by
  unfold weight
  by_cases hs : s < t
  · rw [prod_kpM ζ t (s + 1) E h hs]
  · unfold wtM; rw [if_neg hs, zero_mul, zero_mul]

/-- The same by logarithms, from `n` keys: `z` the whole score. -/
def logKeepM (z : ℕ → ℝ) (t u : ℕ) : ℝ := if u < t then -softplus (-(z u)) - z u else 0
theorem weight_log (z : ℕ → ℝ) (t s n : ℕ) (hs : s < t) (hn : t ≤ n) :
    Real.exp (-softplus (-(z s)) + (∑ u ∈ Ico s n, logKeepM z t u - logKeepM z t s)) = weight (fun u => z u / 2) t s := by
  rw [Finset.sum_eq_sum_Ico_succ_bot (hs.trans_le hn), add_sub_cancel_left, Real.exp_add, exp_logBeta, Real.exp_sum,
    weight_eq _ t s n hn]
  unfold wtM
  rw [if_pos hs]
  congr 1
  refine Finset.prod_congr rfl fun u _ => ?_
  unfold logKeepM kpM
  split
  · exact exp_logKeep _
  · exact Real.exp_zero

end Cert.Proof.Attn

end
-- ==== Proof.Attn.Rows.lean ====
/- The weights that the body computes, over the extended reals: at each key and query, the real weight of RealMath.lean. -/
module

public import proofs.«01_k».proof.Proof.Attn.Model
public import proofs.«01_k».proof.Proof.Attn.RealMath
public import Idealize.ShloMosaic.Lib.Pointwise
public import Idealize.ShloMosaic.Lib.WordCmp

@[expose] public section

noncomputable section

namespace Cert.Proof.Attn

open Idealize.ShloMosaic Idealize.ShloMosaic.TcCoe
open Cert.KernelIdeal Cert.KernelIdeal.Facts₀ Cert.KernelIdeal.Facts
open Finset

theorem half_bits : Ideal.ofBits .f32 0x3F000000#32 = ((1 / 2 : ℝ) : EReal) := by
  simp [Ideal.ofBits, Ideal.ieee]; rw [← EReal.coe_mul]; norm_num
theorem negHalf_bits : Ideal.ofBits .f32 0xBF000000#32 = ((-(1 / 2) : ℝ) : EReal) := by
  simp [Ideal.ofBits, Ideal.ieee]; rw [← EReal.coe_mul]; norm_num

theorem half_apply (a : Fin 8) (x : Fin 512) : half (F := Ideal) (ix2 a x) = ((1 / 2 : ℝ) : EReal) := by
  pointwise [half]; exact half_bits
theorem one8_apply (a : Fin 8) (x : Fin 512) : one8 (F := Ideal) (ix2 a x) = ((1 : ℝ) : EReal) := by
  pointwise [one8]; exact EReal.coe_one.symm
theorem one1_apply (a : Fin 1) (x : Fin 512) : one1 (F := Ideal) (ix2 a x) = ((1 : ℝ) : EReal) := by
  pointwise [one1]; exact EReal.coe_one.symm

theorem tFull_apply (r : Fin 32) (z : FVec Ideal S8x512 .f32) (a : Fin 8) (x : Fin 512) (w : ℝ) (hz : z (ix2 a x) = (w : EReal)) :
    tFull r z (ix2 a x) = ((Real.tanh w * (1 / 2) : ℝ) : EReal) := by
  pointwise [tFull]
  rw [hz, half_apply, Ideal.tanh_coe, ← EReal.coe_mul]

theorem qoff_apply (a : Fin 8) (x : Fin 512) : qoff (ix2 a x) = BitVec.ofNat 32 (x.val % 256) := by
  pointwise [qoff]
  revert x
  decide +kernel
theorem key_apply (r : Fin 32) (a : Fin 8) : IntOp.addi (BitVec.ofNat 32 r.val) (IntOp.muli 32#32 (BitVec.ofNat 32 a.val))
    = BitVec.ofNat 32 (32 * a.val + r.val) := by
  revert r a
  decide +kernel

/-- Half the hyperbolic tangent of a key's half score before the query, minus one half from it on. -/
def tauM (ζ : ℕ → ℝ) (t u : ℕ) : ℝ := if u < t then Real.tanh (ζ u) * (1 / 2) else -(1 / 2)
theorem tauM_wt (ζ : ℕ → ℝ) (t u : ℕ) : 1 / 2 + tauM ζ t u = wtM ζ t u := by
  unfold tauM wtM wt
  split
  · rfl
  · norm_num
theorem tauM_kp (ζ : ℕ → ℝ) (t u : ℕ) : 1 / 2 - tauM ζ t u = kpM ζ t u := by
  unfold tauM kpM kp
  split
  · rfl
  · norm_num

section
variable (ζ : ℕ → ℝ) (t base n : ℕ) (x : Fin 512)

theorem tm_apply (h0 : n = 0 → t = base + x.val % 256) (h1 : n ≠ 0 → base + 256 ≤ t) (r : Fin 32) (a : Fin 8)
    (Z : FVec Ideal S8x512 .f32) (hZ : Z (ix2 a x) = (ζ (base + 32 * a.val + r.val) : EReal)) :
    tm n r Z (ix2 a x) = ((tauM ζ t (base + 32 * a.val + r.val) : ℝ) : EReal) := by
  have hf := tFull_apply r Z a x _ hZ
  have ha := a.isLt
  have hr := r.isLt
  cases n with
  | succ n =>
    show tFull r Z (ix2 a x) = _
    have := h1 (Nat.succ_ne_zero n)
    rw [hf, tauM, if_pos (by omega)]
  | zero =>
    show tDiag r Z (ix2 a x) = _
    have e := h0 rfl
    pointwise [tDiag, sub]
    rw [hf, qoff_apply, key_apply, negHalf_bits, WordCmp.cmpi_slt_ofNat (by omega) (by omega), tauM, e]
    by_cases h : 32 * a.val + r.val < x.val % 256
    · rw [if_pos (by omega), decide_eq_true h]; rfl
    · rw [if_neg (by omega), decide_eq_false h]; rfl

theorem dRow_apply (T run : FVec Ideal S8x512 .f32) (a : Fin 8) (τ ρ : ℝ) (hT : T (ix2 a x) = (τ : EReal)) (hr : run (ix2 a x) = (ρ : EReal)) :
    dRow T run (ix2 a x) = (((1 / 2 + τ) * ρ : ℝ) : EReal) := by
  pointwise [dRow]
  rw [hT, hr, half_apply, ← EReal.coe_add, ← EReal.coe_mul]
theorem keepRow_apply (T run : FVec Ideal S8x512 .f32) (a : Fin 8) (τ ρ : ℝ) (hT : T (ix2 a x) = (τ : EReal)) (hr : run (ix2 a x) = (ρ : EReal)) :
    keepRow T run (ix2 a x) = (((1 / 2 - τ) * ρ : ℝ) : EReal) := by
  pointwise [keepRow]
  rw [hT, hr, half_apply, ← EReal.coe_sub, ← EReal.coe_mul, mul_comm]

/-- The scores of one key block hold the half scores of the keys from `base` on. -/
def Holds (Z : Fin 32 → FVec Ideal S8x512 .f32) : Prop :=
  ∀ (r : Fin 32) (a : Fin 8), Z r (ix2 a x) = ((ζ (base + 32 * a.val + r.val) : ℝ) : EReal)

variable (h0 : n = 0 → t = base + x.val % 256) (h1 : n ≠ 0 → base + 256 ≤ t)
variable (Z : Fin 32 → FVec Ideal S8x512 .f32) (hZ : Holds ζ base x Z)
include h0 h1 hZ

theorem above_apply (a : Fin 8) (m : ℕ) (hm : m ≤ 32) : above (tm n) Z m (ix2 a x)
    = ((∏ u ∈ Ico (base + 32 * a.val + (32 - m)) (base + 32 * a.val + 32), kpM ζ t u : ℝ) : EReal) := by
  induction m with
  | zero => rw [Nat.sub_zero, Ico_self, prod_empty]; exact one8_apply a x
  | succ m ih =>
    have e : (rr m).val = 32 - (m + 1) := by show 31 - m = _; omega
    have hT := tm_apply ζ t base n x h0 h1 (rr m) a (Z (rr m)) (hZ _ _)
    rw [e] at hT
    refine (keepRow_apply x _ _ a _ _ hT (ih (by omega))).trans ?_
    rw [tauM_kp, prod_eq_prod_Ico_succ_bot (a := base + 32 * a.val + (32 - (m + 1))) (by omega)]
    have e2 : base + 32 * a.val + (32 - (m + 1)) + 1 = base + 32 * a.val + (32 - m) := by omega
    rw [e2]

theorem dAll_apply (a : Fin 8) (r : Fin 32) : dAll (tm n) Z r (ix2 a x)
    = ((wtM ζ t (base + 32 * a.val + r.val)
      * ∏ u ∈ Ico (base + 32 * a.val + r.val + 1) (base + 32 * a.val + 32), kpM ζ t u : ℝ) : EReal) := by
  have hr := r.isLt
  have hA := above_apply ζ t base n x h0 h1 Z hZ a (31 - r.val) (by omega)
  have e : base + 32 * a.val + (32 - (31 - r.val)) = base + 32 * a.val + r.val + 1 := by omega
  rw [e] at hA
  refine (dRow_apply x _ _ a _ _ (tm_apply ζ t base n x h0 h1 r a (Z r) (hZ _ _)) hA).trans ?_
  rw [tauM_wt]

omit h0 h1 hZ

theorem up1_apply (run : FVec Ideal S8x512 .f32) (a : Fin 8) : up 1#32 7#32 run (ix2 a x) = if h : a.val + 1 < 8 then run (ix2 ⟨a.val + 1, h⟩ x) else 1 := by
  have ha := a.isLt
  have e : IntOp.addi (BitVec.ofNat 32 a.val) 1#32 = BitVec.ofNat 32 (a.val + 1) := by revert a; decide
  pointwise [up, sub]
  rw [e, one8_apply, WordCmp.cmpi_slt_ofNat (by omega) (by omega), EReal.coe_one]
  by_cases h : a.val + 1 < 8
  · rw [decide_eq_true h, dif_pos h]
    have e2 : (⟨(a.val + 8 - 7) % 8, by omega⟩ : Fin 8) = ⟨a.val + 1, h⟩ := Fin.ext (show (a.val + 8 - 7) % 8 = a.val + 1 by omega)
    exact congrArg (fun b => run (ix2 b x)) e2
  · rw [decide_eq_false h, dif_neg h]; rfl
theorem up2_apply (run : FVec Ideal S8x512 .f32) (a : Fin 8) : up 2#32 6#32 run (ix2 a x) = if h : a.val + 2 < 8 then run (ix2 ⟨a.val + 2, h⟩ x) else 1 := by
  have ha := a.isLt
  have e : IntOp.addi (BitVec.ofNat 32 a.val) 2#32 = BitVec.ofNat 32 (a.val + 2) := by revert a; decide
  pointwise [up, sub]
  rw [e, one8_apply, WordCmp.cmpi_slt_ofNat (by omega) (by omega), EReal.coe_one]
  by_cases h : a.val + 2 < 8
  · rw [decide_eq_true h, dif_pos h]
    have e2 : (⟨(a.val + 8 - 6) % 8, by omega⟩ : Fin 8) = ⟨a.val + 2, h⟩ := Fin.ext (show (a.val + 8 - 6) % 8 = a.val + 2 by omega)
    exact congrArg (fun b => run (ix2 b x)) e2
  · rw [decide_eq_false h, dif_neg h]; rfl
theorem up4_apply (run : FVec Ideal S8x512 .f32) (a : Fin 8) : up 4#32 4#32 run (ix2 a x) = if h : a.val + 4 < 8 then run (ix2 ⟨a.val + 4, h⟩ x) else 1 := by
  have ha := a.isLt
  have e : IntOp.addi (BitVec.ofNat 32 a.val) 4#32 = BitVec.ofNat 32 (a.val + 4) := by revert a; decide
  pointwise [up, sub]
  rw [e, one8_apply, WordCmp.cmpi_slt_ofNat (by omega) (by omega), EReal.coe_one]
  by_cases h : a.val + 4 < 8
  · rw [decide_eq_true h, dif_pos h]
    have e2 : (⟨(a.val + 8 - 4) % 8, by omega⟩ : Fin 8) = ⟨a.val + 4, h⟩ := Fin.ext (show (a.val + 8 - 4) % 8 = a.val + 4 by omega)
    exact congrArg (fun b => run (ix2 b x)) e2
  · rw [decide_eq_false h, dif_neg h]; rfl

section
variable (run : FVec Ideal S8x512 .f32) (hR : ∀ a : Fin 8, run (ix2 a x)
  = ((∏ u ∈ Ico (base + 32 * a.val) (base + 32 * (a.val + 1)), kpM ζ t u : ℝ) : EReal))

/-- A row holds the product of the keys of the `len` rows below it. -/
def Below (len : ℕ) (y : FVec Ideal S8x512 .f32) : Prop :=
  ∀ a : Fin 8, y (ix2 a x) = ((∏ u ∈ Ico (base + 32 * (a.val + 1)) (base + 32 * min 8 (a.val + 1 + len)), kpM ζ t u : ℝ) : EReal)

theorem below_mul (len : ℕ) (y y' : FVec Ideal S8x512 .f32) (hy : Below ζ t base x len y)
    (h' : ∀ a : Fin 8, y' (ix2 a x) = if h : a.val + len < 8 then y (ix2 ⟨a.val + len, h⟩ x) else 1) :
    Below ζ t base x (len + len) (mulf y y') := by
  intro a
  have ha := a.isLt
  pointwise
  rw [hy a, h' a]
  split
  · next h =>
    rw [hy ⟨_, h⟩, ← EReal.coe_mul]
    have e : min 8 (a.val + 1 + len) = a.val + len + 1 := by omega
    have e' : min 8 (a.val + len + 1 + len) = min 8 (a.val + 1 + (len + len)) := by omega
    show ((_ * ∏ u ∈ Ico (base + 32 * (a.val + len + 1)) (base + 32 * min 8 (a.val + len + 1 + len)), kpM ζ t u : ℝ) : EReal) = _
    rw [e, e', prod_Ico_consecutive _ (by omega) (by omega)]
  · next h =>
    have e : min 8 (a.val + 1 + len) = min 8 (a.val + 1 + (len + len)) := by omega
    rw [mul_one, e]

include hR in
theorem yOf_apply (a : Fin 8) : yOf run (ix2 a x) = ((∏ u ∈ Ico (base + 32 * (a.val + 1)) (base + 256), kpM ζ t u : ℝ) : EReal) := by
  have b0 : Below ζ t base x 1 (up 1#32 7#32 run) := by
    intro a
    have ha := a.isLt
    rw [up1_apply]
    split
    · next h =>
      rw [hR]
      have e : min 8 (a.val + 1 + 1) = a.val + 1 + 1 := by omega
      rw [e]
    · next h =>
      have e : min 8 (a.val + 1 + 1) = a.val + 1 := by omega
      rw [e, Ico_self, prod_empty, EReal.coe_one]
  have b3 := below_mul ζ t base x 4 _ _ (below_mul ζ t base x 2 _ _ (below_mul ζ t base x 1 _ _ b0 (up1_apply x _)) (up2_apply x _)) (up4_apply x _)
  have e : min 8 (a.val + 1 + (4 + 4)) = 8 := by omega
  have := b3 a
  rw [e] at this
  exact this

variable (cs : FVec Ideal S1x512 .f32) (E : ℕ) (hE : base + 256 ≤ E)
  (hcs : cs (ix2 0 x) = ((∏ u ∈ Ico (base + 256) E, kpM ζ t u : ℝ) : EReal))
include hR hE hcs

theorem ocOf_apply (a : Fin 8) : ocOf run cs (ix2 a x) = ((∏ u ∈ Ico (base + 32 * (a.val + 1)) E, kpM ζ t u : ℝ) : EReal) := by
  have ha := a.isLt
  pointwise [ocOf]
  rw [yOf_apply ζ t base x run hR a, hcs, ← EReal.coe_mul, prod_Ico_consecutive _ (by omega) hE]
theorem csOf_apply : csOf run cs (ix2 0 x) = ((∏ u ∈ Ico base E, kpM ζ t u : ℝ) : EReal) := by
  pointwise [csOf]
  rw [hcs]
  have hy := yOf_apply ζ t base x run hR 0
  have hr := hR 0
  have z : (0 : Fin 8).val = 0 := rfl
  rw [z, Nat.mul_zero, Nat.add_zero, Nat.zero_add, Nat.mul_one] at hr
  rw [z, Nat.zero_add, Nat.mul_one] at hy
  rw [hy, hr, ← EReal.coe_mul, ← EReal.coe_mul, mul_comm (∏ u ∈ Ico (base + 32) (base + 256), kpM ζ t u),
    prod_Ico_consecutive _ (by omega) (by omega), mul_comm, prod_Ico_consecutive _ (by omega) hE]
end

end

/-- A block of weights in the order in which the keys are stored. -/
theorem tAll_apply (oc : FVec Ideal S8x512 .f32) (D : Fin 32 → FVec Ideal S8x512 .f32) (row : Fin 256) (x : Fin 512) :
    allRows (tAll oc D) (ix2 row x) = D ⟨row.val / 8, by omega⟩ (ix2 ⟨row.val % 8, by omega⟩ x) * oc (ix2 ⟨row.val % 8, by omega⟩ x) := by
  have hr := row.isLt
  have e : allRows (tAll oc D) (ix2 row x) = tAll oc D ⟨row.val / 16, by omega⟩ (ix2 ⟨row.val % 16, by omega⟩ x) := by
    rw [ix2_eq_valueIdx, ix2_eq_valueIdx]; rfl
  rw [e]
  pointwise [tAll, atTwo]
  by_cases h : row.val % 16 < 8
  · rw [dif_pos h]
    have e1 : (⟨2 * (row.val / 16), by omega⟩ : Fin 32) = ⟨row.val / 8, by omega⟩ := Fin.ext (show 2 * (row.val / 16) = row.val / 8 by omega)
    have e2 : (⟨row.val % 16, by omega⟩ : Fin 8) = ⟨row.val % 8, by omega⟩ := Fin.ext (show row.val % 16 = row.val % 8 by omega)
    rw [e1, e2]
  · rw [dif_neg h]
    have e1 : (⟨2 * (row.val / 16) + 1, by omega⟩ : Fin 32) = ⟨row.val / 8, by omega⟩ := Fin.ext (show 2 * (row.val / 16) + 1 = row.val / 8 by omega)
    have e2 : (⟨row.val % 16 - 8, by omega⟩ : Fin 8) = ⟨row.val % 8, by omega⟩ := Fin.ext (show row.val % 16 - 8 = row.val % 8 by omega)
    rw [e1, e2]

theorem plus_apply (c : FVec Ideal S128x512 .f32) (v : Vec Ideal S1x1x128x256 .bf16) (T : Fin 16 → FVec Ideal S16x512 .bf16) (f : Fin 128) (x : Fin 512) :
    plus c v T (ix2 f x) = c (ix2 f x) + ∑ row : Fin 256, v (ix4 0 0 f row) * allRows T (ix2 row x) := by
  pointwise [plus, pv]

section
variable (q : Vec Ideal S1x256x2048 .bf16) (k v : Vec Ideal S1x8x256x256 .bf16) (p : Fin 2) (i : ℕ) (x : Fin 512) (ζ : ℕ → ℝ)
variable (hS : ∀ j, j ≤ i → Holds ζ (256 * j) x (rowAt (Zb q k p i j)))
include hS

theorem Keep_apply (n : ℕ) (hn : n ≤ i) (a : Fin 8) : Keep q k p i n (ix2 a x)
    = ((∏ u ∈ Ico (256 * (i - n) + 32 * a.val) (256 * (i - n) + 32 * (a.val + 1)), kpM ζ (256 * i + x.val % 256) u : ℝ) : EReal) := by
  have h := above_apply ζ (256 * i + x.val % 256) (256 * (i - n)) n x (by rintro rfl; rfl) (by intro; omega) (Zr q k p i n) (hS (i - n) (Nat.sub_le _ _)) a 32 (Nat.le_refl _)
  rw [Nat.sub_self, Nat.add_zero] at h
  have e : 256 * (i - n) + 32 * (a.val + 1) = 256 * (i - n) + 32 * a.val + 32 := by omega
  rw [e]
  exact h

theorem Cs_apply (n : ℕ) (hn : n ≤ i + 1) : Cs q k p i n (ix2 0 x)
    = ((∏ u ∈ Ico (256 * (i + 1 - n)) (256 * (i + 1)), kpM ζ (256 * i + x.val % 256) u : ℝ) : EReal) := by
  induction n with
  | zero => rw [Nat.sub_zero, Ico_self, prod_empty]; exact one1_apply 0 x
  | succ n ih =>
    have ih' := ih (by omega)
    have e : 256 * (i + 1 - n) = 256 * (i - n) + 256 := by omega
    have e' : i + 1 - (n + 1) = i - n := by omega
    rw [e] at ih'
    rw [e']
    exact csOf_apply ζ (256 * i + x.val % 256) (256 * (i - n)) x (Keep q k p i n) (Keep_apply q k p i x ζ hS n (by omega))
      (Cs q k p i n) (256 * (i + 1)) (by omega) ih'

theorem Tw_apply (n : ℕ) (hn : n ≤ i) (row : Fin 256) : allRows (Tw q k p i n) (ix2 row x)
    = ((weight ζ (256 * i + x.val % 256) (256 * (i - n) + 32 * (row.val % 8) + row.val / 8) : ℝ) : EReal) := by
  have hr := row.isLt
  have hC := Cs_apply q k p i x ζ hS n (by omega)
  have e : 256 * (i + 1 - n) = 256 * (i - n) + 256 := by omega
  rw [e] at hC
  have hx := x.isLt
  rw [Tw, tAll_apply, dAll_apply ζ (256 * i + x.val % 256) (256 * (i - n)) n x (by rintro rfl; rfl) (by intro; omega) (Zr q k p i n) (hS (i - n) (Nat.sub_le _ _)),
    ocOf_apply ζ (256 * i + x.val % 256) (256 * (i - n)) x (Keep q k p i n) (Keep_apply q k p i x ζ hS n hn) (Cs q k p i n) (256 * (i + 1)) (by omega) hC,
    ← EReal.coe_mul, weight_eq _ _ _ (256 * (i + 1)) (by omega), mul_assoc]
  have e2 : 256 * (i - n) + 32 * (row.val % 8 + 1) = 256 * (i - n) + 32 * (row.val % 8) + 32 := by omega
  show ((_ * ((∏ u ∈ Ico (256 * (i - n) + 32 * (row.val % 8) + row.val / 8 + 1) (256 * (i - n) + 32 * (row.val % 8) + 32), kpM ζ (256 * i + x.val % 256) u)
    * ∏ u ∈ Ico (256 * (i - n) + 32 * (row.val % 8 + 1)) (256 * (i + 1)), kpM ζ (256 * i + x.val % 256) u) : ℝ) : EReal) = _
  rw [e2, prod_Ico_consecutive _ (by omega) (by omega)]

theorem Acc_apply (f : Fin 128) (n : ℕ) (hn : n ≤ i + 1) : Acc q k v p i n (ix2 f x)
    = ∑ m ∈ range n, ∑ row : Fin 256, v ((rV p (blk (i - m))).emb (ix4 0 0 f row))
        * ((weight ζ (256 * i + x.val % 256) (256 * (i - m) + 32 * (row.val % 8) + row.val / 8) : ℝ) : EReal) := by
  induction n with
  | zero =>
    rw [range_zero, sum_empty]
    show zero128 (ix2 f x) = 0
    pointwise [zero128]
  | succ n ih =>
    rw [sum_range_succ, ← ih (by omega), Acc, plus_apply]
    refine congrArg _ (sum_congr rfl fun row _ => ?_)
    rw [Tw_apply q k p i x ζ hS n (by omega)]
end

end Cert.Proof.Attn
end
-- ==== Proof.Attn.Block.lean ====
/- The block that one grid point computes, read at an index: each feature of each query is the weighted sum over all the keys. -/
module

public import proofs.«01_k».proof.Proof.Attn.Frame
public import proofs.«01_k».proof.Proof.Attn.Rows

@[expose] public section

noncomputable section

namespace Cert.Proof.Attn

open Idealize.ShloMosaic Idealize.ShloMosaic.TcCoe
open Cert.KernelIdeal Cert.KernelIdeal.Facts₀ Cert.KernelIdeal.Facts
open Finset

/-! ## The keys in their order -/

/-- The key that a row of a block stores. -/
def keyOf (row : Fin 256) : Fin 256 := ⟨32 * (row.val % 8) + row.val / 8, by omega⟩
def keyEquiv : Fin 256 ≃ Fin 256 where
  toFun := keyOf
  invFun y := ⟨8 * (y.val % 32) + y.val / 32, by omega⟩
  left_inv row := Fin.ext (by show 8 * ((32 * (row.val % 8) + row.val / 8) % 32) + (32 * (row.val % 8) + row.val / 8) / 32 = row.val; omega)
  right_inv y := Fin.ext (by show 32 * ((8 * (y.val % 32) + y.val / 32) % 8) + (8 * (y.val % 32) + y.val / 32) / 8 = y.val; omega)

theorem sum_row {M : Type} [AddCommMonoid M] (base : ℕ) (g : ℕ → M) :
    ∑ row : Fin 256, g (base + 32 * (row.val % 8) + row.val / 8) = ∑ y ∈ range 256, g (base + y) := by
  rw [← Fin.sum_univ_eq_sum_range (fun y => g (base + y)) 256]
  refine Eq.trans ?_ (Equiv.sum_comp keyEquiv fun y : Fin 256 => g (base + y.val))
  refine sum_congr rfl fun row _ => ?_
  show _ = g (base + (32 * (row.val % 8) + row.val / 8))
  rw [Nat.add_assoc]
theorem sum_blocks {M : Type} [AddCommMonoid M] (g : ℕ → M) (n : ℕ) : ∑ j ∈ range n, ∑ y ∈ range 256, g (256 * j + y) = ∑ s ∈ range (256 * n), g s := by
  induction n with
  | zero => rfl
  | succ n ih => rw [sum_range_succ, ih, Nat.mul_succ, sum_range_add]
theorem sum_keys {M : Type} [AddCommMonoid M] (g : ℕ → M) (i : ℕ) (hi : i < 8) (hg : ∀ u, 256 * (i + 1) ≤ u → g u = 0) :
    ∑ m ∈ range (i + 1), ∑ row : Fin 256, g (256 * (i - m) + 32 * (row.val % 8) + row.val / 8) = ∑ s ∈ range 2048, g s := by
  simp only [sum_row]
  have e := sum_range_reflect (fun j => ∑ y ∈ range 256, g (256 * j + y)) (i + 1)
  simp only [Nat.add_sub_cancel] at e
  rw [e, sum_blocks]
  refine sum_subset (range_mono (by omega)) fun u _ hu => hg u ?_
  rw [mem_range] at hu; omega

theorem weight_zero (ζ : ℕ → ℝ) (t s : ℕ) (h : t ≤ s) : weight ζ t s = 0 := by
  unfold weight wtM; rw [if_neg (by omega), zero_mul]

/-! ## The loads -/

theorem rQ_emb (p : Fin 2) (i : Fin 8) (a : Fin 1) (d : Fin 128) (y : Fin 256) :
    (rQ p i).emb (ix3 a d y) = ix3 0 ⟨128 * p.val + d.val, by omega⟩ ⟨256 * i.val + y.val, by omega⟩ := by
  funext b
  refine Fin.ext ?_
  match b with
  | ⟨0, _⟩ => show 0 + 1 * a.val = 0; omega
  | ⟨1, _⟩ => show 128 * p.val + 1 * d.val = 128 * p.val + d.val; omega
  | ⟨2, _⟩ => show 256 * i.val + 1 * y.val = 256 * i.val + y.val; omega
theorem rK_emb (p : Fin 2) (j : Fin 8) (a b : Fin 1) (row : Fin 256) (d : Fin 128) :
    (rK p j).emb (ix4 a b row d) = ix4 0 j row ⟨128 * p.val + d.val, by omega⟩ := by
  funext e
  refine Fin.ext ?_
  match e with
  | ⟨0, _⟩ => show 0 + 1 * a.val = 0; omega
  | ⟨1, _⟩ => show j.val + 1 * b.val = j.val; omega
  | ⟨2, _⟩ => show 0 + 1 * row.val = row.val; omega
  | ⟨3, _⟩ => show 128 * p.val + 1 * d.val = 128 * p.val + d.val; omega
theorem rV_emb (p : Fin 2) (j : Fin 8) (a b : Fin 1) (d : Fin 128) (row : Fin 256) :
    (rV p j).emb (ix4 a b d row) = ix4 0 j ⟨128 * p.val + d.val, by omega⟩ row := by
  funext e
  refine Fin.ext ?_
  match e with
  | ⟨0, _⟩ => show 0 + 1 * a.val = 0; omega
  | ⟨1, _⟩ => show j.val + 1 * b.val = j.val; omega
  | ⟨2, _⟩ => show 128 * p.val + 1 * d.val = 128 * p.val + d.val; omega
  | ⟨3, _⟩ => show 0 + 1 * row.val = row.val; omega

section
variable (q : Vec Ideal S1x256x2048 .bf16) (k v : Vec Ideal S1x8x256x256 .bf16)

theorem Zb_apply (p : Fin 2) (i j : ℕ) (hi : i < 8) (hj : j < 8) (row : Fin 256) (x : Fin 512) : Zb q k p i j (ix2 row x)
    = ∑ d : Fin 64, k (ix4 0 ⟨j, hj⟩ row ⟨128 * p.val + 64 * (x.val / 256) + d.val, by omega⟩)
        * q (ix3 0 ⟨128 * p.val + 64 * (x.val / 256) + d.val, by omega⟩ ⟨256 * i + x.val % 256, by omega⟩) := by
  pointwise [Zb, zBlk, Qv, qPair, headA]
  have bi : blk i = ⟨i, hi⟩ := Fin.ext (Nat.mod_eq_of_lt hi)
  have bj : blk j = ⟨j, hj⟩ := Fin.ext (Nat.mod_eq_of_lt hj)
  have hx := x.isLt
  have cmp : ∀ d : Fin 128, IntOp.cmpi .slt (BitVec.ofNat 32 d.val) 64#32 = BitVec.ofBool (decide (d.val < 64)) := fun d =>
    WordCmp.cmpi_slt_ofNat (by omega) (by omega)
  simp only [cmp, rK_emb, rQ_emb, bi, bj]
  rw [Fin.sum_univ_two_halves 64 64 rfl]
  by_cases h : x.val < 256
  · have z : ∀ d : Fin 64, decide (64 + d.val < 64) = false := fun d => decide_eq_false (by omega)
    have o : ∀ d : Fin 64, decide (d.val < 64) = true := fun d => decide_eq_true d.isLt
    simp only [dif_pos h, z, o]
    refine (congrArg₂ (· + ·) (sum_congr rfl fun d _ => ?_) (sum_eq_zero fun d _ => ?_)).trans (add_zero _)
    · have e1 : (⟨128 * p.val + d.val, by omega⟩ : Fin 256) = ⟨128 * p.val + 64 * (x.val / 256) + d.val, by omega⟩ := Fin.ext (by show 128 * p.val + d.val = 128 * p.val + 64 * (x.val / 256) + d.val; omega)
      have e2 : (⟨256 * i + x.val, by omega⟩ : Fin 2048) = ⟨256 * i + x.val % 256, by omega⟩ := Fin.ext (by show 256 * i + x.val = 256 * i + x.val % 256; omega)
      show k (ix4 0 ⟨j, hj⟩ row ⟨128 * p.val + d.val, by omega⟩) * q (ix3 0 ⟨128 * p.val + d.val, by omega⟩ ⟨256 * i + x.val, by omega⟩) = _
      rw [e1, e2]
    · exact mul_zero _
  · have z : ∀ d : Fin 64, decide (64 + d.val < 64) = false := fun d => decide_eq_false (by omega)
    have o : ∀ d : Fin 64, decide (d.val < 64) = true := fun d => decide_eq_true d.isLt
    simp only [dif_neg h, z, o]
    refine (congrArg₂ (· + ·) (sum_eq_zero fun d _ => ?_) (sum_congr rfl fun d _ => ?_)).trans (zero_add _)
    · exact mul_zero _
    · have e1 : (⟨128 * p.val + (64 + d.val), by omega⟩ : Fin 256) = ⟨128 * p.val + 64 * (x.val / 256) + d.val, by omega⟩ := Fin.ext (by show 128 * p.val + (64 + d.val) = 128 * p.val + 64 * (x.val / 256) + d.val; omega)
      have e2 : (⟨256 * i + (x.val - 256), by omega⟩ : Fin 2048) = ⟨256 * i + x.val % 256, by omega⟩ := Fin.ext (by show 256 * i + (x.val - 256) = 256 * i + x.val % 256; omega)
      show k (ix4 0 ⟨j, hj⟩ row ⟨128 * p.val + (64 + d.val), by omega⟩) * q (ix3 0 ⟨128 * p.val + (64 + d.val), by omega⟩ ⟨256 * i + (x.val - 256), by omega⟩) = _
      rw [e1, e2]

/-- A feature of a query's result: row `f` of the pair's sums in the column of that head and query. -/
theorem outB_apply (f : Fin 256) (t : Fin 2048) : outB q k v (ix3 0 f t)
    = Acc q k v ⟨f.val / 128, by omega⟩ (t.val / 256) (t.val / 256 + 1)
        (ix2 ⟨f.val % 128, by omega⟩ ⟨256 * (f.val / 64 % 2) + t.val % 256, by omega⟩) := by
  have hf := f.isLt
  have ht := t.isLt
  show Out q k v ⟨f.val / 128, by omega⟩ ⟨f.val / 64 % 2, by omega⟩ (t.val / 256) (ValueIdx.ix2 ⟨f.val % 64, by omega⟩ ⟨t.val % 256, by omega⟩) = _
  rw [← ix2_eq_valueIdx]
  rcases Nat.mod_two_eq_zero_or_one (f.val / 64) with h | h
  · have e : (⟨f.val / 64 % 2, by omega⟩ : Fin 2) = 0 := Fin.ext h
    rw [e]
    unfold Out
    show truncf .bf16 (extractStridedSlice S64x256 ![0, 0] (Acc q k v ⟨f.val / 128, by omega⟩ (t.val / 256) (t.val / 256 + 1)) slices_S128x512_o0_0_S64x256) bitsLt_bf16_f32 (ix2 _ _) = _
    pointwise
    exact congrArg₂ (fun a b => Acc q k v _ _ _ (ix2 a b)) (Fin.ext (by show f.val % 64 = f.val % 128; omega)) (Fin.ext (by show t.val % 256 = 256 * (f.val / 64 % 2) + t.val % 256; omega))
  · have e : (⟨f.val / 64 % 2, by omega⟩ : Fin 2) = 1 := Fin.ext h
    rw [e]
    unfold Out
    show truncf .bf16 (extractStridedSlice S64x256 ![64, 256] (Acc q k v ⟨f.val / 128, by omega⟩ (t.val / 256) (t.val / 256 + 1)) slices_S128x512_o64_256_S64x256) bitsLt_bf16_f32 (ix2 _ _) = _
    pointwise
    exact congrArg₂ (fun a b => Acc q k v _ _ _ (ix2 a b)) (Fin.ext (by show 64 + f.val % 64 = f.val % 128; omega)) (Fin.ext (by show 256 + t.val % 256 = 256 * (f.val / 64 % 2) + t.val % 256; omega))

/-- The block's result, given the half scores of a feature's head and the values in their order. -/
theorem block_apply (f : Fin 256) (t : Fin 2048) (ζ : ℕ → ℝ) (V : ℕ → EReal)
    (hζ : ∀ (j : Fin 8) (row : Fin 256), ∑ d : Fin 64, k (ix4 0 j row ⟨64 * (f.val / 64) + d.val, by omega⟩)
        * q (ix3 0 ⟨64 * (f.val / 64) + d.val, by omega⟩ t) = ((ζ (256 * j.val + 32 * (row.val % 8) + row.val / 8) : ℝ) : EReal))
    (hV : ∀ (j : Fin 8) (row : Fin 256), v (ix4 0 j f row) = V (256 * j.val + 32 * (row.val % 8) + row.val / 8)) :
    outB q k v (ix3 0 f t) = ∑ s ∈ range 2048, V s * ((weight ζ t.val s : ℝ) : EReal) := by
  have hf := f.isLt
  have ht := t.isLt
  have hi : t.val / 256 < 8 := by omega
  have hS : ∀ j, j ≤ t.val / 256 → Holds ζ (256 * j) ⟨256 * (f.val / 64 % 2) + t.val % 256, by omega⟩
      (rowAt (Zb q k ⟨f.val / 128, by omega⟩ (t.val / 256) j)) := by
    intro j hj r a
    have ha := a.isLt
    have hr := r.isLt
    have e : rowAt (Zb q k ⟨f.val / 128, by omega⟩ (t.val / 256) j) r (ix2 a ⟨256 * (f.val / 64 % 2) + t.val % 256, by omega⟩)
        = Zb q k ⟨f.val / 128, by omega⟩ (t.val / 256) j (ix2 ⟨8 * r.val + a.val, by omega⟩ ⟨256 * (f.val / 64 % 2) + t.val % 256, by omega⟩) := by
      rw [ix2_eq_valueIdx, ix2_eq_valueIdx]; rfl
    rw [e, Zb_apply q k _ _ _ hi (by omega)]
    have h := hζ ⟨j, by omega⟩ ⟨8 * r.val + a.val, by omega⟩
    have e1 : 256 * j + 32 * ((8 * r.val + a.val) % 8) + (8 * r.val + a.val) / 8 = 256 * j + 32 * a.val + r.val := by omega
    have h' := h.trans (congrArg (fun u => ((ζ u : ℝ) : EReal)) e1)
    refine Eq.trans (sum_congr rfl fun d _ => ?_) h'
    have e2 : ∀ hh, (⟨128 * (f.val / 128) + 64 * ((256 * (f.val / 64 % 2) + t.val % 256) / 256) + d.val, hh⟩ : Fin 256) = ⟨64 * (f.val / 64) + d.val, by omega⟩ :=
      fun _ => Fin.ext (by show 128 * (f.val / 128) + 64 * ((256 * (f.val / 64 % 2) + t.val % 256) / 256) + d.val = 64 * (f.val / 64) + d.val; omega)
    have e3 : ∀ hh, (⟨256 * (t.val / 256) + (256 * (f.val / 64 % 2) + t.val % 256) % 256, hh⟩ : Fin 2048) = t :=
      fun _ => Fin.ext (by show 256 * (t.val / 256) + (256 * (f.val / 64 % 2) + t.val % 256) % 256 = t.val; omega)
    exact congrArg₂ (· * ·) (congrArg (fun y => k (ix4 0 _ _ y)) (e2 _)) (congrArg₂ (fun y z => q (ix3 0 y z)) (e2 _) (e3 _))
  rw [outB_apply, Acc_apply q k v _ _ _ ζ hS _ _ (Nat.le_refl _),
    ← sum_keys (fun s => V s * ((weight ζ t.val s : ℝ) : EReal)) (t.val / 256) hi
      (fun u hu => by show V u * ((weight ζ t.val u : ℝ) : EReal) = 0; rw [weight_zero _ _ _ (by omega), EReal.coe_zero, mul_zero])]
  refine sum_congr rfl fun m hm => sum_congr rfl fun row _ => ?_
  have hm' := mem_range.1 hm
  have hrow := row.isLt
  have et : 256 * (t.val / 256) + (256 * (f.val / 64 % 2) + t.val % 256) % 256 = t.val := by omega
  have h := hV ⟨t.val / 256 - m, by omega⟩ row
  rw [rV_emb]
  have b : blk (t.val / 256 - m) = ⟨t.val / 256 - m, by omega⟩ := Fin.ext (Nat.mod_eq_of_lt (by omega))
  have ef : ∀ hh, (⟨128 * (f.val / 128) + f.val % 128, hh⟩ : Fin 256) = f := fun _ => Fin.ext (by show 128 * (f.val / 128) + f.val % 128 = f.val; omega)
  refine congrArg₂ (· * ·) ?_ ?_
  · refine Eq.trans ?_ h
    rw [b]
    exact congrArg (fun y => v (ix4 0 _ y row)) (ef _)
  · exact congrArg (fun y => ((weight ζ y _ : ℝ) : EReal)) et
end

end Cert.Proof.Attn
end
-- ==== Proof.Attn.Array.lean ====
/- What the kernel's program leaves in its result: at every batch element, feature and query position the sum over the earlier keys
   of the value times the stick-breaking weight. -/
module

public import proofs.«01_k».proof.Proof.Attn.Host
public import proofs.«01_k».proof.Proof.Attn.Block

@[expose] public section

set_option maxRecDepth 16384

noncomputable section

namespace Cert.Proof.Attn

open Idealize.ShloMosaic Idealize.ShloMosaic.TcCoe Idealize.SL.Sem Finset
open Cert.KernelIdeal Cert.KernelIdeal.Facts₀ Cert.KernelIdeal.Facts

/-- An array whose entries are all real numbers. -/
def Reals (x : Vec Ideal S32x2048x1024 .f32) : Prop := ∀ i, x i = (((x i : EReal).toReal : ℝ) : EReal)

/-- The product of the query at position `t` with the key at position `u`, in head `h` of batch element `b`. -/
def score (Q K : Vec Ideal S32x2048x1024 .f32) (b : Fin 32) (h : Fin 16) (t : Fin 2048) (u : ℕ) : ℝ :=
  if hu : u < 2048 then
    ∑ d : Fin 64, (Q (ix3 b t ⟨64 * h.val + d.val, by omega⟩) : EReal).toReal * (K (ix3 b ⟨u, hu⟩ ⟨64 * h.val + d.val, by omega⟩) : EReal).toReal
  else 0

/-- The value at position `s`, of feature `f` of batch element `b`. -/
def valueAt (W : Vec Ideal S32x2048x1024 .f32) (b : Fin 32) (f : Fin 1024) (s : ℕ) : EReal :=
  if hs : s < 2048 then W (ix3 b ⟨s, hs⟩ f) else 0

/-- The attention's result. -/
def target (Q K W : Vec Ideal S32x2048x1024 .f32) : Vec Ideal S32x1024x2048 .bf16 := fun y =>
  ∑ s ∈ range 2048, valueAt W (y 0) (y 1) s
    * ((weight (fun u => score Q K (y 0) ⟨(y 1).val / 64, Nat.div_lt_of_lt_mul (y 1).isLt⟩ (y 2) u / 16) (y 2).val s : ℝ) : EReal)

theorem sixteenth : Ideal.ofBits .f32 0x3D800000#32 = ((1 / 16 : ℝ) : EReal) := by
  simp [Ideal.ofBits, Ideal.ieee]
  rw [← EReal.coe_mul]
  norm_num

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

variable (m : (ℓ : Loc nD τ sig) → Buf (Elt Ideal) ℓ) (ρ : Dev nD → PrngReg) (c : Dev nD)

theorem result_eq (hq : Reals (argQ m c)) (hk : Reals (argK m c)) :
    (dats m 0 c).arrAt 3 (cfgs 0).N = target (argQ m c) (argK m c) (argV m c) := by
  refine out_eq m c _ fun t f y => ?_
  have ht := pt_lt t
  have hf := f.isLt
  refine (block_apply _ _ _ f y
    (fun u => score (argQ m c) (argK m c) ⟨t.val / 4, by omega⟩ ⟨(256 * (t.val % 4) + f.val) / 64, by omega⟩ y u / 16)
    (valueAt (argV m c) ⟨t.val / 4, by omega⟩ ⟨256 * (t.val % 4) + f.val, by omega⟩) ?_ ?_).trans rfl
  · intro j row
    have hj := j.isLt
    have hr := row.isLt
    have hu : 256 * j.val + 32 * (row.val % 8) + row.val / 8 < 2048 := by omega
    show _ = ((score _ _ _ _ _ _ / 16 : ℝ) : EReal)
    unfold score
    rw [dif_pos hu, Finset.sum_div, coe_sum]
    refine Finset.sum_congr rfl fun d _ => ?_
    have hd := d.isLt
    rw [iblk_k, iblk_q, V_k, V_q, sixteenth]
    have e : (⟨256 * (t.val % 4) + (64 * (f.val / 64) + d.val), by omega⟩ : Fin 1024)
        = ⟨64 * ((256 * (t.val % 4) + f.val) / 64) + d.val, by omega⟩ := Fin.ext (by simp only; omega)
    refine (congrArg₂ (· * ·) ((hk _).trans (congrArg (fun g => (((argK m c (ix3 _ _ g) : EReal).toReal : ℝ) : EReal)) e))
      (congrArg (· * _) ((hq _).trans (congrArg (fun g => (((argQ m c (ix3 _ _ g) : EReal).toReal : ℝ) : EReal)) e)))).trans ?_
    rw [← EReal.coe_mul, ← EReal.coe_mul]
    congr 1
    ring
  · intro j row
    have hj := j.isLt
    have hr := row.isLt
    have hu : 256 * j.val + 32 * (row.val % 8) + row.val / 8 < 2048 := by omega
    rw [iblk_v, V_v]
    unfold valueAt
    rw [dif_pos hu]

theorem run_value (hq : ∀ c, Reals (argQ m c)) (hk : ∀ c, Reals (argK m c)) :
    θ_run defs (onTc (τ := τ) (main (F := Ideal))) ⟨m, fun _ => 0, ρ⟩ (fun r => ∀ c : Dev nD,
      r.2.mem ((c.tc : Thread nD τ).loc main_v13) = target (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (result_eq m c (hq c) (hk c)),
      ((h.1 c).2 main_arg0 (Pipeline.mem_restRefs_of main_arg0 (by decide) (by decide))).trans (Gen.V_main_arg0 m c),
      ((h.1 c).2 main_arg1 (Pipeline.mem_restRefs_of main_arg1 (by decide) (by decide))).trans (Gen.V_main_arg1 m c),
      ((h.1 c).2 main_arg2 (Pipeline.mem_restRefs_of main_arg2 (by decide) (by decide))).trans (Gen.V_main_arg2 m c)⟩) (run_main m ρ)

end Cert.Proof.Attn
end
-- ==== Proof.Attn.Ref.lean ====
/- What the reference's program leaves in its result: the same sum as the kernel's. -/
module

public import proofs.«01_k».proof.Proof.Attn.Array
public import proofs.«01_k».proof.Proof.Gen.ReferenceIdeal.Run
public import Idealize.ShloMosaic.Lib.Tactic

@[expose] public section

set_option maxRecDepth 16384

noncomputable section

namespace Cert.Proof.Attn.Ref

open Idealize.ShloMosaic Idealize.ShloMosaic.TcCoe Finset
open Cert.ReferenceIdeal Cert.ReferenceIdeal.Gen

abbrev V4 := FVec Ideal S32x16x2048x2048 .f32

def heads (x : FVec Ideal S32x2048x1024 .f32) : FVec Ideal S32x16x2048x64 .f32 :=
  transpose S32x16x2048x64 [0, 2, 1, 3] (shapeCast _ x shapeCasts_S32x2048x1024_S32x2048x16x64) transposes_S32x2048x16x64_S32x16x2048x64_0_2_1_3
def zero4 : V4 := broadcastInDim S32x16x2048x2048 ![] bcast_S_S32x16x2048x2048 (constant S_ .f32 0x00000000#32)
def scores (q k : FVec Ideal S32x2048x1024 .f32) : V4 :=
  mulf (Host.dotGeneral dot_S32x16x2048x64_S32x16x2048x64_S32x16x2048x2048_3_3_2_2_01_01 none (heads q) (heads k))
    (broadcastInDim S32x16x2048x2048 ![] bcast_S_S32x16x2048x2048 (constant S_ .f32 0x3E000000#32))
def mask : IVec S32x16x2048x2048 1 :=
  broadcastInDim S32x16x2048x2048 ![2, 3] bcast_S2048x2048_S32x16x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))
def logBeta (Z : V4) : V4 :=
  Host.negf (select (cmpf .une (subf (Host.negf Z) zero4) (subf (Host.negf Z) zero4)) (addf (Host.negf Z) zero4)
    (addf (maximumf (Host.negf Z) zero4) (Host.log1p (Host.exp (Host.negf (Host.absf (subf (Host.negf Z) zero4)))))))
def logKeep (Z : V4) : V4 := select mask (subf (logBeta Z) Z) zero4
def cum (Z : V4) : V4 :=
  Host.reduceWindowAdd ![1, 1, 1, 2048] ![1, 1, 1, 1] ![0, 0, 0, 0] ![0, 0, 0, 2047] (logKeep Z)
    (broadcastInDim S_ ![] bcast_S_S_ (constant S_ .f32 0x00000000#32))
    reduceWindows_S32x16x2048x2048_S32x16x2048x2048_w1s1p0_0_w1s1p0_0_w1s1p0_0_w2048s1p0_2047 h_S_
def stick (Z : V4) : V4 := select mask (Host.exp (addf (logBeta Z) (subf (cum Z) (logKeep Z)))) zero4
def out (q k v : FVec Ideal S32x2048x1024 .f32) : FVec Ideal S32x1024x2048 .bf16 :=
  truncf .bf16 (shapeCast _ (transpose S32x16x64x2048 [0, 1, 3, 2]
    (Host.dotGeneral dot_S32x16x2048x2048_S32x16x2048x64_S32x16x2048x64_3_2_2_3_01_01 none (stick (scores q k)) (heads v))
    transposes_S32x16x2048x64_S32x16x64x2048_0_1_3_2) shapeCasts_S32x16x64x2048_S32x1024x2048) bitsLt_bf16_f32

theorem res_eq (m : (ℓ : Loc nD τ sig) → Buf (Elt Ideal) ℓ) (c : Dev nD) :
    Value.res_main_v26 m c = out (m ((c.tc : Thread nD τ).loc main_arg0)) (m ((c.tc : Thread nD τ).loc main_arg1)) (m ((c.tc : Thread nD τ).loc main_arg2)) := by
  sl_kernel_rfl

/-! ## The running sum -/

theorem foldl_add {N : ℕ} (g : Fin N → EReal) (v : EReal) :
    (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

abbrev W4 : Shape := ⟨4, ![1, 1, 1, 2048]⟩
theorem numelW : W4.numel = 2048 := by decide +kernel
theorem symmW (n : Fin W4.numel) : (W4.rowMajor.symm n 3).val = n.val := by
  have h := Shape.rowMajor_val_four (W4.rowMajor.symm n)
  rw [Equiv.apply_symm_apply] at h
  have h0 := (W4.rowMajor.symm n 0).isLt
  have h1 := (W4.rowMajor.symm n 1).isLt
  have h2 := (W4.rowMajor.symm n 2).isLt
  simp at h h0 h1 h2
  omega
theorem symmW0 (n : Fin W4.numel) (a : Fin 4) (ha : a ≠ 3) : (W4.rowMajor.symm n a).val = 0 := by
  have h := (W4.rowMajor.symm n a).isLt
  fin_cases a <;> simp at h ha ⊢ <;> first | exact h | omega

theorem window_sum (x : V4) (init : EReal) (hinit : init = 0)
    (h : S32x16x2048x2048.ReduceWindows (![1, 1, 1, 2048] : Fin 4 → ℕ) ![1, 1, 1, 1] ![0, 0, 0, 0] ![0, 0, 0, 2047] S32x16x2048x2048)
    (b : Fin 32) (hd : Fin 16) (t s : Fin 2048) (X : ℕ → EReal) (hx : ∀ u : Fin 2048, x (ix4 b hd t u) = X u.val) :
    Ideal.hostReduceWindowAdd ![1, 1, 1, 2048] ![1, 1, 1, 1] ![0, 0, 0, 0] ![0, 0, 0, 2047] h x init (ix4 b hd t s) = ∑ u ∈ Ico s.val 2048, X u := by
  subst hinit
  unfold Ideal.hostReduceWindowAdd Host.reduceWindow
  refine (foldl_add _ _).trans ?_
  rw [zero_add]
  refine (Finset.sum_congr rfl fun n _ => ?_ : _ = ∑ n : Fin W4.numel, (fun k : ℕ => if s.val + k < 2048 then X (s.val + k) else 0) n.val).trans ?_
  · have h3 := symmW n
    dsimp only
    split
    · next hin =>
      have g := (hin 3).2
      change s.val * 1 + (W4.rowMajor.symm n 3).val - 0 < 2048 at g
      rw [h3] at g
      rw [if_pos (by omega)]
      refine (congrArg x (funext fun a => Fin.ext ?_)).trans (hx ⟨s.val + n.val, by omega⟩)
      match a with
      | ⟨0, _⟩ => show b.val * 1 + (W4.rowMajor.symm n 0).val - 0 = b.val; rw [symmW0 n 0 (by decide)]; omega
      | ⟨1, _⟩ => show hd.val * 1 + (W4.rowMajor.symm n 1).val - 0 = hd.val; rw [symmW0 n 1 (by decide)]; omega
      | ⟨2, _⟩ => show t.val * 1 + (W4.rowMajor.symm n 2).val - 0 = t.val; rw [symmW0 n 2 (by decide)]; omega
      | ⟨3, _⟩ => show s.val * 1 + (W4.rowMajor.symm n 3).val - 0 = s.val + n.val; rw [h3]; omega
    · next hin =>
      rw [if_neg fun hlt => hin fun a => by
        match a with
        | ⟨0, _⟩ => show 0 ≤ _ ∧ b.val * 1 + (W4.rowMajor.symm n 0).val - 0 < 32; rw [symmW0 n 0 (by decide)]; omega
        | ⟨1, _⟩ => show 0 ≤ _ ∧ hd.val * 1 + (W4.rowMajor.symm n 1).val - 0 < 16; rw [symmW0 n 1 (by decide)]; omega
        | ⟨2, _⟩ => show 0 ≤ _ ∧ t.val * 1 + (W4.rowMajor.symm n 2).val - 0 < 2048; rw [symmW0 n 2 (by decide)]; omega
        | ⟨3, _⟩ => show 0 ≤ _ ∧ s.val * 1 + (W4.rowMajor.symm n 3).val - 0 < 2048; rw [h3]; omega]
  · rw [Fin.sum_univ_eq_sum_range (fun k : ℕ => if s.val + k < 2048 then X (s.val + k) else 0), numelW, ← Finset.sum_filter,
      Finset.sum_Ico_eq_sum_range]
    refine Finset.sum_congr (Finset.ext fun k => ?_) fun _ _ => rfl
    have := s.isLt
    simp only [Finset.mem_filter, Finset.mem_range]
    omega

/-! ## The weights -/

theorem eighth : Ideal.ofBits .f32 0x3E000000#32 = ((1 / 8 : ℝ) : EReal) := by
  simp [Ideal.ofBits, Ideal.ieee]
  rw [← EReal.coe_mul]
  norm_num

theorem mask_apply (b : Fin 32) (h : Fin 16) (t u : Fin 2048) : mask (ix4 b h t u) = if u.val < t.val then 1#1 else 0#1 := by
  have := t.isLt
  have := u.isLt
  pointwise [mask]
  rw [WordCmp.cmpi_slt_ofNat (by omega) (by omega)]
  by_cases hlt : u.val < t.val <;> simp [hlt]

theorem zero4_apply (i) : zero4 i = 0 := by
  pointwise [zero4]

theorem logBeta_apply (Z : V4) (i) (z : ℝ) (hz : Z i = (z : EReal)) : logBeta Z i = ((-softplus (-z) : ℝ) : EReal) := by
  pointwise [logBeta]
  rw [hz, zero4_apply]
  rw [if_neg (by simp), sub_zero, show (-(z : EReal)) = ((-z : ℝ) : EReal) from (EReal.coe_neg z).symm]
  rw [show (FloatOps.absf (F := Ideal) (φ := .f32) (((-z : ℝ) : EReal)) : EReal) = ((|(-z)| : ℝ) : EReal) from ?_]
  · rw [← EReal.coe_neg, Ideal.exp_coe, Ideal.log1p, ← EReal.coe_one, ← EReal.coe_add, Ideal.log_coe, if_neg (by have := Real.exp_pos (-|(-z)|); linarith),
      ← EReal.coe_zero, ← EReal.coe_strictMono.monotone.map_max, ← EReal.coe_add, ← EReal.coe_neg]
    rfl
  · rw [Ideal.absf_def]
    rfl

section
variable (Z : V4) (b : Fin 32) (h : Fin 16) (t : Fin 2048) (z : ℕ → ℝ) (hz : ∀ u : Fin 2048, Z (ix4 b h t u) = ((z u.val : ℝ) : EReal))
include hz

theorem logKeep_apply (u : Fin 2048) : logKeep Z (ix4 b h t u) = ((logKeepM z t.val u.val : ℝ) : EReal) := by
  have hb := logBeta_apply Z _ _ (hz u)
  pointwise [logKeep]
  rw [hb, hz, mask_apply, zero4_apply, logKeepM]
  by_cases hlt : u.val < t.val
  · simp only [hlt, if_true]
    rw [← EReal.coe_sub]
    rfl
  · simp only [hlt, if_false]
    rfl

theorem cum_apply (s : Fin 2048) : cum Z (ix4 b h t s) = ((∑ u ∈ Ico s.val 2048, logKeepM z t.val u : ℝ) : EReal) := by
  unfold cum Host.reduceWindowAdd
  rw [Ideal.hostReduceWindowAdd_def]
  refine (window_sum (logKeep Z) _ ?_ _ b h t s (fun u => ((logKeepM z t.val u : ℝ) : EReal)) (logKeep_apply Z b h t z hz)).trans (coe_sum _ _).symm
  show Ideal.ofBits .f32 0x00000000#32 = 0
  simp [Ideal.ofBits, Ideal.ieee]

theorem stick_apply (s : Fin 2048) : stick Z (ix4 b h t s) = ((weight (fun u => z u / 2) t.val s.val : ℝ) : EReal) := by
  have hb := logBeta_apply Z _ _ (hz s)
  have hk := logKeep_apply Z b h t z hz s
  have hc := cum_apply Z b h t z hz s
  pointwise [stick]
  rw [hb, hk, hc, mask_apply, zero4_apply]
  by_cases hlt : s.val < t.val
  · simp only [hlt, if_true]
    rw [← EReal.coe_sub, ← EReal.coe_add, Ideal.exp_coe, weight_log z t.val s.val 2048 hlt t.isLt.le]
    rfl
  · simp only [hlt, if_false]
    rw [weight_zero _ _ _ (Nat.not_lt.1 hlt)]
    rfl

end

theorem scores_apply (q k : FVec Ideal S32x2048x1024 .f32) (hq : Reals q) (hk : Reals k) (b : Fin 32) (h : Fin 16) (t u : Fin 2048) :
    scores q k (ix4 b h t u) = ((score q k b h t u.val / 8 : ℝ) : EReal) := by
  pointwise [scores, heads]
  unfold score
  rw [dif_pos u.isLt, eighth]
  refine Eq.trans ?_ (congrArg (fun r : ℝ => (r : EReal)) (mul_one_div _ (8 : ℝ)))
  rw [EReal.coe_mul, coe_sum]
  congr 1
  refine Finset.sum_congr rfl fun d _ => ?_
  have e : (⟨h.val * 64 + d.val, by omega⟩ : Fin 1024) = ⟨64 * h.val + d.val, by omega⟩ := Fin.ext (by simp only; omega)
  rw [EReal.coe_mul, e]
  exact congrArg₂ (· * ·) (hq _) (hk _)

theorem out_apply (q k v : FVec Ideal S32x2048x1024 .f32) (hq : Reals q) (hk : Reals k) : out q k v = target q k v := by
  funext y
  obtain ⟨b, f, t, rfl⟩ : ∃ (b : Fin 32) (f : Fin 1024) (t : Fin 2048), y = ix3 b f t :=
    ⟨y 0, y 1, y 2, funext fun i => by fin_cases i <;> rfl⟩
  pointwise [out, heads]
  refine Eq.trans (Finset.sum_congr rfl fun s _ => ?_ : _ = ∑ s : Fin 2048, (fun s : ℕ => valueAt v b f s
    * ((weight (fun u => score q k b ⟨f.val / 64, by omega⟩ t u / 16) t.val s : ℝ) : EReal)) s.val) ?_
  · rw [stick_apply (scores q k) b ⟨f.val / 64, by omega⟩ t (fun u => score q k b ⟨f.val / 64, by omega⟩ t u / 8)
      (scores_apply q k hq hk b _ t), mul_comm]
    refine congrArg₂ (· * ·) ?_ (congrArg (fun g : ℕ → ℝ => ((weight g t.val s.val : ℝ) : EReal)) (funext fun u => ?_))
    · unfold valueAt
      rw [dif_pos s.isLt]
    · ring
  · rw [Fin.sum_univ_eq_sum_range (fun s : ℕ => valueAt v b f s
      * ((weight (fun u => score q k b ⟨f.val / 64, by omega⟩ t u / 16) t.val s : ℝ) : EReal))]
    rfl

end Cert.Proof.Attn.Ref
end
-- ==== Proof.Attn.Pre.lean ====
/- The precondition read at an entry: a query or key whose absolute value is less than infinity is a real number. -/
module

public import proofs.«01_k».proof.Proof.Attn.Array
public import proofs.«01_k».proof.Proof.Gen.Pre_finite

@[expose] public section

noncomputable section

namespace Cert.Proof.Attn

open Idealize.ShloMosaic

theorem inf_bits : Ideal.ofBits .f32 0x7F800000#32 = ⊤ := by simp [Ideal.ofBits, Ideal.ieee]

theorem real_of_abs_lt (x : EReal)
    (h : BitVec.ofBool (decide ((FloatOps.absf (F := Ideal) (φ := .f32) x : EReal) < Ideal.ofBits .f32 0x7F800000#32)) = 1#1) : x = ((x.toReal : ℝ) : EReal) := by
  rw [inf_bits] at h
  have h' : (FloatOps.absf (F := Ideal) (φ := .f32) x : EReal) < ⊤ := by
    by_contra hn
    rw [decide_eq_false hn] at h
    exact absurd h (by decide)
  rw [Ideal.absf_def] at h'
  induction x using EReal.rec with
  | bot => simp at h'
  | coe r => rfl
  | top => simp at h'

theorem reals_q (q k v : Vec Ideal Cert.Pre_finite.S32x2048x1024 .f32) (h : (Cert.Pre_finite.fn (F := Ideal) q k v).1 = fun _ => 1#1) : Reals q := by
  intro i
  have := congrFun h i
  pointwise [Cert.Pre_finite.fn] at this
  exact real_of_abs_lt _ this
theorem reals_k (q k v : Vec Ideal Cert.Pre_finite.S32x2048x1024 .f32) (h : (Cert.Pre_finite.fn (F := Ideal) q k v).2 = fun _ => 1#1) : Reals k := by
  intro i
  have := congrFun h i
  pointwise [Cert.Pre_finite.fn] at this
  exact real_of_abs_lt _ this

end Cert.Proof.Attn
end
-- ==== Proof.Ffn.Target.lean ====
/- What the dense feed-forward layer leaves in its result: at every row and feature the input plus the sum over the hidden features of
   the gated product. -/
module

public import proofs.«01_k».proof.Proof.Gen.Kernel2Ideal.Skeleton
public import Idealize.ShloMosaic.Lib.Pointwise

@[expose] public section

noncomputable section

namespace Cert.Proof.Ffn

open Idealize.ShloMosaic Idealize.ShloMosaic.TcCoe Finset
open Cert.Kernel2Ideal

/-- A row divided by the root of its mean square and multiplied by the gain. -/
def normed (x : Fin 1024 → EReal) (g : Fin 1024 → EReal) (d : Fin 1024) : EReal :=
  x d * Ideal.rsqrt (Ideal.div (∑ e, x e * x e) (Ideal.ofBits .f32 0x44800000#32) + Ideal.ofBits .f32 0x358637BD#32) * g d

/-- What one hidden feature adds: its gate times the logistic of the gate times the up projection times the output weight. -/
def part (h : Fin 1024 → EReal) (wg wu : Fin 1024 → EReal) (wo : EReal) : EReal :=
  (∑ d, h d * wg d) * Ideal.div 1 (1 + Ideal.exp (-∑ d, h d * wg d)) * (∑ d, h d * wu d) * wo

/-- The layer's result, in rows. -/
def target (x : Vec Ideal S32x2048x1024 .f32) (g : Vec Ideal S1024 .f32) (wi : Vec Ideal S1024x5632 .f32) (wo : Vec Ideal S2816x1024 .f32) :
    Vec Ideal S65536x1024 .f32 := fun y =>
  let r : Fin 1024 → EReal := fun d => x (ix3 ⟨(y 0).val / 2048, Nat.div_lt_of_lt_mul (y 0).isLt⟩ ⟨(y 0).val % 2048, Nat.mod_lt _ (by decide)⟩ d)
  r (y 1) + ∑ n : Fin 2816, part (normed r fun d => g (ix1 d)) (fun d => wi (ix2 d ⟨n.val, by omega⟩)) (fun d => wi (ix2 d ⟨2816 + n.val, by omega⟩)) (wo (ix2 n (y 1)))

end Cert.Proof.Ffn
end
-- ==== Proof.Ffn.Ref.lean ====
/- The reference of the dense feed-forward layer, read at an index. -/
module

public import proofs.«01_k».proof.Proof.Ffn.Target
public import proofs.«01_k».proof.Proof.Gen.Reference2Ideal.Run
public import Idealize.ShloMosaic.Lib.Pointwise
public import Idealize.ShloMosaic.Lib.Pipeline.ValueKit
public import Idealize.ShloMosaic.Lib.Tactic

@[expose] public section

set_option maxRecDepth 16384

noncomputable section

namespace Cert.Proof.Ffn.Ref

open Idealize.ShloMosaic Idealize.ShloMosaic.TcCoe Finset
open Cert.Reference2Ideal Cert.Reference2Ideal.Gen

def hidden (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf x x) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))
def proj (h : FVec Ideal S32x2048x1024 .f32) (w : FVec Ideal S1024x5632 .f32) : FVec Ideal S32x2048x5632 .f32 :=
  Host.dotGeneral dot_S32x2048x1024_S1024x5632_S32x2048x5632_2_0_01_1_n_n none h w
def gated (p : FVec Ideal S32x2048x5632 .f32) : FVec Ideal S32x2048x2816 .f32 :=
  mulf (mulf (extractStridedSlice S32x2048x2816 ![0, 0, 0] p slices_S32x2048x5632_S32x2048x2816_0_0_0)
    (Host.divf (broadcastInDim S32x2048x2816 ![] bcast_S_S32x2048x2816 (constant S_ .f32 0x3F800000#32))
      (addf (broadcastInDim S32x2048x2816 ![] bcast_S_S32x2048x2816 (constant S_ .f32 0x3F800000#32))
        (Host.exp (Host.negf (extractStridedSlice S32x2048x2816 ![0, 0, 0] p slices_S32x2048x5632_S32x2048x2816_0_0_0))))))
    (extractStridedSlice S32x2048x2816 ![0, 0, 2816] p slices_S32x2048x5632_S32x2048x2816_0_0_2816)
def out (x : FVec Ideal S32x2048x1024 .f32) (g : FVec Ideal S1024 .f32) (wi : FVec Ideal S1024x5632 .f32) (wo : FVec Ideal S2816x1024 .f32) :
    FVec Ideal S65536x1024 .f32 :=
  shapeCast _ (addf x (Host.dotGeneral dot_S32x2048x2816_S2816x1024_S32x2048x1024_2_0_01_1_n_n none (gated (proj (hidden x g) wi)) wo))
    shapeCasts_S32x2048x1024_S65536x1024

theorem hidden_apply (x : FVec Ideal S32x2048x1024 .f32) (g : FVec Ideal S1024 .f32) (b : Fin 32) (t : Fin 2048) (d : Fin 1024) :
    hidden x g (ix3 b t d) = normed (fun d => x (ix3 b t d)) (fun d => g (ix1 d)) d := by
  pointwise [hidden]
  rfl

theorem out_apply (x : FVec Ideal S32x2048x1024 .f32) (g : FVec Ideal S1024 .f32) (wi : FVec Ideal S1024x5632 .f32) (wo : FVec Ideal S2816x1024 .f32) :
    out x g wi wo = target x g wi wo := by
  funext y
  obtain ⟨r, j, rfl⟩ : ∃ (r : Fin 65536) (j : Fin 1024), y = ix2 r j := ⟨y 0, y 1, funext fun i => by fin_cases i <;> rfl⟩
  pointwise [out, gated, proj]
  refine congrArg (x _ + ·) (Finset.sum_congr rfl fun n _ => ?_)
  simp only [hidden_apply]
  rfl

end Cert.Proof.Ffn.Ref
end
-- ==== Proof.Ffn.Step.lean ====
/- The kernel of the dense feed-forward layer, one step at a time: the norm of a row, and the sum over one chunk of hidden features. -/
module

public import proofs.«01_k».proof.Proof.Gen.Kernel2Ideal.Skeleton
public import proofs.«01_k».proof.Proof.Ffn.Target
public import Idealize.ShloMosaic.Lib.Pointwise
public import Idealize.ShloMosaic.Lib.Pipeline.ValueKit
public import Idealize.ShloMosaic.Lib.Tactic

@[expose] public section

set_option maxRecDepth 16384

noncomputable section

namespace Cert.Proof.Ffn

open Idealize.ShloMosaic Idealize.ShloMosaic.TcCoe Finset
open Cert.Kernel2Ideal Cert.Kernel2Ideal.Facts₀ Cert.Kernel2Ideal.Facts Cert.Kernel2Ideal.Gen

/-! ## The payloads as one step -/
section
variable {F : FTy → Type} [FloatOps F] (h : Vec F S512x1024 .bf16) (wg wu : Vec F S1024x256 .bf16) (acc : Vec F S512x1024 .f32) (wo : Vec F S256x1024 .bf16)
theorem pay3_eq : k0_pay3 acc = acc := by
  funext i
  unfold k0_pay3
  simp only [shapeCast_self]
theorem pay1_eq : k0_pay1 h (k0_pay23 h wg) wu acc wo = k0_pay4 h wg wu acc wo := rfl
theorem pay6_eq : k0_pay6 h (k0_pay5 h wg) wu acc wo = k0_pay4 h wg wu acc wo := rfl
theorem pay9_eq : k0_pay9 (k0_pay7 acc) (k0_pay8 h wg wu) wo = k0_pay4 h wg wu acc wo := rfl
theorem pay10_eq : k0_pay10 h wg wu acc wo = k0_pay4 h wg wu acc wo := rfl
theorem pay12_eq : k0_pay12 h (k0_pay11 h wg) wu acc wo = k0_pay4 h wg wu acc wo := rfl
theorem pay15_eq : k0_pay15 (k0_pay13 acc) (k0_pay14 h wg wu) wo = k0_pay4 h wg wu acc wo := rfl
theorem pay16_eq : k0_pay16 h wg wu acc wo = k0_pay4 h wg wu acc wo := rfl
theorem pay18_eq : k0_pay18 h (k0_pay17 h wg) wu acc wo = k0_pay4 h wg wu acc wo := rfl
theorem pay21_eq : k0_pay21 (k0_pay19 acc) (k0_pay20 h wg wu) wo = k0_pay4 h wg wu acc wo := rfl
theorem pay22_eq : k0_pay22 h wg wu acc wo = k0_pay4 h wg wu acc wo := rfl
end

theorem hidden_apply (x : Vec Ideal S512x1024 .f32) (g : Vec Ideal S1x1024 .f32) (i : Fin 512) (d : Fin 1024) :
    k0_pay2 (F := Ideal) x g (ix2 i d) = normed (fun d => x (ix2 i d)) (fun d => g (ix2 0 d)) d := by
  pointwise [k0_pay2]
  rfl

/-- The hidden feature `n`'s addend, zero past the last feature. -/
def addend (h : Vec Ideal S512x1024 .bf16) (wg wu : Vec Ideal S1024x2816 .bf16) (wo : Vec Ideal S2816x1024 .bf16) (i : Fin 512) (j : Fin 1024) (n : ℕ) : EReal :=
  if hn : n < 2816 then part (fun d => h (ix2 i d)) (fun d => wg (ix2 d ⟨n, hn⟩)) (fun d => wu (ix2 d ⟨n, hn⟩)) (wo (ix2 ⟨n, hn⟩ j)) else 0

/-- One chunk of hidden features adds its addends. -/
theorem step_apply (h : Vec Ideal S512x1024 .bf16) (wg wu : Vec Ideal S1024x2816 .bf16) (acc : Vec Ideal S512x1024 .f32) (wo : Vec Ideal S2816x1024 .bf16)
    (o : ℕ) (ho : o + 256 ≤ 2816) (inb) (inb') (inb'') (i : Fin 512) (j : Fin 1024) (X : EReal)
    (hacc : acc (ix2 i j) = X + ∑ n ∈ range o, addend h wg wu wo i j n) :
    k0_pay4 (F := Ideal) h (View.ld wg (Rect.unit (s := S1024x2816) ![0, o] S1024x256.size inb)) (View.ld wu (Rect.unit (s := S1024x2816) ![0, o] S1024x256.size inb'))
      acc (View.ld wo (Rect.unit (s := S2816x1024) ![o, 0] S256x1024.size inb'')) (ix2 i j) = X + ∑ n ∈ range (o + 256), addend h wg wu wo i j n := by
  pointwise [k0_pay4]
  rw [hacc, Finset.sum_range_add, add_assoc, ← Fin.sum_univ_eq_sum_range (fun k => addend h wg wu wo i j (o + k)) 256]
  refine congrArg (fun s : EReal => X + ((∑ n ∈ range o, addend h wg wu wo i j n) + s)) (Finset.sum_congr rfl fun k _ => ?_)
  unfold addend
  rw [dif_pos (show o + k.val < 2816 by omega), zero_sub]
  rfl

end Cert.Proof.Ffn
end
-- ==== Proof.Ffn.Block.lean ====
/- The block of rows that one grid point of the dense feed-forward kernel leaves: its eleven chunks of hidden features added one after
   another to the input. -/
module

public import proofs.«01_k».proof.Proof.Ffn.Step
public import proofs.«01_k».proof.Proof.Gen.Kernel2Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Ffn

open Idealize.ShloMosaic Idealize.ShloMosaic.TcCoe Finset Idealize.SL.Sem
open Cert.Kernel2Ideal Cert.Kernel2Ideal.Facts₀ Cert.Kernel2Ideal.Facts Cert.Kernel2Ideal.Gen

theorem out_apply (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .bf16) (harg8 : arg8.IsWhole) (hc0 : cond0_0 i)
    (x0 : Vec Ideal S512x1024 .f32) (x1 : Vec Ideal S1x1024 .f32) (x2 x3 : Vec Ideal S1024x2816 .bf16) (x4 : Vec Ideal S2816x1024 .bf16) (a : Fin 512) (b : Fin 1024) :
    out0_A_5 (F := Ideal) c i arg2 harg2 arg3 harg3 arg4 harg4 arg5 harg5 arg6 harg6 arg7 harg7 arg8 harg8 hc0 x0 x1 x2 x3 x4 (ix2 a b)
      = x0 (ix2 a b) + ∑ n ∈ range 2816, addend (k0_pay2 x0 x1) x2 x3 x4 a b n := by
  frame_out
  rw [pay1_eq, pay22_eq, pay21_eq, pay18_eq, pay16_eq, pay15_eq, pay12_eq, pay10_eq, pay9_eq, pay6_eq, pay3_eq]
  refine step_apply _ _ _ _ _ 2560 (by decide) _ _ _ a b _ ?_
  refine step_apply _ _ _ _ _ 2304 (by decide) _ _ _ a b _ ?_
  refine step_apply _ _ _ _ _ 2048 (by decide) _ _ _ a b _ ?_
  refine step_apply _ _ _ _ _ 1792 (by decide) _ _ _ a b _ ?_
  refine step_apply _ _ _ _ _ 1536 (by decide) _ _ _ a b _ ?_
  refine step_apply _ _ _ _ _ 1280 (by decide) _ _ _ a b _ ?_
  refine step_apply _ _ _ _ _ 1024 (by decide) _ _ _ a b _ ?_
  refine step_apply _ _ _ _ _ 768 (by decide) _ _ _ a b _ ?_
  refine step_apply _ _ _ _ _ 512 (by decide) _ _ _ a b _ ?_
  refine step_apply _ _ _ _ _ 256 (by decide) _ _ _ a b _ ?_
  refine step_apply _ _ _ _ _ 0 (by decide) _ _ _ a b _ ?_
  rw [Finset.sum_range_zero, add_zero]

end Cert.Proof.Ffn
end
-- ==== Proof.Ffn.Host.lean ====
/- The arrays and the blocks that the dense feed-forward kernel is given, read at an index, and its result. -/
module

public import proofs.«01_k».proof.Proof.Ffn.Block
public import proofs.«01_k».proof.Proof.Gen.Kernel2Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Ffn

open Idealize.ShloMosaic Idealize.ShloMosaic.TcCoe Finset Idealize.SL.Sem
open Cert.Kernel2Ideal Cert.Kernel2Ideal.Facts₀ Cert.Kernel2Ideal.Facts

variable (m : (ℓ : Loc nD τ sig) → Buf (Elt Ideal) ℓ) (ρ : Dev nD → PrngReg) (c : Dev nD)

def argX : Vec Ideal S32x2048x1024 .f32 := m ((c.tc : Thread nD τ).loc main_arg0)
def argG : Vec Ideal S1024 .f32 := m ((c.tc : Thread nD τ).loc main_arg1)
def argIn : Vec Ideal S1024x5632 .f32 := m ((c.tc : Thread nD τ).loc main_arg2)
def argOut : Vec Ideal S2816x1024 .f32 := m ((c.tc : Thread nD τ).loc main_arg3)

theorem V_x (r : Fin 65536) (d : Fin 1024) : (Gen.V m c main_v0 : Vec Ideal S65536x1024 .f32) (ix2 r d)
    = argX m c (ix3 ⟨r.val / 2048, Nat.div_lt_of_lt_mul r.isLt⟩ ⟨r.val % 2048, Nat.mod_lt _ (by decide)⟩ d) := by
  unfold Gen.V
  after_reads_at
  rfl
theorem V_g (d : Fin 1024) : (Gen.V m c main_v3 : Vec Ideal S1x1024 .f32) (ix2 0 d) = argG m c (ix1 d) := by
  unfold Gen.V
  after_reads_at
  rfl
theorem V_in (d : Fin 1024) (n : Fin 5632) : (Gen.V m c main_v1 : Vec Ideal S1024x5632 .bf16) (ix2 d n) = argIn m c (ix2 d n) := by
  unfold Gen.V
  after_reads_at
  rfl
theorem V_out (n : Fin 2816) (d : Fin 1024) : (Gen.V m c main_v2 : Vec Ideal S2816x1024 .bf16) (ix2 n d) = argOut m c (ix2 n d) := by
  unfold Gen.V
  after_reads_at
  rfl

/-! ## The blocks -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 1] := by decide +kernel
theorem idx4 : ∀ t : Fin cfg0.N, win0_4.index t = ![0, 0] := by decide +kernel
theorem idx5 : ∀ t : Fin cfg0.N, win0_5.index t = ![t.val, 0] := by decide +kernel
theorem pt_lt (t : Fin cfg0.N) : t.val < 128 := lt_of_lt_of_eq t.isLt Gen.N_0

theorem iblk_x (t : Fin cfg0.N) (r : Fin 512) (d : Fin 1024) : (Gen.iblk m c 0 t : Vec Ideal S512x1024 .f32) (ix2 r d)
    = (Gen.V m c main_v0 : Vec Ideal S65536x1024 .f32) (ix2 ⟨512 * t.val + r.val, by have := pt_lt t; omega⟩ d) := by
  have := pt_lt t
  blk_ext [Gen.iblk, idx0 t]
theorem iblk_g (t : Fin cfg0.N) (d : Fin 1024) : (Gen.iblk m c 1 t : Vec Ideal S1x1024 .f32) (ix2 0 d)
    = (Gen.V m c main_v3 : Vec Ideal S1x1024 .f32) (ix2 0 d) := by
  blk_ext [Gen.iblk, idx1 t]
theorem iblk_wg (t : Fin cfg0.N) (d : Fin 1024) (n : Fin 2816) : (Gen.iblk m c 2 t : Vec Ideal S1024x2816 .bf16) (ix2 d n)
    = (Gen.V m c main_v1 : Vec Ideal S1024x5632 .bf16) (ix2 d ⟨n.val, by omega⟩) := by
  blk_ext [Gen.iblk, idx2 t]
theorem iblk_wu (t : Fin cfg0.N) (d : Fin 1024) (n : Fin 2816) : (Gen.iblk m c 3 t : Vec Ideal S1024x2816 .bf16) (ix2 d n)
    = (Gen.V m c main_v1 : Vec Ideal S1024x5632 .bf16) (ix2 d ⟨2816 + n.val, by omega⟩) := by
  blk_ext [Gen.iblk, idx3 t]
theorem iblk_wo (t : Fin cfg0.N) (n : Fin 2816) (d : Fin 1024) : (Gen.iblk m c 4 t : Vec Ideal S2816x1024 .bf16) (ix2 n d)
    = (Gen.V m c main_v2 : Vec Ideal S2816x1024 .bf16) (ix2 n d) := by
  blk_ext [Gen.iblk, idx4 t]

theorem sum_eq (x0 : Vec Ideal S512x1024 .f32) (x1 : Vec Ideal S1x1024 .f32) (x2 x3 : Vec Ideal S1024x2816 .bf16) (x4 : Vec Ideal S2816x1024 .bf16)
    (r : Fin 512) (j : Fin 1024) (row g : Fin 1024 → EReal) (wg wu : Fin 2816 → Fin 1024 → EReal) (wo : Fin 2816 → EReal)
    (h0 : ∀ d, x0 (ix2 r d) = row d) (h1 : ∀ d, x1 (ix2 0 d) = g d) (h2 : ∀ n d, x2 (ix2 d n) = wg n d) (h3 : ∀ n d, x3 (ix2 d n) = wu n d)
    (h4 : ∀ n, x4 (ix2 n j) = wo n) :
    x0 (ix2 r j) + ∑ n ∈ range 2816, addend (Gen.k0_pay2 x0 x1) x2 x3 x4 r j n = row j + ∑ n : Fin 2816, part (normed row g) (wg n) (wu n) (wo n) := by
  obtain rfl : (fun d => x0 (ix2 r d)) = row := funext h0
  obtain rfl : (fun d => x1 (ix2 0 d)) = g := funext h1
  obtain rfl : (fun n d => x2 (ix2 d n)) = wg := funext fun n => funext (h2 n)
  obtain rfl : (fun n d => x3 (ix2 d n)) = wu := funext fun n => funext (h3 n)
  obtain rfl : (fun n => x4 (ix2 n j)) = wo := funext h4
  refine congrArg (fun s : EReal => x0 (ix2 r j) + s) ?_
  rw [← Fin.sum_univ_eq_sum_range]
  refine Finset.sum_congr rfl fun n _ => ?_
  unfold addend
  rw [dif_pos n.isLt, show (fun d => Gen.k0_pay2 (F := Ideal) x0 x1 (ix2 r d)) = normed (fun d => x0 (ix2 r d)) (fun d => x1 (ix2 0 d)) from
    funext fun d => hidden_apply x0 x1 r d]

theorem block_apply (t : Fin cfg0.N) (r : Fin 512) (j : Fin 1024) : (Gen.outsAt0 m c t : Vec Ideal S512x1024 .f32) (ix2 r j)
    = target (argX m c) (argG m c) (argIn m c) (argOut m c) (ix2 ⟨512 * t.val + r.val, by have := pt_lt t; omega⟩ j) := by
  unfold Gen.outsAt0
  refine (out_apply _ _ _ _ _ _ _ _ _ _ _ _ _ _ _ _ _ _ _ _ _ _ r j).trans ?_
  exact sum_eq _ _ _ _ _ r j _ _ _ _ _ (fun d => (iblk_x m c t r d).trans (V_x m c _ d)) (fun d => (iblk_g m c t d).trans (V_g m c d))
    (fun n d => (iblk_wg m c t d n).trans (V_in m c d _)) (fun n d => (iblk_wu m c t d n).trans (V_in m c d _))
    (fun n => (iblk_wo m c t n j).trans (V_out m c n j))

theorem result_eq : (Gen.dats m 0 c).arrAt 5 cfg0.N = target (argX m c) (argG m c) (argIn m c) (argOut m c) := by
  refine (Gen.dats m 0 c).arrAt_eq_of_covers 5 _ (by decide +kernel) fun t hf y => ?_
  blk_simp
  rw [Gen.after0_5]
  have ht := pt_lt t
  obtain ⟨r, j, rfl⟩ : ∃ (r : Fin 512) (j : Fin 1024), y = ix2 r j := ⟨y 0, y 1, by funext i; fin_cases i <;> rfl⟩
  refine (block_apply m c t r j).trans (congrArg (target (argX m c) (argG m c) (argIn m c) (argOut m c)) (funext fun i => Fin.ext ?_))
  refine Eq.trans ?_ (Pipeline.Window.rect_emb_val win0_5 t (ix2 r j) i).symm
  rw [idx5 t]
  fin_cases i <;> simp [ix2] <;> omega

end Cert.Proof.Ffn
end
-- ==== Proof.Moe.Runs.lean ====
/- The expert kernel's body, case by case: what it leaves in its output block and in its scratch. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Facts₀ Cert.Kernel3Ideal.Facts
open Cert.Kernel3Ideal.Gen (cc0_moe_expert_ffn_skel cc0_moe_expert_ffn_eq_skeleton k0_pay1 k0_pay2 k0_pay3 k0_pay4)

variable {F : FTy → Type} [FloatOps F]

local notation "𝕄" => MT nD τ sig Unit (Elt F) ℕ (UR sig nD τ) ℕ

/-- The table of the tiles' experts and the number of tiles in use, as the body is handed them. -/
abbrev tb0 : Memref sig .tc .smem S264 .i32 := Memref.whole main_arg1
abbrev htb0 : tb0.IsWhole := Memref.isWhole_whole _
abbrev tb1 : Memref sig .tc .smem S1 .i32 := Memref.whole main_arg2
abbrev htb1 : tb1.IsWhole := Memref.isWhole_whole _

abbrev TbBuf (c : Dev nD) {S : Shape} {e : EltTy} (M : Memref sig .tc .smem S e) : Type := Buf (Elt F) (M.view.loc (c : Thread nD τ))
/-- Half of a table, held at `f`. -/
abbrev tbPt (c : Dev nD) {S : Shape} {e : EltTy} (M : Memref sig .tc .smem S e) (f : TbBuf (F := F) c M) : sProp 𝕄 :=
  M.view.loc (c : Thread nD τ) ↦{fullShare.right} f

/-- The tile is in use and the step is the first. -/
abbrev first (i : grid0.Coords) (w : BitVec 32) : Prop :=
  (Scalar.cmpi .ne (Scalar.extui (Scalar.andi (Scalar.cmpi .slt (BitVec.ofNat 32 (i 0).val) w) (Scalar.cmpi .eq (BitVec.ofNat 32 (i 1).val) 0#32))) 0#32) = 1#1

/-- Equal arguments give equal parts. -/
theorem pay2_eq {a a' : Vec F S512x1024 .bf16} {b b' d d' : Vec F S1x1024x896 .bf16} {e e' : Vec F S1x896x1024 .bf16}
    (h : a = a') (h1 : b = b') (h2 : d = d') (h3 : e = e') : k0_pay2 a b d e = k0_pay2 a' b' d' e' := by
  subst h; subst h1; subst h2; subst h3; rfl
theorem pay3_eq {a a' : Vec F S512x1024 .bf16} {b b' d d' : Vec F S1x1024x896 .bf16} {e e' : Vec F S1x896x1024 .bf16} {z z' : Vec F S512x1024 .f32}
    (h : a = a') (h1 : b = b') (h2 : d = d') (h3 : e = e') (h4 : z = z') : k0_pay3 a b d e z = k0_pay3 a' b' d' e' z' := by
  subst h; subst h1; subst h2; subst h3; subst h4; rfl

section
variable (c : Dev nD) (i : grid0.Coords) (w : BitVec 32)
  (arg4 : Memref sig .tc .vmem S512x1024 .f32) (harg4 : arg4.IsWhole) (arg5 : Memref sig .tc .vmem S1x1024x896 .bf16) (harg5 : arg5.IsWhole)
  (arg6 : Memref sig .tc .vmem S1x1024x896 .bf16) (harg6 : arg6.IsWhole) (arg7 : Memref sig .tc .vmem S1x896x1024 .bf16) (harg7 : arg7.IsWhole)
  (arg8 : Memref sig .tc .vmem S512x1024 .f32) (harg8 : arg8.IsWhole) (arg9 : Memref sig .tc .vmem S512x1024 .bf16) (harg9 : arg9.IsWhole)
  (x0 : Vec F S512x1024 .f32) (x1 : Vec F S1x1024x896 .bf16) (x2 : Vec F S1x1024x896 .bf16) (x3 : Vec F S1x896x1024 .bf16)
  (xt0 : TbBuf (F := F) c tb0)

set_option maxHeartbeats 1000000 in
/-- A tile in use, its first step: the rows are kept, cut to the narrow format, and the first part is the output. -/
theorem run_first (hc0 : first i w) (hc1 : k0_cond2 i w = 1#1) (hc2 : k0_cond3 i = 1#1) (hc3 : ¬k0_cond4 i = 1#1) (hc4 : ¬k0_cond5 i w = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt c tb0 xt0 ∗ tbPt c tb1 (fun _ => w)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay2 (k0_pay1 x0) x1 x2 x3) ∗ owns (c : Thread nD τ) arg9 fullShare (k0_pay1 x0) ∗ tbPt c tb0 xt0 ∗ tbPt c tb1 (fun _ => w)) -∗ K ⟨⟩))
      ⊢ wp frame (wpE (defs₀ (F := F)) Variants.none c none) E (cc0_moe_expert_ffn i tb0 htb0 tb1 htb1 arg4 harg4 arg5 harg5 arg6 harg6 arg7 harg7 arg8 harg8 arg9 harg9) K := by
  simp only [cc0_moe_expert_ffn_eq_skeleton]; unfold cc0_moe_expert_ffn_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
  obtain rfl := harg4.eq_unread hf0; obtain rfl := harg5.eq_unread hf1; obtain rfl := harg6.eq_unread hf2; obtain rfl := harg7.eq_unread hf3
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    refine (View.read_writes_full _ _ _ _ _).trans (pay2_eq ?_ ((View.readAt_full _ _ _).trans (harg5.read_unread _)) ((View.readAt_full _ _ _).trans (harg6.read_unread _)) ((View.readAt_full _ _ _).trans (harg7.read_unread _)))
    unfold run_first.sl.v13
    exact (View.readCov_full _ _ _ _ _).trans (congrArg k0_pay1 ((View.readAt_full _ _ _).trans (harg4.read_unread _)))
  isplitl [HS0]
  · iexists _; isplitr; swap; · iexact HS0
    ipureintro
    unfold run_first.sl.HS0_1
    exact (View.read_writes_full _ _ _ _ _).trans (congrArg k0_pay1 ((View.readAt_full _ _ _).trans (harg4.read_unread _)))
  isplitl [HT0]; · iexact HT0
  iexact HT1

set_option maxHeartbeats 1000000 in
/-- A tile in use, a later step: one more part is added to the output. -/
theorem run_next (y : Vec F S512x1024 .f32) (xb : Vec F S512x1024 .bf16) (hc0 : ¬first i w) (hc1 : k0_cond2 i w = 1#1) (hc2 : ¬k0_cond3 i = 1#1) (hc3 : k0_cond4 i = 1#1) (hc4 : ¬k0_cond5 i w = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xb ∗ tbPt c tb0 xt0 ∗ tbPt c tb1 (fun _ => w)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay3 xb x1 x2 x3 y) ∗ owns (c : Thread nD τ) arg9 fullShare xb ∗ tbPt c tb0 xt0 ∗ tbPt c tb1 (fun _ => w)) -∗ K ⟨⟩))
      ⊢ wp frame (wpE (defs₀ (F := F)) Variants.none c none) E (cc0_moe_expert_ffn i tb0 htb0 tb1 htb1 arg4 harg4 arg5 harg5 arg6 harg6 arg7 harg7 arg8 harg8 arg9 harg9) K := by
  simp only [cc0_moe_expert_ffn_eq_skeleton]; unfold cc0_moe_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hs0
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    exact (View.read_writes_full _ _ _ _ _).trans (pay3_eq ((View.readAt_full _ _ _).trans (harg9.read_unread _)) ((View.readAt_full _ _ _).trans (harg5.read_unread _)) ((View.readAt_full _ _ _).trans (harg6.read_unread _)) ((View.readAt_full _ _ _).trans (harg7.read_unread _)) ((View.readAt_full _ _ _).trans (harg8.read_unread _)))
  isplitl [HS0]
  · iexists _; isplitr; swap; · iexact HS0
    ipureintro
    exact harg9.read_unread _
  isplitl [HT0]; · iexact HT0
  iexact HT1

set_option maxHeartbeats 1000000 in
/-- A tile not in use, its first step: the output is zeroed. -/
theorem run_zero (xb : Vec F S512x1024 .bf16) (hc0 : ¬first i w) (hc1 : ¬k0_cond2 i w = 1#1) (hc2 : k0_cond3 i = 1#1) (hc3 : ¬k0_cond4 i = 1#1) (hc4 : k0_cond5 i w = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xb ∗ tbPt c tb0 xt0 ∗ tbPt c tb1 (fun _ => w)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay4 (F := F)) ∗ owns (c : Thread nD τ) arg9 fullShare xb ∗ tbPt c tb0 xt0 ∗ tbPt c tb1 (fun _ => w)) -∗ K ⟨⟩))
      ⊢ wp frame (wpE (defs₀ (F := F)) Variants.none c none) E (cc0_moe_expert_ffn i tb0 htb0 tb1 htb1 arg4 harg4 arg5 harg5 arg6 harg6 arg7 harg7 arg8 harg8 arg9 harg9) K := by
  simp only [cc0_moe_expert_ffn_eq_skeleton]; unfold cc0_moe_expert_ffn_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, HT0, HT1, Hk⟩
  obtain rfl := harg4.eq_unread hf0; obtain rfl := harg5.eq_unread hf1; obtain rfl := harg6.eq_unread hf2; obtain rfl := harg7.eq_unread hf3; obtain rfl := harg9.eq_unread hs0
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    exact View.read_writes_full _ _ _ _ _
  isplitl [HS0]
  · iexists _; isplitr; swap; · iexact HS0
    ipureintro
    exact harg9.read_unread _
  isplitl [HT0]; · iexact HT0
  iexact HT1

set_option maxHeartbeats 1000000 in
/-- A tile not in use, a later step: nothing is touched. -/
theorem run_none (y : Vec F S512x1024 .f32) (xb : Vec F S512x1024 .bf16) (hc0 : ¬first i w) (hc1 : ¬k0_cond2 i w = 1#1) (hc2 : ¬k0_cond3 i = 1#1) (hc3 : k0_cond4 i = 1#1) (hc4 : ¬k0_cond5 i w = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xb ∗ tbPt c tb0 xt0 ∗ tbPt c tb1 (fun _ => w)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xb ∗ tbPt c tb0 xt0 ∗ tbPt c tb1 (fun _ => w)) -∗ K ⟨⟩))
      ⊢ wp frame (wpE (defs₀ (F := F)) Variants.none c none) E (cc0_moe_expert_ffn i tb0 htb0 tb1 htb1 arg4 harg4 arg5 harg5 arg6 harg6 arg7 harg7 arg8 harg8 arg9 harg9) K := by
  simp only [cc0_moe_expert_ffn_eq_skeleton]; unfold cc0_moe_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hs0
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    exact harg8.read_unread _
  isplitl [HS0]
  · iexists _; isplitr; swap; · iexact HS0
    ipureintro
    exact harg9.read_unread _
  isplitl [HT0]; · iexact HT0
  iexact HT1

end

end Cert.Proof.Moe

end
-- ==== Proof.Moe.Cert.lean ====
/- What the expert kernel leaves in its output block after each step, and the run of the whole call. -/
module

public import proofs.«01_k».proof.Proof.Moe.Runs
public import Idealize.ShloMosaic.Lib.Claim

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Facts₀ Cert.Kernel3Ideal.Facts
open Cert.Kernel3Ideal.Gen (hostOps0 hostOps0_sub main_chain N_0 bigSep_W0 scopedRest0_eq launch₀0 k0_pay1 k0_pay2 k0_pay3 k0_pay4)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The buffers after the host operations. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

/-- A buffer that no host operation writes is found as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [List.Forall, StableHlo.unary_writes, Finset.mem_singleton]
    exact ⟨StableHlo.devRef_ne_of_ne h0, StableHlo.devRef_ne_of_ne h1⟩))

/-- The two tables. -/
def tbl : pre0.Contents (Elt F) := fun j => V m (0 : Dev nD) (pre0.ref j)
theorem V_tbl (c : Dev nD) (j : Fin 2) : V m c (pre0.ref j) = tbl m j := by
  obtain rfl : c = 0 := Subsingleton.elim _ _; rfl
/-- Every block that the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The number of tiles in use. -/
def nu : BitVec 32 := (tbl m 1 : S1.Idx → BitVec 32) (ix1 0)
theorem tbl_one : (tbl m 1 : S1.Idx → BitVec 32) = fun _ => nu m := by
  funext i
  refine congrArg (tbl m 1 : S1.Idx → BitVec 32) (funext fun a => ?_)
  match a with
  | ⟨0, _⟩ => exact Subsingleton.elim (α := Fin 1) _ _
theorem atD_one : (tbl m).atD 1 ![0] = nu m := by
  unfold Pipeline.Prefetch.Contents.atD
  rw [dif_pos (by decide)]
  exact congrFun (tbl_one m) _
/-- Tile `q` is in use. -/
def used (q : ℕ) : Prop := Scalar.cmpi .slt (BitVec.ofNat 32 q) (nu m) = 1#1

theorem phiT (c : Dev nD) : (Pipeline.ΦT pre0 (tbl m) c : sProp 𝕄) = iprop(tbPt c tb0 (tbl m 0) ∗ tbPt c tb1 (fun _ => nu m)) := by
  rw [show (tbPt c tb1 (fun _ => nu m) : sProp 𝕄) = tbPt c tb1 (tbl m 1) from congrArg (fun f : TbBuf (F := F) c tb1 => (tbPt c tb1 f : sProp 𝕄)) (tbl_one m).symm]
  unfold Pipeline.ΦT Pipeline.prefHeld
  rw [show (Finset.univ : Finset (Fin 2)) = insert (0 : Fin 2) {(1 : Fin 2)} from by decide,
    bigSep_insert (by decide), bigSep_singleton]
  rfl

/-! ## The steps' conditions -/

theorem tile_of (t : Fin grid0.N) : (grid0.coords t 0).val = t.val / 4 := by
  have ht : t.val < 1056 := Nat.lt_of_lt_of_eq t.isLt N_0
  have e : (grid0.coords t 0).val = t.val / 4 % 264 := Pipeline.Grid.coords_val t 0 (by decide) rfl
  omega
theorem step_of (t : Fin grid0.N) : (grid0.coords t 1).val = t.val % 4 := by
  have e : (grid0.coords t 1).val = t.val / 1 % 4 := Pipeline.Grid.coords_val t 1 (by decide) rfl
  omega

theorem cond2_iff (t : Fin grid0.N) : k0_cond2 (grid0.coords t) (nu m) = 1#1 ↔ used m (t.val / 4) := by
  unfold k0_cond2 used
  dsimp only
  rw [tile_of]
  generalize Scalar.cmpi .slt (BitVec.ofNat 32 (t.val / 4)) (nu m) = b
  revert b; decide
theorem cond3_iff (t : Fin grid0.N) : k0_cond3 (grid0.coords t) = 1#1 ↔ t.val % 4 = 0 := by
  unfold k0_cond3
  rw [step_of]
  have h : t.val % 4 < 4 := Nat.mod_lt _ (by decide)
  generalize t.val % 4 = k at h ⊢
  revert k; decide
theorem cond4_iff (t : Fin grid0.N) : k0_cond4 (grid0.coords t) = 1#1 ↔ ¬t.val % 4 = 0 := by
  unfold k0_cond4
  rw [step_of]
  have h : t.val % 4 < 4 := Nat.mod_lt _ (by decide)
  generalize t.val % 4 = k at h ⊢
  revert k; decide
theorem cond5_iff (t : Fin grid0.N) : k0_cond5 (grid0.coords t) (nu m) = 1#1 ↔ ¬used m (t.val / 4) ∧ t.val % 4 = 0 := by
  unfold k0_cond5 used
  dsimp only
  rw [step_of, tile_of]
  have h : t.val % 4 < 4 := Nat.mod_lt _ (by decide)
  generalize Scalar.cmpi .slt (BitVec.ofNat 32 (t.val / 4)) (nu m) = b
  generalize t.val % 4 = k at h ⊢
  revert b k; decide
theorem first_iff (t : Fin grid0.N) : first (grid0.coords t) (nu m) ↔ used m (t.val / 4) ∧ t.val % 4 = 0 := by
  unfold first used
  rw [step_of, tile_of]
  have h : t.val % 4 < 4 := Nat.mod_lt _ (by decide)
  generalize Scalar.cmpi .slt (BitVec.ofNat 32 (t.val / 4)) (nu m) = b
  generalize t.val % 4 = k at h ⊢
  revert b k; decide

theorem bits_idle : ∀ a b d e : BitVec 1, (d = 1#1 ↔ ¬b = 1#1) → (e = 1#1 ↔ ¬a = 1#1 ∧ b = 1#1) →
    ((!(a == 1#1 && b == 1#1) && !(a == 1#1 && d == 1#1) && !(e == 1#1)) = true ↔ ¬a = 1#1 ∧ ¬b = 1#1) := by decide
theorem idle_eq (a : (pcfg0 (F := F)).Adm) (i : grid0.Coords) : (cfg0 a).idle 4 i = idle0 a.1 4 i := rfl
theorem idle0_eq (pf : pre0.Contents (Elt F)) (i : grid0.Coords) :
    idle0 pf 4 i = (!(k0_cond2 i (pf.atD 1 ![0]) == 1#1 && k0_cond3 i == 1#1) && !(k0_cond2 i (pf.atD 1 ![0]) == 1#1 && k0_cond4 i == 1#1) && !(k0_cond5 i (pf.atD 1 ![0]) == 1#1)) := rfl
theorem idle_iff (hO : Ok m) (t : Fin (cfgM m hO).N) : (cfgM m hO).idle 4 ((cfgM m hO).grid.coords t) = true ↔ ¬used m (t.val / 4) ∧ ¬t.val % 4 = 0 := by
  have e := (idle_eq (adm m hO) (grid0.coords t)).trans (idle0_eq (tbl m) (grid0.coords t))
  rw [atD_one] at e
  have h4 := (cond4_iff t).trans (not_congr (cond3_iff t).symm)
  have h5 := (cond5_iff m t).trans (and_congr (not_congr (cond2_iff m t).symm) (cond3_iff t).symm)
  refine (Eq.congr_left e).trans ?_
  rw [← cond2_iff m t, ← cond3_iff t]
  exact bits_idle _ _ _ _ h4 h5

theorem live0 (hO : Ok m) (t : Fin (cfgM m hO).N) : (cfgM m hO).idle 0 ((cfgM m hO).grid.coords t) = false := rfl
theorem live1 (hO : Ok m) (t : Fin (cfgM m hO).N) : (cfgM m hO).idle 1 ((cfgM m hO).grid.coords t) = false := rfl
theorem live2 (hO : Ok m) (t : Fin (cfgM m hO).N) : (cfgM m hO).idle 2 ((cfgM m hO).grid.coords t) = false := rfl
theorem live3 (hO : Ok m) (t : Fin (cfgM m hO).N) : (cfgM m hO).idle 3 ((cfgM m hO).grid.coords t) = false := rfl

theorem flush4 (a : (pcfg0 (F := F)).Adm) : ∀ t : Fin (cfg0 a).N, ((cfg0 a).win 4).flush t = true ↔ t.val % 4 = 3 :=
  (fun t => Pipeline.Window.flushOf_reads cc0_transform_4 reads0_4 hreads0_4 0 (by decide) (by decide) (Pipeline.Window.sep_of_coord cc0_transform_4 0 0 (fun _ => rfl) (by decide)) (P := 4) (m := 3) (by decide) rfl t : ∀ t : Fin grid0.N, Pipeline.Window.flushOf grid0 true cc0_transform_4 t = true ↔ t.val % 4 = 3)

/-! ## The blocks, and what each step leaves -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Point number `n`. -/
def pt (hO : Ok m) (n : ℕ) : Fin (cfgM m hO).N := ⟨min n 1055, lt_of_lt_of_eq (by omega : min n 1055 < 1056) (show 1056 = (cfgM m hO).N from N_0.symm)⟩
theorem pt_val (hO : Ok m) (t : Fin (cfgM m hO).N) : pt m hO t.val = t := by
  have ht : t.val < 1056 := Nat.lt_of_lt_of_eq t.isLt N_0
  exact Fin.ext (by show min t.val 1055 = t.val; omega)

/-- The narrow rows of tile `q`. -/
def rows (hO : Ok m) (c : Dev nD) (q : ℕ) : Vec F S512x1024 .bf16 := k0_pay1 (iblk m hO c 0 (pt m hO (4 * q)))
/-- The sum of the first parts of tile `q`, through part `j`. -/
def acc (hO : Ok m) (c : Dev nD) (q : ℕ) : ℕ → Vec F S512x1024 .f32
  | 0 => k0_pay2 (rows m hO c q) (iblk m hO c 1 (pt m hO (4 * q))) (iblk m hO c 2 (pt m hO (4 * q))) (iblk m hO c 3 (pt m hO (4 * q)))
  | j + 1 => k0_pay3 (rows m hO c q) (iblk m hO c 1 (pt m hO (4 * q + (j + 1)))) (iblk m hO c 2 (pt m hO (4 * q + (j + 1)))) (iblk m hO c 3 (pt m hO (4 * q + (j + 1)))) (acc hO c q j)
open Classical in
/-- The output block after point `n`. -/
def out (hO : Ok m) (c : Dev nD) (n : ℕ) : Vec F S512x1024 .f32 :=
  if used m (n / 4) then acc m hO c (n / 4) (n % 4) else k0_pay4 (F := F)

theorem out_first (hO : Ok m) (c : Dev nD) (t : Fin (cfgM m hO).N) (hu : used m (t.val / 4)) (h0 : t.val % 4 = 0) :
    out m hO c t.val = k0_pay2 (k0_pay1 (iblk m hO c 0 t)) (iblk m hO c 1 t) (iblk m hO c 2 t) (iblk m hO c 3 t) := by
  have e : 4 * (t.val / 4) = t.val := by omega
  unfold out; rw [if_pos hu, h0]; unfold acc rows; rw [e, pt_val]
theorem rows_first (hO : Ok m) (c : Dev nD) (t : Fin (cfgM m hO).N) (h0 : t.val % 4 = 0) :
    rows m hO c (t.val / 4) = k0_pay1 (iblk m hO c 0 t) := by
  have e : 4 * (t.val / 4) = t.val := by omega
  unfold rows; rw [e, pt_val]
theorem out_next (hO : Ok m) (c : Dev nD) (t : Fin (cfgM m hO).N) (hu : used m (t.val / 4)) (h0 : ¬t.val % 4 = 0) :
    out m hO c t.val = k0_pay3 (rows m hO c (t.val / 4)) (iblk m hO c 1 t) (iblk m hO c 2 t) (iblk m hO c 3 t) (out m hO c (t.val - 1)) := by
  obtain ⟨j, hj⟩ : ∃ j, t.val % 4 = j + 1 := ⟨t.val % 4 - 1, by omega⟩
  have e1 : (t.val - 1) / 4 = t.val / 4 := by omega
  have e2 : (t.val - 1) % 4 = j := by omega
  have e : 4 * (t.val / 4) + (j + 1) = t.val := by omega
  unfold out; rw [e1, e2, if_pos hu, if_pos hu, hj]
  rw [acc, e, pt_val]
theorem out_none (hO : Ok m) (c : Dev nD) (n : ℕ) (hu : ¬used m (n / 4)) : out m hO c n = k0_pay4 (F := F) := by
  unfold out; rw [if_neg hu]

abbrev scM : Memref sig .tc .vmem S512x1024 .bf16 := Memref.whole cc0_scratch0

/-- The scratch between the points: through a tile in use it holds the tile's narrow rows. -/
def scr (hO : Ok m) (c : Dev nD) (n : ℕ) : sProp 𝕄 :=
  iprop(∃ x, ⌜used m (n / 4) → ¬n % 4 = 0 → x = rows m hO c (n / 4)⌝ ∗ owns (c : Thread nD τ) scM fullShare x)

theorem phiA (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data of the call. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => out m hO c t.val
  Φ t := iprop((scr m hO c t.val ∗ (∃ r, prngReg c r)) ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = out m hO c t.val := by dsimp only [dats]; try rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- After a tile's first step the output's buffer holds what the step before left. -/
theorem before4 (hO : Ok m) (c : Dev nD) : ∀ (k : ℕ) (t : Fin (cfgM m hO).N), t.val % 4 = k + 1 → ∀ d, (dats m hO 0 c).before 4 t d = out m hO c (t.val - 1)
  | k, t, hk, d => by
    have ht : t.val < 1056 := Nat.lt_of_lt_of_eq t.isLt N_0
    have hp : t.val - 1 < (cfgM m hO).N := Nat.lt_of_le_of_lt (Nat.sub_le _ _) t.isLt
    rw [Dat.before_of_pos _ _ _ (by omega) rfl]
    have hf : ((cfgM m hO).win 4).flush ⟨t.val - 1, hp⟩ = false := by
      rw [← Bool.not_eq_true, flush4]; show ¬(t.val - 1) % 4 = 3; omega
    rw [hf, if_neg Bool.false_ne_true]
    unfold Dat.left
    cases hi : (cfgM m hO).idle 4 ((cfgM m hO).grid.coords ⟨t.val - 1, hp⟩) with
    | true =>
      obtain ⟨hu, hz⟩ := (idle_iff m hO ⟨t.val - 1, hp⟩).mp hi
      replace hu : ¬used m ((t.val - 1) / 4) := hu
      replace hz : ¬(t.val - 1) % 4 = 0 := hz
      obtain ⟨k, rfl⟩ : ∃ k', k = k' + 1 := ⟨k - 1, by omega⟩
      show (dats m hO 0 c).before 4 ⟨t.val - 1, hp⟩ d = _
      rw [before4 hO c k ⟨t.val - 1, hp⟩ (by show (t.val - 1) % 4 = k + 1; omega) d]
      show out m hO c (t.val - 1 - 1) = _
      rw [out_none m hO c _ hu, out_none m hO c _ (by rw [show (t.val - 1 - 1) / 4 = (t.val - 1) / 4 by omega]; exact hu)]
    | false =>
      show (dats m hO 0 c).kept 4 ⟨t.val - 1, hp⟩ d = _
      exact (show (dats m hO 0 c).kept 4 ⟨t.val - 1, hp⟩ d = (dats m hO 0 c).after 4 ⟨t.val - 1, hp⟩ from rfl).trans (after4 m hO c _)

end Cert.Proof.Moe

end
-- ==== Proof.Moe.Run.lean ====
/- The run of the expert kernel's call: each step does what `out` says. -/
module

public import proofs.«01_k».proof.Proof.Moe.Cert
public import Idealize.ShloMosaic.Lib.Claim

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Facts₀ Cert.Kernel3Ideal.Facts
open Cert.Kernel3Ideal.Gen (hostOps0 hostOps0_sub main_chain N_0 bigSep_W0 scopedRest0_eq launch₀0 k0_pay1 k0_pay2 k0_pay3 k0_pay4)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

abbrev ms0 (hO : Ok m) (t : Fin (cfgM m hO).N) : Memref sig .tc .vmem S512x1024 .f32 := spec0_0.stage ((cfgM m hO).slots t 0)
abbrev ms1 (hO : Ok m) (t : Fin (cfgM m hO).N) : Memref sig .tc .vmem S1x1024x896 .bf16 := spec0_1.stage ((cfgM m hO).slots t 1)
abbrev ms2 (hO : Ok m) (t : Fin (cfgM m hO).N) : Memref sig .tc .vmem S1x1024x896 .bf16 := spec0_2.stage ((cfgM m hO).slots t 2)
abbrev ms3 (hO : Ok m) (t : Fin (cfgM m hO).N) : Memref sig .tc .vmem S1x896x1024 .bf16 := spec0_3.stage ((cfgM m hO).slots t 3)
abbrev ms4 (hO : Ok m) (t : Fin (cfgM m hO).N) : Memref sig .tc .vmem S512x1024 .f32 := spec0_4.stage ((cfgM m hO).slots t 4)

abbrev bodyAt (a : (pcfg0 (F := F)).Adm) (t : Fin (cfg0 a).N) : Prog (TpuEff nD τ sig (Elt F) Λ₀ .tc) PUnit :=
  cc0_moe_expert_ffn (grid0.coords t) tb0 htb0 tb1 htb1 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves_in0 (hO : Ok m) (c : Dev nD) (t : Fin (cfgM m hO).N) : (dats m hO 0 c).leavesExact 0 t = owns (c : Thread nD τ) (ms0 m hO t) fullShare (iblk m hO c 0 t) := by
  rw [← after0]; unfold Dat.leavesExact; rw [live0 m hO t]; try rfl
theorem leaves_in1 (hO : Ok m) (c : Dev nD) (t : Fin (cfgM m hO).N) : (dats m hO 0 c).leavesExact 1 t = owns (c : Thread nD τ) (ms1 m hO t) fullShare (iblk m hO c 1 t) := by
  rw [← after1]; unfold Dat.leavesExact; rw [live1 m hO t]; try rfl
theorem leaves_in2 (hO : Ok m) (c : Dev nD) (t : Fin (cfgM m hO).N) : (dats m hO 0 c).leavesExact 2 t = owns (c : Thread nD τ) (ms2 m hO t) fullShare (iblk m hO c 2 t) := by
  rw [← after2]; unfold Dat.leavesExact; rw [live2 m hO t]; try rfl
theorem leaves_in3 (hO : Ok m) (c : Dev nD) (t : Fin (cfgM m hO).N) : (dats m hO 0 c).leavesExact 3 t = owns (c : Thread nD τ) (ms3 m hO t) fullShare (iblk m hO c 3 t) := by
  rw [← after3]; unfold Dat.leavesExact; rw [live3 m hO t]; try rfl
theorem leaves_live (hO : Ok m) (c : Dev nD) (t : Fin (cfgM m hO).N) (h : (cfgM m hO).idle 4 ((cfgM m hO).grid.coords t) = false) :
    (dats m hO 0 c).leavesExact 4 t = owns (c : Thread nD τ) (ms4 m hO t) fullShare (out m hO c t.val) := by
  rw [← after4]; unfold Dat.leavesExact; rw [h]; try rfl
theorem leaves_flush (hO : Ok m) (c : Dev nD) (t : Fin (cfgM m hO).N) (h : (cfgM m hO).idle 4 ((cfgM m hO).grid.coords t) = true)
    (hf : ((cfgM m hO).win 4).flush t = true) :
    (dats m hO 0 c).leavesExact 4 t = owns (c : Thread nD τ) (ms4 m hO t) fullShare (out m hO c t.val) := by
  rw [← after4]; unfold Dat.leavesExact; rw [h, hf]; try rfl

/-- An idle step may leave the buffer as it found it. -/
theorem leaves_none (hO : Ok m) (c : Dev nD) (t : Fin (cfgM m hO).N) (hu : ¬used m (t.val / 4)) (h0 : ¬t.val % 4 = 0) (d) :
    (owns (c : Thread nD τ) (ms4 m hO t) fullShare ((dats m hO 0 c).before 4 t d) : sProp 𝕄) ⊢ (dats m hO 0 c).leavesExact 4 t := by
  have hi := (idle_iff m hO t).mpr ⟨hu, h0⟩
  cases hf : ((cfgM m hO).win 4).flush t with
  | true =>
    have hb : (dats m hO 0 c).before 4 t d = out m hO c t.val := by
      rw [before4 m hO c (t.val % 4 - 1) t (by omega) d, out_none m hO c _ hu,
        out_none m hO c _ (by rw [show (t.val - 1) / 4 = t.val / 4 by omega]; exact hu)]
    rw [leaves_flush m hO c t hi hf, hb]
  | false =>
    rw [Dat.leavesExact_idle _ _ _ hi hf]
    iintro H
    iexists d
    iexact H

set_option maxHeartbeats 1600000 in
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [leaves_in0 m hO c t, leaves_in1 m hO c t, leaves_in2 m hO c t, leaves_in3 m hO c t]
  rw [show (dats m hO 0 c).owesAt () t.succ = (dats m hO 0 c).owesAt () t.castSucc from rfl]
  rw [show (dats m hO 0 c).Φ t.castSucc = iprop((scr m hO c t.val ∗ (∃ r, prngReg c r)) ∗ Pipeline.ΦT pre0 (tbl m) c) from rfl,
    show (dats m hO 0 c).Φ t.succ = iprop((scr m hO c (t.val + 1) ∗ (∃ r, prngReg c r)) ∗ Pipeline.ΦT pre0 (tbl m) c) from rfl, phiT]
  unfold scr
  have live (h : ¬(¬used m (t.val / 4) ∧ ¬t.val % 4 = 0)) : (cfgM m hO).idle 4 ((cfgM m hO).grid.coords t) = false := by
    rw [← Bool.not_eq_true, idle_iff]; exact h
  have hn : ¬(t.val + 1) % 4 = 0 → (t.val + 1) / 4 = t.val / 4 := fun h => by omega
  by_cases hu : used m (t.val / 4)
  · by_cases h0 : t.val % 4 = 0
    · rw [leaves_live m hO c t (live fun h => h.1 hu), out_first m hO c t hu h0]
      iintro ⟨⟨⟨⟨%x, %hx, HS0⟩, Hg⟩, ⟨HT0, HT1⟩⟩, Ho, ⟨%d0, H0⟩, ⟨%d1, H1⟩, ⟨%d2, H2⟩, ⟨%d3, H3⟩, ⟨%d4, H4⟩⟩
      iapply (run_first c (grid0.coords t) (nu m) _ _ _ _ _ _ _ _ _ _ _ _ (iblk m hO c 0 t) (iblk m hO c 1 t) (iblk m hO c 2 t) (iblk m hO c 3 t) (tbl m 0) ((first_iff m t).mpr ⟨hu, h0⟩) ((cond2_iff m t).mpr hu) ((cond3_iff t).mpr h0) (fun h => (cond4_iff t).mp h h0) (fun h => ((cond5_iff m t).mp h).1 hu) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexists _; isplitr; swap; · iexact HS0
            ipureintro
            intro _ h; rw [hn h]; exact (rows_first m hO c t h0).symm
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [leaves_live m hO c t (live fun h => h.1 hu), out_next m hO c t hu h0]; simp only [fun d => before4 m hO c (t.val % 4 - 1) t (by omega) d]
      iintro ⟨⟨⟨⟨%x, %hx, HS0⟩, Hg⟩, ⟨HT0, HT1⟩⟩, Ho, ⟨%d0, H0⟩, ⟨%d1, H1⟩, ⟨%d2, H2⟩, ⟨%d3, H3⟩, ⟨%d4, H4⟩⟩
      obtain rfl := hx hu h0
      iapply (run_next c (grid0.coords t) (nu m) _ _ _ _ _ _ _ _ _ _ _ _ (iblk m hO c 0 t) (iblk m hO c 1 t) (iblk m hO c 2 t) (iblk m hO c 3 t) (tbl m 0) _ _ (fun h => h0 ((first_iff m t).mp h).2) ((cond2_iff m t).mpr hu) (fun h => h0 ((cond3_iff t).mp h)) ((cond4_iff t).mpr h0) (fun h => ((cond5_iff m t).mp h).1 hu) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexists _; isplitr; swap; · iexact HS0
            ipureintro
            intro _ h; rw [hn h]
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
  · by_cases h0 : t.val % 4 = 0
    · rw [leaves_live m hO c t (live fun h => h.2 h0), out_none m hO c t.val hu]
      iintro ⟨⟨⟨⟨%x, %hx, HS0⟩, Hg⟩, ⟨HT0, HT1⟩⟩, Ho, ⟨%d0, H0⟩, ⟨%d1, H1⟩, ⟨%d2, H2⟩, ⟨%d3, H3⟩, ⟨%d4, H4⟩⟩
      iapply (run_zero c (grid0.coords t) (nu m) _ _ _ _ _ _ _ _ _ _ _ _ (iblk m hO c 0 t) (iblk m hO c 1 t) (iblk m hO c 2 t) (iblk m hO c 3 t) (tbl m 0) _ (fun h => hu ((first_iff m t).mp h).1) (fun h => hu ((cond2_iff m t).mp h)) ((cond3_iff t).mpr h0) (fun h => (cond4_iff t).mp h h0) ((cond5_iff m t).mpr ⟨hu, h0⟩) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexists _; isplitr; swap; · iexact HS0
            ipureintro
            intro h h1; rw [hn h1] at h; exact absurd h hu
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · skip
      iintro ⟨⟨⟨⟨%x, %hx, HS0⟩, Hg⟩, ⟨HT0, HT1⟩⟩, Ho, ⟨%d0, H0⟩, ⟨%d1, H1⟩, ⟨%d2, H2⟩, ⟨%d3, H3⟩, ⟨%d4, H4⟩⟩
      iapply (run_none c (grid0.coords t) (nu m) _ _ _ _ _ _ _ _ _ _ _ _ (iblk m hO c 0 t) (iblk m hO c 1 t) (iblk m hO c 2 t) (iblk m hO c 3 t) (tbl m 0) _ _ (fun h => hu ((first_iff m t).mp h).1) (fun h => hu ((cond2_iff m t).mp h)) (fun h => h0 ((cond3_iff t).mp h)) ((cond4_iff t).mpr h0) (fun h => h0 ((cond5_iff m t).mp h).2) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexists _; isplitr; swap; · iexact HS0
            ipureintro
            intro h h1; rw [hn h1] at h; exact absurd h hu
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iapply (leaves_none m hO c t hu h0 d4); iexact H4

theorem defs_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

set_option maxHeartbeats 3200000 in
theorem body_obligation (hO : Ok m) (c : Dev nD) : BodyObligation (dats (F := F) m hO 0 c) (defs₀ (F := F)) Variants.none () Set.univ := fun t => by
  rw [bigSep_W0, bigSep_W0, defs_row m hO]
  exact triple_restated (sound_body m hO c t) rfl .rfl fun _ => .rfl

/-! ## The run -/

theorem phi_in (hO : Ok m) (c : Dev nD) : iprop(Pipeline.ΦA spec0 c ∗ Pipeline.ΦT pre0 (tbl m) c) ⊢ (dats m hO 0 c).Φ 0 := by
  rw [show (dats m hO 0 c).Φ 0 = iprop((scr m hO c 0 ∗ (∃ r, prngReg c r)) ∗ Pipeline.ΦT pre0 (tbl m) c) from rfl, phiA]
  unfold scr
  iintro ⟨⟨⟨%x, HS⟩, Hg⟩, HT⟩
  isplitl [HS Hg]
  · isplitl [HS]
    · iexists x; isplitr
      · ipureintro; intro _ h; exact absurd rfl h
      iexact HS
    iexact Hg
  iexact HT

theorem phi_out (hO : Ok m) (c : Dev nD) : (dats m hO 0 c).Φ (Fin.last (cfgM m hO).N) ⊢ Pipeline.ΦA spec0 c := by
  rw [show (dats m hO 0 c).Φ (Fin.last (cfgM m hO).N) = iprop((scr m hO c (Fin.last (cfgM m hO).N).val ∗ (∃ r, prngReg c r)) ∗ Pipeline.ΦT pre0 (tbl m) c) from rfl, phiA]
  unfold scr
  iintro ⟨⟨⟨%x, -, HS⟩, Hg⟩, -⟩
  isplitl [HS]
  · iexists x; iexact HS
  iexact Hg

set_option backward.isDefEq.respectTransparency.types false in
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_tbl m)
    (hin := phi_in m hO) (hout := phi_out m hO)

/-- The call runs, its arguments end unchanged, its result is the output array after every point, and its counters are zero. -/
theorem run (hO : Ok m) : θ_run defs (onTc (τ := τ) (main (F := F))) ⟨m, fun _ => 0, ρ⟩ (fun r => (∀ c : Dev nD,
      r.2.mem ((c.tc : Thread nD τ).loc main_v2) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 4,
      ((h.1 c).1 0).trans (((dats m hO 0 c).arrAt_in 0 rfl _).trans ((A_eq m hO c 0).trans (V_arg m c main_arg0 (by decide) (by decide)))),
      ((h.1 c).2 main_arg1 (by decide : main_arg1 ∈ Pipeline.restRefs sig spec0)).trans (V_arg m c main_arg1 (by decide) (by decide)),
      ((h.1 c).2 main_arg2 (by decide : main_arg2 ∈ Pipeline.restRefs sig spec0)).trans (V_arg m c main_arg2 (by decide) (by decide)),
      ((h.1 c).2 main_arg3 (by decide : main_arg3 ∈ Pipeline.restRefs sig spec0)).trans (V_arg m c main_arg3 (by decide) (by decide)),
      ((h.1 c).2 main_arg4 (by decide : main_arg4 ∈ Pipeline.restRefs sig spec0)).trans (V_arg m c main_arg4 (by decide) (by decide))⟩, h.2⟩) (run_main m ρ hO)

end Cert.Proof.Moe

end
-- ==== Proof.Moe.Ok.lean ====
/- The blocks that the two tables name: with experts from 0 to 7 and at least one tile in use, each lies inside its array. -/
module

public import proofs.«01_k».proof.Proof.Moe.Cert

@[expose] public section

set_option maxRecDepth 16384

noncomputable section

namespace Cert.Proof.Moe

open Idealize.ShloMosaic Idealize.ShloMosaic.TcCoe
open Cert.Kernel3Ideal Cert.Kernel3Ideal.Facts₀ Cert.Kernel3Ideal.Facts

variable {F : FTy → Type} [FloatOps F]
variable (m : (ℓ : Loc nD τ sig) → Buf (Elt F) ℓ)

/-- The expert of tile `q`, as the table has it. -/
def te (q : Fin 264) : BitVec 32 := (tbl m 0 : S264.Idx → BitVec 32) (ix1 q)

/-- What the precondition says of the tables. -/
structure Good : Prop where
  pos : 1 ≤ (nu m).toNat
  lt : (nu m).toNat < 2 ^ 31
  te : ∀ q, (te m q).toNat < 8

variable {m}

theorem slt_iff (n : BitVec 32) (hn : n.toNat < 2 ^ 31) (q : ℕ) (hq : q < 2 ^ 31) : Scalar.cmpi .slt (BitVec.ofNat 32 q) n = 1#1 ↔ q < n.toNat := by
  have e : (BitVec.ofNat 32 q).toNat = q := by rw [BitVec.toNat_ofNat]; omega
  show IntOp.cmpi .slt _ _ = 1#1 ↔ _
  rw [WordCmp.cmpi_slt_of_lt (by rw [e]; exact hq) hn, WordCmp.ofBool_decide_eq_one_iff, e]

theorem used_iff (h : Good m) (q : ℕ) (hq : q < 264) : used m q ↔ q < (nu m).toNat := slt_iff _ h.lt q (by omega)

theorem min_toNat (n : BitVec 32) (hp : 1 ≤ n.toNat) (hn : n.toNat < 2 ^ 31) (q : ℕ) (hq : q < 264) :
    (Scalar.minsi (BitVec.ofNat 32 q) (Scalar.subi n 1#32)).toNat = min q (n.toNat - 1) := by
  have e : (BitVec.ofNat 32 q).toNat = q := by rw [BitVec.toNat_ofNat]; omega
  have es : (Scalar.subi n 1#32).toNat = n.toNat - 1 := by
    show (n - 1#32).toNat = _
    rw [BitVec.toNat_sub]; simp; omega
  show (IntOp.minsi _ _).toNat = _
  unfold IntOp.minsi
  have hs : (BitVec.ofNat 32 q).slt (Scalar.subi n 1#32) = decide (q < n.toNat - 1) := by
    unfold BitVec.slt
    rw [BitVec.toInt_eq_toNat_of_lt (by rw [e]; omega), BitVec.toInt_eq_toNat_of_lt (by rw [es]; omega), e, es]
    simp
  rw [hs]
  by_cases hc : q < n.toNat - 1
  · rw [if_pos (by simpa using hc), e]; omega
  · rw [if_neg (by simpa using hc), es]; omega

theorem at1 (h) (n1) : (tbl m).at 1 (Rect.unit (s := S1) ![0] S1.size h) n1 = nu m := congrFun (tbl_one m) _

theorem at0 (q : Fin 264) (v : ℕ) (hv : v = q.val) (h) (n1) : (tbl m).at 0 (Rect.unit (s := S264) ![v] S1.size h) n1 = te m q := by
  subst hv
  refine congrArg (tbl m 0 : S264.Idx → BitVec 32) (funext fun a => Fin.ext ?_)
  match a with
  | ⟨0, _⟩ =>
    have h0 : ∀ x : Fin 1, q.val + 1 * x.val = q.val := fun x => by omega
    exact h0 _

variable (h : Good m) (i : grid0.Coords)

theorem tile_lt : (i 0).val < 264 := (i 0).isLt
theorem step_lt : (i 1).val < 4 := (i 1).isLt

/-- The part of the hidden features that step `i` takes. -/
def jeff (m : (ℓ : Loc nD τ sig) → Buf (Elt F) ℓ) (i : grid0.Coords) : ℕ := if (i 0).val < (nu m).toNat then (i 1).val else 3
theorem jeff_lt : jeff m i < 4 := by
  have := step_lt i
  unfold jeff; split <;> omega

include h in
theorem jeff_eq : (Scalar.select (Scalar.cmpi .slt (BitVec.ofNat 32 (i 0).val) (nu m)) (BitVec.ofNat 32 (i 1).val) 3#32 : BitVec 32) = BitVec.ofNat 32 (jeff m i) := by
  have hl := tile_lt i
  have hi := slt_iff _ h.lt (i 0).val (by omega)
  unfold jeff
  by_cases hc : (i 0).val < (nu m).toNat
  · rw [if_pos hc, hi.mpr hc]; rfl
  · rw [if_neg hc]
    have hb : Scalar.cmpi .slt (BitVec.ofNat 32 (i 0).val) (nu m) = 0#1 := by
      have := mt hi.mp hc
      revert this
      generalize Scalar.cmpi .slt (BitVec.ofNat 32 (i 0).val) (nu m) = b
      revert b; decide
    rw [hb]; rfl

theorem tile_eq : (Scalar.indexCast (BitVec.ofNat 32 (i 0).val) : Index).toNat = (i 0).val := by
  have hl := tile_lt i
  show (BitVec.ofNat 32 (i 0).val).toNat = _
  rw [BitVec.toNat_ofNat]; omega

include h in
theorem tr0 (p p') : cc0_transform_0 p p' (tbl m) i = ![min (i 0).val ((nu m).toNat - 1), 0] := by
  show ![(Scalar.minsi (BitVec.ofNat 32 (i 0).val) (Scalar.subi ((tbl m).at 1 (Rect.unit (s := S1) ![0] S1.size p) p') 1#32)).toNat, 0] = _
  rw [at1 p p', min_toNat _ h.pos h.lt _ (tile_lt i)]
  try rfl
include h in
theorem tr1 (p p' p'') : cc0_transform_1 p p' p'' (tbl m) i = ![(te m (i 0)).toNat, 0, jeff m i] := by
  have hj := jeff_lt (m := m) i
  show ![((tbl m).at 0 (Rect.unit (s := S264) ![(Scalar.indexCast (BitVec.ofNat 32 (i 0).val) : Index).toNat] S1.size (p i)) p' : BitVec 32).toNat, 0, (Scalar.select (Scalar.cmpi .slt (BitVec.ofNat 32 (i 0).val) ((tbl m).at 1 (Rect.unit (s := S1) ![0] S1.size p'') p')) (BitVec.ofNat 32 (i 1).val) 3#32 : BitVec 32).toNat] = _
  rw [at1 p'' p', at0 (i 0) _ (tile_eq i) (p i) p', jeff_eq h i, BitVec.toNat_ofNat, Nat.mod_eq_of_lt (by omega)]
  try rfl
include h in
theorem tr2 (p p' p'') : cc0_transform_2 p p' p'' (tbl m) i = ![(te m (i 0)).toNat, 0, jeff m i + 4] := by
  have hj := jeff_lt (m := m) i
  show ![((tbl m).at 0 (Rect.unit (s := S264) ![(Scalar.indexCast (BitVec.ofNat 32 (i 0).val) : Index).toNat] S1.size (p i)) p' : BitVec 32).toNat, 0, (Scalar.addi (Scalar.select (Scalar.cmpi .slt (BitVec.ofNat 32 (i 0).val) ((tbl m).at 1 (Rect.unit (s := S1) ![0] S1.size p'') p')) (BitVec.ofNat 32 (i 1).val) 3#32 : BitVec 32) 4#32).toNat] = _
  rw [at1 p'' p', at0 (i 0) _ (tile_eq i) (p i) p', jeff_eq h i,
    show (Scalar.addi (BitVec.ofNat 32 (jeff m i)) 4#32).toNat = jeff m i + 4 by
      show (BitVec.ofNat 32 (jeff m i) + 4#32).toNat = _
      rw [BitVec.toNat_add, BitVec.toNat_ofNat, BitVec.toNat_ofNat]; omega]
  try rfl
include h in
theorem tr3 (p p' p'') : cc0_transform_3 p p' p'' (tbl m) i = ![(te m (i 0)).toNat, jeff m i, 0] := by
  have hj := jeff_lt (m := m) i
  show ![((tbl m).at 0 (Rect.unit (s := S264) ![(Scalar.indexCast (BitVec.ofNat 32 (i 0).val) : Index).toNat] S1.size (p i)) p' : BitVec 32).toNat, (Scalar.select (Scalar.cmpi .slt (BitVec.ofNat 32 (i 0).val) ((tbl m).at 1 (Rect.unit (s := S1) ![0] S1.size p'') p')) (BitVec.ofNat 32 (i 1).val) 3#32 : BitVec 32).toNat, 0] = _
  rw [at1 p'' p', at0 (i 0) _ (tile_eq i) (p i) p', jeff_eq h i, BitVec.toNat_ofNat, Nat.mod_eq_of_lt (by omega)]
  try rfl

include h in
theorem ok : Ok m := by
  refine ⟨fun i => ⟨?_, .inl rfl⟩, fun i => ⟨?_, .inr (Affine.block_words_dvd (by decide) (by decide))⟩, fun i => ⟨?_, .inr (Affine.block_words_dvd (by decide) (by decide))⟩,
    fun i => ⟨?_, .inr (Affine.block_words_dvd (by decide) (by decide))⟩⟩
  · rw [tr0 h i]
    have := tile_lt i
    intro a
    match a with
    | ⟨0, _⟩ => show (min (i 0).val ((nu m).toNat - 1) + 1) * 512 ≤ 135168; omega
    | ⟨1, _⟩ => show (0 + 1) * 1024 ≤ 1024; omega
  · rw [tr1 h i]
    have := h.te (i 0)
    have := jeff_lt (m := m) i
    intro a
    match a with
    | ⟨0, _⟩ => show ((te m (i 0)).toNat + 1) * 1 ≤ 8; omega
    | ⟨1, _⟩ => show (0 + 1) * 1024 ≤ 1024; omega
    | ⟨2, _⟩ => show (jeff m i + 1) * 896 ≤ 7168; omega
  · rw [tr2 h i]
    have := h.te (i 0)
    have := jeff_lt (m := m) i
    intro a
    match a with
    | ⟨0, _⟩ => show ((te m (i 0)).toNat + 1) * 1 ≤ 8; omega
    | ⟨1, _⟩ => show (0 + 1) * 1024 ≤ 1024; omega
    | ⟨2, _⟩ => show (jeff m i + 4 + 1) * 896 ≤ 7168; omega
  · rw [tr3 h i]
    have := h.te (i 0)
    have := jeff_lt (m := m) i
    intro a
    match a with
    | ⟨0, _⟩ => show ((te m (i 0)).toNat + 1) * 1 ≤ 8; omega
    | ⟨1, _⟩ => show (jeff m i + 1) * 896 ≤ 3584; omega
    | ⟨2, _⟩ => show (0 + 1) * 1024 ≤ 1024; omega

end Cert.Proof.Moe
end
-- ==== Proof.Moe.Pre.lean ====
/- The precondition on the tables, read at their entries. -/
module

public import proofs.«01_k».proof.Proof.Moe.Ok
public import proofs.«01_k».proof.Proof.Gen.Pre_tables
public import Idealize.ShloMosaic.Lib.ReduceAll
public import Idealize.ShloMosaic.Lib.Pointwise

@[expose] public section

noncomputable section

namespace Cert.Proof.Moe

open Idealize.ShloMosaic Idealize.ShloMosaic.TcCoe

variable {F : FTy → Type} [FloatOps F]

theorem pre_tables (x : Vec F Cert.Pre_tables.S135168x1024 .f32) (e : IVec Cert.Pre_tables.S264 32) (n : IVec Cert.Pre_tables.S1 32)
    (wi : Vec F Cert.Pre_tables.S8x1024x7168 .f32) (wo : Vec F Cert.Pre_tables.S8x3584x1024 .f32)
    (h : Cert.Pre_tables.fn (F := F) x e n wi wo = fun _ => 1#1) : (∀ q, (e (ix1 q)).toNat < 8) ∧ 1 ≤ (n (ix1 0)).toNat ∧ (n (ix1 0)).toNat < 2 ^ 31 := by
  have h0 := congrFun h ix0
  unfold Cert.Pre_tables.fn at h0
  dsimp only at h0
  obtain ⟨ha, hb⟩ := IntOp.andi_eq_one.1 h0
  haveI : Subsingleton Cert.Pre_tables.S_.Idx := ⟨fun a b => funext fun k => k.elim0⟩
  refine ⟨fun q => ?_, ?_⟩
  · have hq : IntOp.andi (IntOp.cmpi .sge (e (ix1 q)) 0#32) (IntOp.cmpi .slt (e (ix1 q)) (BitVec.ofNat 32 8)) = 1#1 := Host.reduce_andi_all _ _ _ _ _ ha (ix1 q)
    obtain ⟨h1, h2⟩ := IntOp.andi_eq_one.1 hq
    have g1 : (0#32).sle (e (ix1 q)) = true := by
      cases hc : (0#32).sle (e (ix1 q)) with
      | true => rfl
      | false => exact absurd ((show IntOp.cmpi .sge (e (ix1 q)) 0#32 = BitVec.ofBool ((0#32).sle (e (ix1 q))) from rfl).symm.trans h1) (by rw [hc]; decide)
    have g2 : (e (ix1 q)).slt (BitVec.ofNat 32 8) = true := by
      cases hc : (e (ix1 q)).slt (BitVec.ofNat 32 8) with
      | true => rfl
      | false => exact absurd ((show IntOp.cmpi .slt (e (ix1 q)) (BitVec.ofNat 32 8) = BitVec.ofBool ((e (ix1 q)).slt (BitVec.ofNat 32 8)) from rfl).symm.trans h2) (by rw [hc]; decide)
    have k1 := of_decide_eq_true g1
    have k2 := of_decide_eq_true g2
    rw [BitVec.toInt_eq_toNat_cond] at k1 k2
    have h3 := (e (ix1 q)).isLt
    have c0 : (0#32 : BitVec 32).toInt = 0 := by decide
    have c8 : (BitVec.ofNat 32 8 : BitVec 32).toInt = 8 := by decide
    rw [BitVec.toInt_eq_toNat_cond] at k1
    rw [c8] at k2
    split at k2 <;> simp at k1 <;> omega
  · have hq : IntOp.cmpi .sge (n (ix1 0)) 1#32 = 1#1 := by
      refine Eq.trans (congrArg (fun v => IntOp.cmpi .sge v 1#32) ?_) hb
      exact congrArg n (funext fun a => by match a with | ⟨0, _⟩ => exact Subsingleton.elim (α := Fin 1) _ _)
    have g1 : (1#32).sle (n (ix1 0)) = true := by
      cases hc : (1#32).sle (n (ix1 0)) with
      | true => rfl
      | false => exact absurd ((show IntOp.cmpi .sge (n (ix1 0)) 1#32 = BitVec.ofBool ((1#32).sle (n (ix1 0))) from rfl).symm.trans hq) (by rw [hc]; decide)
    have k1 := of_decide_eq_true g1
    have c1 : (1#32 : BitVec 32).toInt = 1 := by decide
    rw [c1, BitVec.toInt_eq_toNat_cond] at k1
    have h3 := (n (ix1 0)).isLt
    split at k1 <;> omega

open Cert.Kernel3Ideal in
/-- The tables that the precondition admits. -/
theorem good (m : (ℓ : Loc nD τ sig) → Buf (Elt F) ℓ)
    (h : ∀ c : Dev nD, Cert.Pre_tables.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) : Good m := by
  obtain ⟨h1, h2, h3⟩ := pre_tables _ _ _ _ _ (h 0)
  have e0 : tbl m 0 = m (((0 : Dev nD).tc : Thread nD τ).loc main_arg1) := V_arg m 0 main_arg1 (by decide) (by decide)
  have e1 : tbl m 1 = m (((0 : Dev nD).tc : Thread nD τ).loc main_arg2) := V_arg m 0 main_arg2 (by decide) (by decide)
  refine ⟨?_, ?_, fun q => ?_⟩
  · unfold nu; rw [e1]; exact h2
  · unfold nu; rw [e1]; exact h3
  · unfold te; rw [e0]; exact h1 q

end Cert.Proof.Moe
end
-- ==== Proof.Moe.Bits.lean ====
/- The frame of the expert kernel as printed: its program is the idealized one, word for word, read at bits. -/
module

public import proofs.«01_k».proof.Defs
public import proofs.«01_k».proof.Proof.Gen.Kernel3
public import proofs.«01_k».proof.Proof.Moe.Run
public import proofs.«01_k».proof.Proof.Moe.Pre

@[expose] public section

noncomputable section

namespace Cert.Proof.Moe

open Idealize.ShloMosaic Idealize.SL.Sem Idealize.ShloMosaic.Tactic

/-- The frame of the idealized program, at bits. -/
def FrameBits : Prop :=
  ∀ (m : (ℓ : Loc Cert.Kernel3Ideal.nD Cert.Kernel3Ideal.τ Cert.Kernel3Ideal.sig) → Buf (Elt Bits) ℓ) (g : Dev Cert.Kernel3Ideal.nD → PrngReg),
    (∀ c : Dev Cert.Kernel3Ideal.nD, Cert.Pre_tables.fn (F := Bits) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) = fun _ => 1#1) →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

theorem frameBits : FrameBits := fun m ρ hpre => (θ_run _ _ _).mono (fun r h => ⟨fun c => (h.1 c).2, h.2⟩) (run (F := Bits) m ρ (ok (good m hpre)))

theorem frameBits_eq : FrameBits = Cert.quiescent_Kernel3 := by
  sl_kernel_rfl

theorem frame_kernel : Cert.quiescent_Kernel3 := frameBits_eq ▸ frameBits

end Cert.Proof.Moe

end
-- ==== Proof.Moe.Target.lean ====
/- What the experts leave in their result: at every row and feature of a tile in use the sum over the hidden features of the gated
   product, with the weights of the tile's expert; zero past the tiles in use. -/
module

public import proofs.«01_k».proof.Proof.Gen.Kernel3Ideal.Skeleton
public import proofs.«01_k».proof.Proof.Ffn.Target
public import Idealize.ShloMosaic.Lib.Pointwise
public import Idealize.ShloMosaic.Lib.Pipeline.ValueKit

@[expose] public section

set_option maxRecDepth 16384

noncomputable section

namespace Cert.Proof.Moe

open Idealize.ShloMosaic Idealize.ShloMosaic.TcCoe Finset
open Cert.Kernel3Ideal Cert.Kernel3Ideal.Gen
open Cert.Proof.Ffn (part)

/-- The expert that a table's word names. -/
def expert (w : BitVec 32) : Fin 8 := ⟨min w.toInt.toNat 7, by omega⟩

/-- One row of a tile through its expert. -/
def row (x : Fin 1024 → EReal) (wi : Vec Ideal S8x1024x7168 .f32) (wo : Vec Ideal S8x3584x1024 .f32) (e : Fin 8) (j : Fin 1024) : EReal :=
  ∑ n : Fin 3584, part x (fun d => wi (ix3 e d ⟨n.val, by omega⟩)) (fun d => wi (ix3 e d ⟨3584 + n.val, by omega⟩)) (wo (ix3 e n j))

/-- The result. -/
def target (x : Vec Ideal S135168x1024 .f32) (e : Vec Ideal S264 .i32) (n : Vec Ideal S1 .i32) (wi : Vec Ideal S8x1024x7168 .f32) (wo : Vec Ideal S8x3584x1024 .f32) :
    Vec Ideal S135168x1024 .f32 := fun y =>
  let q : Fin 264 := ⟨(y 0).val / 512, Nat.div_lt_of_lt_mul (y 0).isLt⟩
  if IntOp.cmpi .slt (BitVec.ofNat 32 q.val) (n (ix1 0)) = 1#1 then row (fun d => x (ix2 (y 0) d)) wi wo (expert (e (ix1 q))) (y 1) else 0

theorem pay1_apply (x : Vec Ideal S512x1024 .f32) (i : Fin 512) (j : Fin 1024) : k0_pay1 (F := Ideal) x (ix2 i j) = x (ix2 i j) := by
  pointwise [k0_pay1]
  try rfl

theorem pay2_apply (xb : Vec Ideal S512x1024 .bf16) (wg wu : Vec Ideal S1x1024x896 .bf16) (wo : Vec Ideal S1x896x1024 .bf16) (i : Fin 512) (j : Fin 1024) :
    k0_pay2 (F := Ideal) xb wg wu wo (ix2 i j)
      = ∑ n : Fin 896, part (fun d => xb (ix2 i d)) (fun d => wg (ix3 0 d n)) (fun d => wu (ix3 0 d n)) (wo (ix3 0 n j)) := by
  pointwise [k0_pay2]
  refine Finset.sum_congr rfl fun n _ => ?_
  rw [zero_sub]
  rfl

theorem pay3_apply (xb : Vec Ideal S512x1024 .bf16) (wg wu : Vec Ideal S1x1024x896 .bf16) (wo : Vec Ideal S1x896x1024 .bf16) (y : Vec Ideal S512x1024 .f32) (i : Fin 512) (j : Fin 1024) :
    k0_pay3 (F := Ideal) xb wg wu wo y (ix2 i j)
      = y (ix2 i j) + ∑ n : Fin 896, part (fun d => xb (ix2 i d)) (fun d => wg (ix3 0 d n)) (fun d => wu (ix3 0 d n)) (wo (ix3 0 n j)) := by
  unfold k0_pay3
  simp only [shapeCast_self]
  exact congrArg (fun s : EReal => y (ix2 i j) + s) (pay2_apply xb wg wu wo i j)

theorem pay4_apply (y : S512x1024.Idx) : k0_pay4 (F := Ideal) y = (0 : EReal) := by
  pointwise [k0_pay4]

/-- The hidden features in four parts of 896. -/
theorem sum_parts (f : ℕ → EReal) : ∑ n : Fin 3584, f n.val
    = (∑ n : Fin 896, f (896 * 0 + n.val)) + (∑ n : Fin 896, f (896 * 1 + n.val)) + (∑ n : Fin 896, f (896 * 2 + n.val)) + ∑ n : Fin 896, f (896 * 3 + n.val) := by
  simp only [fun k => Fin.sum_univ_eq_sum_range (fun n => f (896 * k + n)) 896, Fin.sum_univ_eq_sum_range f 3584]
  rw [show 3584 = 896 + 896 + 896 + 896 from rfl, Finset.sum_range_add, Finset.sum_range_add, Finset.sum_range_add]
  simp

end Cert.Proof.Moe
end
-- ==== Proof.Moe.Gather.lean ====
/- A matrix taken per tile, read at an index. -/
module

public import Idealize.ShloMosaic.Lib.Routing.Ops
public import Idealize.ShloMosaic.Lib.Pipeline.ValueKit

@[expose] public section

noncomputable section

namespace Cert.Proof.Moe

open Idealize.ShloMosaic

variable {α : Type}

abbrev takeDims (N R C n : ℕ) (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- Entry `(t, d, k)` is the operand's entry `(e, d, k)`, `e` the index at `(t, 0)` read signed and kept inside the operand. -/
theorem take_apply {N R C n : ℕ} (hN : 0 < N) (wf) (x : (⟨3, ![N, R, C]⟩ : Shape).Idx → α) (idx : IVec ⟨2, ![n, 1]⟩ 32) (t : Fin n) (d : Fin R) (k : Fin C) :
    Host.gather (takeDims N R C n wf) x idx (ix3 t d k) = x (ix3 ⟨min (idx (ix2 t (0 : Fin 1))).toInt.toNat (N - 1), by omega⟩ d k) := by
  unfold Host.gather
  congr 1
  funext a
  refine Fin.ext ?_
  show (takeDims N R C n wf).start (ix3 t d k) idx a + (takeDims N R C n wf).batchCoord (ix3 t d k) a + (takeDims N R C n wf).offCoord (ix3 t d k) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  have hm : ∀ b : Fin 3, b ≠ 0 → b ∉ (takeDims N R C n wf).startIndexMap := fun b hb h => hb (List.mem_singleton.mp h)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (takeDims N R C n wf).startIndexMap from List.mem_singleton.mpr rfl)]
    have hsi : (takeDims N R C n wf).siIdx (ix3 t d k) ⟨List.idxOf (0 : Fin 3) (takeDims N R C n wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · unfold GatherDims.start
    rw [dif_neg (hm 1 (by decide))]
    simp only [Nat.zero_add]
    rfl
  · unfold GatherDims.start
    rw [dif_neg (hm 2 (by decide))]
    simp only [Nat.zero_add]
    rfl

end Cert.Proof.Moe
end
-- ==== Proof.Moe.Ref.lean ====
/- The reference of the experts, read at an index. -/
module

public import proofs.«01_k».proof.Proof.Moe.Target
public import proofs.«01_k».proof.Proof.Moe.Gather
public import proofs.«01_k».proof.Proof.Gen.Reference3Ideal
public import Idealize.ShloMosaic.Lib.Pointwise
public import Idealize.ShloMosaic.Lib.Pipeline.ValueKit
public import Idealize.ShloMosaic.Lib.Tactic

@[expose] public section

set_option maxRecDepth 16384

noncomputable section

namespace Cert.Proof.Moe.Ref

open Idealize.ShloMosaic Idealize.ShloMosaic.TcCoe Finset
open Cert.Reference3Ideal Cert.Reference3Ideal.Gen
open Cert.Proof.Ffn (part)

def takeIn (wi : FVec Ideal S8x1024x7168 .f32) (e : IVec S264 32) : FVec Ideal S264x1024x7168 .f32 :=
  Host.gather gather_S8x1024x7168_S264x1_S264x1024x7168_12_0_n_n_0_1_110247168 wi (broadcastInDim S264x1 ![0] bcast_S264_S264x1_0 e)
def takeOut (wo : FVec Ideal S8x3584x1024 .f32) (e : IVec S264 32) : FVec Ideal S264x3584x1024 .f32 :=
  Host.gather gather_S8x3584x1024_S264x1_S264x3584x1024_12_0_n_n_0_1_135841024 wo (broadcastInDim S264x1 ![0] bcast_S264_S264x1_0 e)
def proj (x : FVec Ideal S135168x1024 .f32) (w : FVec Ideal S264x1024x7168 .f32) : FVec Ideal S264x512x7168 .f32 :=
  Host.dotGeneral dot_S264x512x1024_S264x1024x7168_S264x512x7168_2_1_1_2_0_0 none (shapeCast _ x shapeCasts_S135168x1024_S264x512x1024) w
def gated (p : FVec Ideal S264x512x7168 .f32) : FVec Ideal S264x512x3584 .f32 :=
  mulf (mulf (extractStridedSlice S264x512x3584 ![0, 0, 0] p slices_S264x512x7168_S264x512x3584_0_0_0)
    (Host.divf (broadcastInDim S264x512x3584 ![] bcast_S_S264x512x3584 (constant S_ .f32 0x3F800000#32))
      (addf (broadcastInDim S264x512x3584 ![] bcast_S_S264x512x3584 (constant S_ .f32 0x3F800000#32))
        (Host.exp (Host.negf (extractStridedSlice S264x512x3584 ![0, 0, 0] p slices_S264x512x7168_S264x512x3584_0_0_0))))))
    (extractStridedSlice S264x512x3584 ![0, 0, 3584] p slices_S264x512x7168_S264x512x3584_0_0_3584)
def inUse (n : IVec S1 32) : IVec S264x512x1024 1 :=
  broadcastInDim S264x512x1024 ![0, 1, 2] bcast_S264x1x1_S264x512x1024_0_1_2
    (broadcastInDim S264x1x1 ![0] bcast_S264_S264x1x1_0 (cmpi .slt (iotaInDim S264 32 0) (broadcastInDim S264 ![0] bcast_S1_S264_0 n)))
def out (x : FVec Ideal S135168x1024 .f32) (e : IVec S264 32) (n : IVec S1 32) (wi : FVec Ideal S8x1024x7168 .f32) (wo : FVec Ideal S8x3584x1024 .f32) :
    FVec Ideal S135168x1024 .f32 :=
  shapeCast _ (select (inUse n)
    (Host.dotGeneral dot_S264x512x3584_S264x3584x1024_S264x512x1024_2_1_1_2_0_0 none (gated (proj x (takeIn wi e))) (takeOut wo e))
    (broadcastInDim S264x512x1024 ![] bcast_S_S264x512x1024 (id (constant S_ .f32 0x00000000#32)))) shapeCasts_S264x512x1024_S135168x1024

theorem idx_apply (e : IVec S264 32) (q : Fin 264) : broadcastInDim S264x1 ![0] bcast_S264_S264x1_0 e (ix2 q 0) = e (ix1 q) := by
  refine congrArg e (funext fun a => ?_)
  match a with
  | ⟨0, _⟩ => rfl
theorem takeIn_apply (wi : FVec Ideal S8x1024x7168 .f32) (e : IVec S264 32) (q : Fin 264) (d : Fin 1024) (k : Fin 7168) :
    takeIn wi e (ix3 q d k) = wi (ix3 (expert (e (ix1 q))) d k) := by
  refine (take_apply (by decide) gather_S8x1024x7168_S264x1_S264x1024x7168_12_0_n_n_0_1_110247168_wf wi _ q d k).trans ?_
  refine congrArg (fun i => wi (ix3 i d k)) (Fin.ext ?_)
  show min (broadcastInDim S264x1 ![0] bcast_S264_S264x1_0 e (ix2 q 0)).toInt.toNat (8 - 1) = _
  rw [idx_apply]; rfl
theorem takeOut_apply (wo : FVec Ideal S8x3584x1024 .f32) (e : IVec S264 32) (q : Fin 264) (d : Fin 3584) (k : Fin 1024) :
    takeOut wo e (ix3 q d k) = wo (ix3 (expert (e (ix1 q))) d k) := by
  refine (take_apply (by decide) gather_S8x3584x1024_S264x1_S264x3584x1024_12_0_n_n_0_1_135841024_wf wo _ q d k).trans ?_
  refine congrArg (fun i => wo (ix3 i d k)) (Fin.ext ?_)
  show min (broadcastInDim S264x1 ![0] bcast_S264_S264x1_0 e (ix2 q 0)).toInt.toNat (8 - 1) = _
  rw [idx_apply]; rfl

theorem proj_apply (x : FVec Ideal S135168x1024 .f32) (w : FVec Ideal S264x1024x7168 .f32) (q : Fin 264) (r : Fin 512) (k : Fin 7168) :
    proj x w (ix3 q r k) = ∑ d : Fin 1024, x (ix2 ⟨512 * q.val + r.val, by omega⟩ d) * w (ix3 q d k) := by
  pointwise [proj]
  refine Finset.sum_congr rfl fun d _ => ?_
  refine congrArg (fun i => x i * w (ix3 q d k)) (funext fun a => Fin.ext ?_)
  fin_cases a <;> simp [ix2, ix3] <;> omega
theorem gated_apply (p : FVec Ideal S264x512x7168 .f32) (q : Fin 264) (r : Fin 512) (n : Fin 3584) :
    gated p (ix3 q r n) = p (ix3 q r ⟨n.val, by omega⟩) * Ideal.div 1 (1 + Ideal.exp (-p (ix3 q r ⟨n.val, by omega⟩))) * p (ix3 q r ⟨3584 + n.val, by omega⟩) := by
  pointwise [gated]
  try rfl
theorem inUse_apply (n : IVec S1 32) (q : Fin 264) (r : Fin 512) (j : Fin 1024) :
    inUse n (ix3 q r j) = IntOp.cmpi .slt (BitVec.ofNat 32 q.val) (n (ix1 0)) := by
  pointwise [inUse]
  try rfl

theorem zero_eq : id (constant (F := Ideal) S_ .f32 0x00000000#32) ix0 = (0 : EReal) := by
  show constant (F := Ideal) S_ .f32 0x00000000#32 ix0 = (0 : EReal)
  pointwise [constant]

theorem out_apply (x : FVec Ideal S135168x1024 .f32) (e : IVec S264 32) (n : IVec S1 32) (wi : FVec Ideal S8x1024x7168 .f32) (wo : FVec Ideal S8x3584x1024 .f32) :
    out x e n wi wo = target x e n wi wo := by
  funext y
  obtain ⟨r, j, rfl⟩ : ∃ (r : Fin 135168) (j : Fin 1024), y = ix2 r j := ⟨y 0, y 1, funext fun i => by fin_cases i <;> rfl⟩
  pointwise [out]
  simp only [inUse_apply, gated_apply, proj_apply, takeIn_apply, takeOut_apply]
  have hr : ∀ hlt : 512 * (r.val / 512) + r.val % 512 < 135168, (⟨512 * (r.val / 512) + r.val % 512, hlt⟩ : Fin 135168) = r :=
    fun hlt => Fin.ext (by show 512 * (r.val / 512) + r.val % 512 = r.val; omega)
  simp only [hr]
  rw [zero_eq]
  rfl

end Cert.Proof.Moe.Ref
end
-- ==== Proof.Moe.Value.lean ====
/- The arrays and the blocks that the expert kernel is given, read at an index, and its result. -/
module

public import proofs.«01_k».proof.Proof.Moe.Pre
public import proofs.«01_k».proof.Proof.Moe.Target
public import Idealize.ShloMosaic.Lib.Pipeline.ValueKit
public import Idealize.ShloMosaic.Lib.StableHlo.ReadAt

@[expose] public section

set_option maxRecDepth 16384

noncomputable section

namespace Cert.Proof.Moe

open Idealize.ShloMosaic Idealize.ShloMosaic.TcCoe Finset Idealize.SL.Sem
open Cert.Kernel3Ideal Cert.Kernel3Ideal.Facts₀ Cert.Kernel3Ideal.Facts
open Cert.Kernel3Ideal.Gen (hostOps0 N_0 k0_pay1 k0_pay2 k0_pay3 k0_pay4)
open Cert.Proof.Ffn (part)

/-- What hidden feature `n` adds, zero past the last. -/
def hid (x : Fin 1024 → EReal) (wi : Vec Ideal S8x1024x7168 .f32) (wo : Vec Ideal S8x3584x1024 .f32) (e : Fin 8) (k : Fin 1024) (n : ℕ) : EReal :=
  if hn : n < 3584 then part x (fun d => wi (ix3 e d ⟨n, by omega⟩)) (fun d => wi (ix3 e d ⟨3584 + n, by omega⟩)) (wo (ix3 e ⟨n, hn⟩ k)) else 0
theorem row_eq (x : Fin 1024 → EReal) (wi : Vec Ideal S8x1024x7168 .f32) (wo : Vec Ideal S8x3584x1024 .f32) (e : Fin 8) (k : Fin 1024) :
    row x wi wo e k = ∑ n : Fin 3584, hid x wi wo e k n.val := by
  unfold row
  refine Finset.sum_congr rfl fun n _ => ?_
  unfold hid
  rw [dif_pos n.isLt]

theorem part_sum (xb : Vec Ideal S512x1024 .bf16) (wg wu : Vec Ideal S1x1024x896 .bf16) (wo : Vec Ideal S1x896x1024 .bf16) (i : Fin 512) (k : Fin 1024)
    (f : ℕ → EReal) (s : ℕ) (hf : ∀ n : Fin 896, part (fun d => xb (ix2 i d)) (fun d => wg (ix3 0 d n)) (fun d => wu (ix3 0 d n)) (wo (ix3 0 n k)) = f (s + n.val)) :
    (∑ n : Fin 896, part (fun d => xb (ix2 i d)) (fun d => wg (ix3 0 d n)) (fun d => wu (ix3 0 d n)) (wo (ix3 0 n k))) = ∑ n : Fin 896, f (s + n.val) :=
  Finset.sum_congr rfl fun n _ => hf n

variable (m : (ℓ : Loc nD τ sig) → Buf (Elt Ideal) ℓ) (hO : Ok m) (h : Good m) (c : Dev nD)

def argX : Vec Ideal S135168x1024 .f32 := m ((c.tc : Thread nD τ).loc main_arg0)
def argE : Vec Ideal S264 .i32 := m ((c.tc : Thread nD τ).loc main_arg1)
def argN : Vec Ideal S1 .i32 := m ((c.tc : Thread nD τ).loc main_arg2)
def argIn : Vec Ideal S8x1024x7168 .f32 := m ((c.tc : Thread nD τ).loc main_arg3)
def argOut : Vec Ideal S8x3584x1024 .f32 := m ((c.tc : Thread nD τ).loc main_arg4)

theorem V_x : (V m c main_arg0 : Vec Ideal S135168x1024 .f32) = argX m c := V_arg m c main_arg0 (by decide) (by decide)
theorem V_in (e : Fin 8) (d : Fin 1024) (n : Fin 7168) : (V m c main_v0 : Vec Ideal S8x1024x7168 .bf16) (ix3 e d n) = argIn m c (ix3 e d n) := by
  unfold V
  after_reads_at
  rfl
theorem V_out (e : Fin 8) (n : Fin 3584) (d : Fin 1024) : (V m c main_v1 : Vec Ideal S8x3584x1024 .bf16) (ix3 e n d) = argOut m c (ix3 e n d) := by
  unfold V
  after_reads_at
  rfl
theorem te_eq (q : Fin 264) : te m q = argE m c (ix1 q) := by
  obtain rfl : c = 0 := Subsingleton.elim _ _
  exact congrFun (V_arg m 0 main_arg1 (by decide) (by decide)) (ix1 q)
theorem nu_eq : nu m = argN m c (ix1 0) := by
  obtain rfl : c = 0 := Subsingleton.elim _ _
  exact congrFun (V_arg m 0 main_arg2 (by decide) (by decide)) (ix1 0)

/-! ## The blocks -/

variable {m} in
/-- The expert of tile `q`. -/
def ex (q : Fin 264) : Fin 8 := ⟨(te m q).toNat, h.te q⟩
theorem expert_eq (q : Fin 264) : expert (te m q) = ex h q := by
  have := h.te q
  refine Fin.ext ?_
  show min (te m q).toInt.toNat 7 = (te m q).toNat
  rw [BitVec.toInt_eq_toNat_of_lt (by omega)]
  simp; omega

theorem co0 (t : Fin grid0.N) (q : Fin 264) (j : Fin 4) (ht : t.val = 4 * q.val + j.val) : (grid0.coords t 0 : Fin 264) = q :=
  Fin.ext ((tile_of t).trans (by omega))
theorem co1 (t : Fin grid0.N) (q : Fin 264) (j : Fin 4) (ht : t.val = 4 * q.val + j.val) : (grid0.coords t 1).val = j.val :=
  (step_of t).trans (by omega)

section

variable (t : Fin (cfgM m hO).N) (q : Fin 264) (j : Fin 4) (ht : t.val = 4 * q.val + j.val) (hu : q.val < (nu m).toNat)

include ht hu in
theorem jeff_val : jeff m (grid0.coords t) = j.val := by
  unfold jeff
  rw [if_pos (by rw [tile_of]; omega), co1 t q j ht]

include h ht hu in
theorem index0 : ((cfgM m hO).win 0).index t = ![q.val, 0] := by
  refine (tr0 h (grid0.coords t) _ _).trans ?_
  rw [tile_of, show min (t.val / 4) ((nu m).toNat - 1) = q.val by omega]
include h ht hu in
theorem index1 : ((cfgM m hO).win 1).index t = ![(te m q).toNat, 0, j.val] := by
  refine (tr1 h (grid0.coords t) _ _ _).trans ?_
  rw [jeff_val m hO t q j ht hu, show te m (grid0.coords t 0) = te m q from congrArg (te m) (co0 t q j ht)]
include h ht hu in
theorem index2 : ((cfgM m hO).win 2).index t = ![(te m q).toNat, 0, j.val + 4] := by
  refine (tr2 h (grid0.coords t) _ _ _).trans ?_
  rw [jeff_val m hO t q j ht hu, show te m (grid0.coords t 0) = te m q from congrArg (te m) (co0 t q j ht)]
include h ht hu in
theorem index3 : ((cfgM m hO).win 3).index t = ![(te m q).toNat, j.val, 0] := by
  refine (tr3 h (grid0.coords t) _ _ _).trans ?_
  rw [jeff_val m hO t q j ht hu, show te m (grid0.coords t 0) = te m q from congrArg (te m) (co0 t q j ht)]
include ht in
theorem index4 : ((cfgM m hO).win 4).index t = ![q.val, 0] := by
  show ![(BitVec.ofNat 32 (grid0.coords t 0).val).toNat, 0] = _
  rw [tile_of, BitVec.toNat_ofNat, show t.val / 4 % 2 ^ 32 = q.val by omega]

include h ht hu in
theorem iblk_x (r : Fin 512) (d : Fin 1024) : (iblk m hO c 0 t : Vec Ideal S512x1024 .f32) (ix2 r d) = argX m c (ix2 ⟨512 * q.val + r.val, by omega⟩ d) := by
  refine Eq.trans ?_ (congrFun (V_x m c) _)
  refine congrArg (V m c main_arg0 : Vec Ideal S135168x1024 .f32) (funext fun a => Fin.ext ?_)
  refine (Pipeline.Window.rect_emb_val ((cfgM m hO).win 0) t (ix2 r d) a).trans ?_
  rw [index0 m hO h t q j ht hu]
  match a with
  | ⟨0, _⟩ => show q.val * 512 + r.val = 512 * q.val + r.val; omega
  | ⟨1, _⟩ => show 0 * 1024 + d.val = d.val; omega
include h ht hu in
theorem iblk_g (d : Fin 1024) (n : Fin 896) : (iblk m hO c 1 t : Vec Ideal S1x1024x896 .bf16) (ix3 0 d n) = argIn m c (ix3 (ex h q) d ⟨896 * j.val + n.val, by omega⟩) := by
  refine Eq.trans ?_ (V_in m c _ _ _)
  refine congrArg (V m c main_v0 : Vec Ideal S8x1024x7168 .bf16) (funext fun a => Fin.ext ?_)
  refine (Pipeline.Window.rect_emb_val ((cfgM m hO).win 1) t (ix3 0 d n) a).trans ?_
  rw [index1 m hO h t q j ht hu]
  match a with
  | ⟨0, _⟩ => show (te m q).toNat * 1 + 0 = (te m q).toNat; omega
  | ⟨1, _⟩ => show 0 * 1024 + d.val = d.val; omega
  | ⟨2, _⟩ => show j.val * 896 + n.val = 896 * j.val + n.val; omega
include h ht hu in
theorem iblk_u (d : Fin 1024) (n : Fin 896) : (iblk m hO c 2 t : Vec Ideal S1x1024x896 .bf16) (ix3 0 d n) = argIn m c (ix3 (ex h q) d ⟨3584 + (896 * j.val + n.val), by omega⟩) := by
  refine Eq.trans ?_ (V_in m c _ _ _)
  refine congrArg (V m c main_v0 : Vec Ideal S8x1024x7168 .bf16) (funext fun a => Fin.ext ?_)
  refine (Pipeline.Window.rect_emb_val ((cfgM m hO).win 2) t (ix3 0 d n) a).trans ?_
  rw [index2 m hO h t q j ht hu]
  match a with
  | ⟨0, _⟩ => show (te m q).toNat * 1 + 0 = (te m q).toNat; omega
  | ⟨1, _⟩ => show 0 * 1024 + d.val = d.val; omega
  | ⟨2, _⟩ => show (j.val + 4) * 896 + n.val = 3584 + (896 * j.val + n.val); omega
include h ht hu in
theorem iblk_o (n : Fin 896) (k : Fin 1024) : (iblk m hO c 3 t : Vec Ideal S1x896x1024 .bf16) (ix3 0 n k) = argOut m c (ix3 (ex h q) ⟨896 * j.val + n.val, by omega⟩ k) := by
  refine Eq.trans ?_ (V_out m c _ _ _)
  refine congrArg (V m c main_v1 : Vec Ideal S8x3584x1024 .bf16) (funext fun a => Fin.ext ?_)
  refine (Pipeline.Window.rect_emb_val ((cfgM m hO).win 3) t (ix3 0 n k) a).trans ?_
  rw [index3 m hO h t q j ht hu]
  match a with
  | ⟨0, _⟩ => show (te m q).toNat * 1 + 0 = (te m q).toNat; omega
  | ⟨1, _⟩ => show j.val * 896 + n.val = 896 * j.val + n.val; omega
  | ⟨2, _⟩ => show 0 * 1024 + k.val = k.val; omega

end

/-! ## The sums -/

theorem pt_at (n : ℕ) (hn : n < 1056) : (pt m hO n).val = n := by show min n 1055 = n; omega

include h in
theorem rows_apply (q : Fin 264) (hu : q.val < (nu m).toNat) (r : Fin 512) (d : Fin 1024) : rows m hO c q.val (ix2 r d) = argX m c (ix2 ⟨512 * q.val + r.val, by omega⟩ d) := by
  unfold rows
  exact (pay1_apply _ r d).trans (iblk_x m hO h c (pt m hO (4 * q.val)) q 0 (pt_at m hO _ (by omega)) hu r d)

include h in
theorem step_apply (t : Fin (cfgM m hO).N) (q : Fin 264) (j : Fin 4) (ht : t.val = 4 * q.val + j.val) (hu : q.val < (nu m).toNat) (r : Fin 512) (k : Fin 1024) :
    (∑ n : Fin 896, part (fun d => rows m hO c q.val (ix2 r d)) (fun d => (iblk m hO c 1 t : Vec Ideal S1x1024x896 .bf16) (ix3 0 d n))
      (fun d => (iblk m hO c 2 t : Vec Ideal S1x1024x896 .bf16) (ix3 0 d n)) ((iblk m hO c 3 t : Vec Ideal S1x896x1024 .bf16) (ix3 0 n k)))
    = ∑ n : Fin 896, hid (fun d => argX m c (ix2 ⟨512 * q.val + r.val, by omega⟩ d)) (argIn m c) (argOut m c) (ex h q) k (896 * j.val + n.val) := by
  refine part_sum _ _ _ _ r k _ _ fun n => ?_
  unfold hid
  rw [dif_pos (by omega)]
  rw [show (fun d => rows m hO c q.val (ix2 r d)) = fun d => argX m c (ix2 ⟨512 * q.val + r.val, by omega⟩ d) from funext fun d => rows_apply m hO h c q hu r d,
    show (fun d => (iblk m hO c 1 t : Vec Ideal S1x1024x896 .bf16) (ix3 0 d n)) = _ from funext fun d => iblk_g m hO h c t q j ht hu d n,
    show (fun d => (iblk m hO c 2 t : Vec Ideal S1x1024x896 .bf16) (ix3 0 d n)) = _ from funext fun d => iblk_u m hO h c t q j ht hu d n,
    iblk_o m hO h c t q j ht hu n k]

include h in
theorem acc_apply (q : Fin 264) (hu : q.val < (nu m).toNat) (r : Fin 512) (k : Fin 1024) : acc m hO c q.val 3 (ix2 r k)
    = row (fun d => argX m c (ix2 ⟨512 * q.val + r.val, by omega⟩ d)) (argIn m c) (argOut m c) (ex h q) k := by
  rw [row_eq, sum_parts]
  have s0 := step_apply m hO h c (pt m hO (4 * q.val)) q 0 (pt_at m hO _ (by omega)) hu r k
  have s1 := step_apply m hO h c (pt m hO (4 * q.val + (0 + 1))) q 1 (pt_at m hO _ (by omega)) hu r k
  have s2 := step_apply m hO h c (pt m hO (4 * q.val + (1 + 1))) q 2 (pt_at m hO _ (by omega)) hu r k
  have s3 := step_apply m hO h c (pt m hO (4 * q.val + (2 + 1))) q 3 (pt_at m hO _ (by omega)) hu r k
  have a0 : acc m hO c q.val 0 (ix2 r k) = _ := (pay2_apply _ _ _ _ r k).trans s0
  have a1 : acc m hO c q.val 1 (ix2 r k) = _ := (pay3_apply _ _ _ _ _ r k).trans (congr (congrArg (fun a b : EReal => a + b) a0) s1)
  have a2 : acc m hO c q.val 2 (ix2 r k) = _ := (pay3_apply _ _ _ _ _ r k).trans (congr (congrArg (fun a b : EReal => a + b) a1) s2)
  exact (pay3_apply _ _ _ _ _ r k).trans (congr (congrArg (fun a b : EReal => a + b) a2) s3)

/-! ## The result -/

include h in
theorem out_target (t : Fin (cfgM m hO).N) (ht : t.val % 4 = 3) (r : Fin 512) (k : Fin 1024) (hr : 512 * (t.val / 4) + r.val < 135168) :
    out m hO c t.val (ix2 r k) = target (argX m c) (argE m c) (argN m c) (argIn m c) (argOut m c) (ix2 ⟨512 * (t.val / 4) + r.val, hr⟩ k) := by
  have htl : t.val < 1056 := Nat.lt_of_lt_of_eq t.isLt N_0
  obtain ⟨q, hq⟩ : ∃ q : Fin 264, q.val = t.val / 4 := ⟨⟨t.val / 4, by omega⟩, rfl⟩
  have hqq : (512 * (t.val / 4) + r.val) / 512 = q.val := by omega
  have hfin : (⟨(512 * (t.val / 4) + r.val) / 512, by omega⟩ : Fin 264) = q := Fin.ext hqq
  unfold target
  dsimp only
  show _ = if IntOp.cmpi .slt (BitVec.ofNat 32 ((512 * (t.val / 4) + r.val) / 512)) (argN m c (ix1 0)) = 1#1
    then row (fun d => argX m c (ix2 ⟨512 * (t.val / 4) + r.val, hr⟩ d)) (argIn m c) (argOut m c) (expert (argE m c (ix1 ⟨(512 * (t.val / 4) + r.val) / 512, by omega⟩))) k else 0
  rw [hfin, hqq, ← nu_eq m c, ← te_eq m c q, expert_eq m h q]
  have hsub : (⟨512 * (t.val / 4) + r.val, hr⟩ : Fin 135168) = ⟨512 * q.val + r.val, by omega⟩ := Fin.ext (by show 512 * (t.val / 4) + r.val = 512 * q.val + r.val; omega)
  rw [hsub]
  by_cases hc : used m q.val
  · have hlt := (used_iff h q.val q.isLt).mp hc
    rw [if_pos (show IntOp.cmpi .slt (BitVec.ofNat 32 q.val) (nu m) = 1#1 from hc)]
    unfold out
    rw [if_pos (by rw [← hq]; exact hc), ht, ← hq]
    exact acc_apply m hO h c q hlt r k
  · rw [if_neg (show ¬IntOp.cmpi .slt (BitVec.ofNat 32 q.val) (nu m) = 1#1 from hc)]
    rw [out_none m hO c t.val (by rw [← hq]; exact hc)]
    exact pay4_apply _

theorem covers : ((cfgM m hO).win 4).Covers := by
  refine ⟨fun a => ?_, fun β => ?_⟩
  · match a with
    | ⟨0, _⟩ => exact (by decide : 0 < 512)
    | ⟨1, _⟩ => exact (by decide : 0 < 1024)
  · have h0 : (β (0 : Fin 2)).val < 264 := lt_of_lt_of_eq (β (0 : Fin 2)).isLt (by show (135168 + 512 - 1) / 512 = 264; decide)
    have h1 : (β (1 : Fin 2)).val < 1 := lt_of_lt_of_eq (β (1 : Fin 2)).isLt (by show (1024 + 1024 - 1) / 1024 = 1; decide)
    have hN : 4 * (β (0 : Fin 2)).val + 3 < (cfgM m hO).N := lt_of_lt_of_eq (by omega : 4 * (β (0 : Fin 2)).val + 3 < 1056) (show 1056 = (cfgM m hO).N from N_0.symm)
    refine ⟨⟨4 * (β (0 : Fin 2)).val + 3, hN⟩, (flush4 (adm m hO) ⟨4 * (β (0 : Fin 2)).val + 3, hN⟩).mpr (by show (4 * (β (0 : Fin 2)).val + 3) % 4 = 3; omega), fun a => ⟨?_, .inl rfl⟩⟩
    rw [index4 m hO ⟨4 * (β (0 : Fin 2)).val + 3, hN⟩ ⟨(β (0 : Fin 2)).val, h0⟩ 3 rfl]
    match a with
    | ⟨0, _⟩ => rfl
    | ⟨1, _⟩ => show 0 = (β (1 : Fin 2)).val; omega

include h in
theorem result_eq : (dats m hO 0 c).arrAt 4 (cfgM m hO).N = target (argX m c) (argE m c) (argN m c) (argIn m c) (argOut m c) := by
  refine (dats m hO 0 c).arrAt_eq_of_covers 4 _ (covers m hO) fun t hf y => ?_
  have h3 := (flush4 (adm m hO) t).mp hf
  have htl : t.val < 1056 := Nat.lt_of_lt_of_eq t.isLt N_0
  obtain ⟨r, k, rfl⟩ : ∃ (r : Fin 512) (k : Fin 1024), y = ix2 r k := ⟨y (0 : Fin 2), y (1 : Fin 2), funext fun i => by match i with | ⟨0, _⟩ => rfl | ⟨1, _⟩ => rfl⟩
  have hr : 512 * (t.val / 4) + r.val < 135168 := by omega
  show (dats m hO 0 c).after 4 t (ix2 r k) = _
  rw [after4]
  refine (out_target m hO h c t h3 r k hr).trans (congrArg (target (argX m c) (argE m c) (argN m c) (argIn m c) (argOut m c)) (funext fun i => Fin.ext ?_))
  refine Eq.trans ?_ (Pipeline.Window.rect_emb_val ((cfgM m hO).win 4) t (ix2 r k) i).symm
  rw [index4 m hO t ⟨t.val / 4, by omega⟩ 3 (by show t.val = 4 * (t.val / 4) + 3; omega)]
  match i with
  | ⟨0, _⟩ => show 512 * (t.val / 4) + r.val = t.val / 4 * 512 + r.val; omega
  | ⟨1, _⟩ => show k.val = 0 * 1024 + k.val; omega

end Cert.Proof.Moe
end
-- ==== Proof.Comb.Target.lean ====
/- What the last combination leaves in its result: at every row and feature the residual stream plus the token's two expert rows by
   its gates, normed. -/
module

public import proofs.«01_k».proof.Proof.Gen.Kernel4Ideal.Skeleton
public import proofs.«01_k».proof.Proof.Ffn.Target
public import Idealize.ShloMosaic.Lib.Pointwise

@[expose] public section

noncomputable section

namespace Cert.Proof.Comb

open Idealize.ShloMosaic Idealize.ShloMosaic.TcCoe Finset
open Cert.Kernel4Ideal Cert.Kernel4Ideal.Gen
open Cert.Proof.Ffn (normed)

/-- A row plus two others, each by its gate. -/
def mixed (x y z : Fin 1024 → EReal) (a b : EReal) (d : Fin 1024) : EReal := x d + (y d * a + z d * b)

/-- The result, in rows: a token's second expert row lies 66560 rows after its first. -/
def target (x : Vec Ideal S32x2048x1024 .f32) (a : Vec Ideal S65536x8 .f32) (y2 : Vec Ideal S133120x1024 .f32) (g : Vec Ideal S1024 .f32) :
    Vec Ideal S65536x1024 .f32 := fun y =>
  let r : Fin 65536 := y 0
  normed (mixed (fun d => x (ix3 ⟨r.val / 2048, Nat.div_lt_of_lt_mul r.isLt⟩ ⟨r.val % 2048, Nat.mod_lt _ (by decide)⟩ d))
    (fun d => y2 (ix2 ⟨r.val, by omega⟩ d)) (fun d => y2 (ix2 ⟨66560 + r.val, by omega⟩ d)) (a (ix2 r 0)) (a (ix2 r 1))) (fun d => g (ix1 d)) (y 1)

theorem pay_apply (a : Vec Ideal S512x8 .f32) (x : Vec Ideal S512x1024 .f32) (y z : Vec Ideal S1x512x1024 .f32) (g : Vec Ideal S1x1024 .f32) (i : Fin 512) (j : Fin 1024) :
    k0_pay1 (F := Ideal) a x y z g (ix2 i j)
      = normed (mixed (fun d => x (ix2 i d)) (fun d => y (ix3 0 i d)) (fun d => z (ix3 0 i d)) (a (ix2 i 0)) (a (ix2 i 1))) (fun d => g (ix2 0 d)) j := by
  pointwise [k0_pay1]
  rfl

end Cert.Proof.Comb
end
-- ==== Proof.Comb.Ref.lean ====
/- The reference of the last combination, read at an index. -/
module

public import proofs.«01_k».proof.Proof.Comb.Target
public import proofs.«01_k».proof.Proof.Gen.Reference4Ideal.Run
public import Idealize.ShloMosaic.Lib.Pointwise
public import Idealize.ShloMosaic.Lib.Pipeline.ValueKit
public import Idealize.ShloMosaic.Lib.Tactic

@[expose] public section

set_option maxRecDepth 16384

noncomputable section

namespace Cert.Proof.Comb.Ref

open Idealize.ShloMosaic Idealize.ShloMosaic.TcCoe Finset
open Cert.Reference4Ideal Cert.Reference4Ideal.Gen
open Cert.Proof.Ffn (normed)

def stream (x : FVec Ideal S32x2048x1024 .f32) (a : FVec Ideal S65536x8 .f32) (y2 : FVec Ideal S133120x1024 .f32) : FVec Ideal S32x2048x1024 .f32 :=
  addf x (shapeCast _ (Host.reduceAdd (mulf
      (extractStridedSlice S2x65536x1024 ![0, 0, 0] (shapeCast _ y2 shapeCasts_S133120x1024_S2x66560x1024) slices_S2x66560x1024_S2x65536x1024_0_0_0)
      (broadcastInDim S2x65536x1024 ![0, 1, 2] bcast_S2x65536x1_S2x65536x1024_0_1_2 (broadcastInDim S2x65536x1 ![0, 1] bcast_S2x65536_S2x65536x1_0_1
        (transpose S2x65536 [1, 0] (extractStridedSlice S65536x2 ![0, 0] a slices_S65536x8_S65536x2_0_0) transposes_S65536x2_S2x65536_1_0))))
    (constant S_ .f32 0x00000000#32) reducesTo_S2x65536x1024_S65536x1024_d0 h_S_) shapeCasts_S65536x1024_S32x2048x1024)
def out (s : FVec Ideal S32x2048x1024 .f32) (g : FVec Ideal S1024 .f32) : FVec Ideal S65536x1024 .f32 :=
  shapeCast _ (mulf (mulf s (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf s s) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g)))
    shapeCasts_S32x2048x1024_S65536x1024

theorem stream_apply (x : FVec Ideal S32x2048x1024 .f32) (a : FVec Ideal S65536x8 .f32) (y2 : FVec Ideal S133120x1024 .f32) (b : Fin 32) (t : Fin 2048) (d : Fin 1024) :
    stream x a y2 (ix3 b t d) = mixed (fun d => x (ix3 b t d)) (fun d => y2 (ix2 ⟨2048 * b.val + t.val, by omega⟩ d))
      (fun d => y2 (ix2 ⟨66560 + (2048 * b.val + t.val), by omega⟩ d)) (a (ix2 ⟨2048 * b.val + t.val, by omega⟩ 0)) (a (ix2 ⟨2048 * b.val + t.val, by omega⟩ 1)) d := by
  pointwise [stream]
  simp only [Fin.sum_univ_two]
  have e : ∀ {u v : Fin 133120}, u.val = v.val → y2 (ix2 u d) = y2 (ix2 v d) := fun h => by rw [Fin.ext h]
  have e' : ∀ {u v : Fin 65536} {k l : Fin 8}, u.val = v.val → k = l → a (ix2 u k) = a (ix2 v l) := fun h h' => by rw [Fin.ext h, h']
  refine congrArg (x (ix3 b t d) + ·) (congrArg₂ (· + ·) (congrArg₂ (· * ·) (e ?_) (e' ?_ rfl)) (congrArg₂ (· * ·) (e ?_) (e' ?_ rfl)))
  · show 0 * 66560 + (b.val * 2048 + t.val) = 2048 * b.val + t.val
    omega
  · show b.val * 2048 + t.val = 2048 * b.val + t.val
    omega
  · show 1 * 66560 + (b.val * 2048 + t.val) = 66560 + (2048 * b.val + t.val)
    omega
  · show b.val * 2048 + t.val = 2048 * b.val + t.val
    omega

theorem out_apply (x : FVec Ideal S32x2048x1024 .f32) (a : FVec Ideal S65536x8 .f32) (y2 : FVec Ideal S133120x1024 .f32) (g : FVec Ideal S1024 .f32) :
    out (stream x a y2) g = target x a y2 g := by
  funext y
  obtain ⟨r, j, rfl⟩ : ∃ (r : Fin 65536) (j : Fin 1024), y = ix2 r j := ⟨y 0, y 1, funext fun i => by fin_cases i <;> rfl⟩
  pointwise [out]
  simp only [stream_apply, Nat.div_add_mod]
  rfl

end Cert.Proof.Comb.Ref
end
-- ==== Proof.Comb.Host.lean ====
/- The arrays and the blocks that the last combination is given, read at an index, and its result. -/
module

public import proofs.«01_k».proof.Proof.Comb.Target
public import proofs.«01_k».proof.Proof.Gen.Kernel4Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Comb

open Idealize.ShloMosaic Idealize.ShloMosaic.TcCoe Finset Idealize.SL.Sem
open Cert.Kernel4Ideal Cert.Kernel4Ideal.Facts₀ Cert.Kernel4Ideal.Facts
open Cert.Proof.Ffn (normed)

variable (m : (ℓ : Loc nD τ sig) → Buf (Elt Ideal) ℓ) (ρ : Dev nD → PrngReg) (c : Dev nD)

def argX : Vec Ideal S32x2048x1024 .f32 := m ((c.tc : Thread nD τ).loc main_arg0)
def argA : Vec Ideal S65536x8 .f32 := m ((c.tc : Thread nD τ).loc main_arg1)
def argY : Vec Ideal S133120x1024 .f32 := m ((c.tc : Thread nD τ).loc main_arg2)
def argG : Vec Ideal S1024 .f32 := m ((c.tc : Thread nD τ).loc main_arg3)

theorem V_x (r : Fin 65536) (d : Fin 1024) : (Gen.V m c main_v0 : Vec Ideal S65536x1024 .f32) (ix2 r d)
    = argX m c (ix3 ⟨r.val / 2048, Nat.div_lt_of_lt_mul r.isLt⟩ ⟨r.val % 2048, Nat.mod_lt _ (by decide)⟩ d) := by
  unfold Gen.V
  after_reads_at
  rfl
theorem V_a (r : Fin 65536) (k : Fin 8) : (Gen.V m c main_arg1 : Vec Ideal S65536x8 .f32) (ix2 r k) = argA m c (ix2 r k) :=
  congrFun (Gen.V_main_arg1 m c) _
theorem V_g (d : Fin 1024) : (Gen.V m c main_v1 : Vec Ideal S1x1024 .f32) (ix2 0 d) = argG m c (ix1 d) := by
  unfold Gen.V
  after_reads_at
  rfl
theorem V_y (k : Fin 2) (r : Fin 66560) (d : Fin 1024) : (Gen.V m c main_v2 : Vec Ideal S2x66560x1024 .f32) (ix3 k r d)
    = argY m c (ix2 ⟨k.val * 66560 + r.val, by omega⟩ d) := by
  unfold Gen.V
  after_reads_at
  rfl

/-! ## The blocks -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, t.val, 0] := by decide +kernel
theorem idx4 : ∀ t : Fin cfg0.N, win0_4.index t = ![t.val, 0] := by decide +kernel
theorem pt_lt (t : Fin cfg0.N) : t.val < 128 := lt_of_lt_of_eq t.isLt Gen.N_0

theorem iblk_x (t : Fin cfg0.N) (r : Fin 512) (d : Fin 1024) : (Gen.iblk m c 0 t : Vec Ideal S512x1024 .f32) (ix2 r d)
    = (Gen.V m c main_v0 : Vec Ideal S65536x1024 .f32) (ix2 ⟨512 * t.val + r.val, by have := pt_lt t; omega⟩ d) := by
  have := pt_lt t
  blk_ext [Gen.iblk, idx0 t]
theorem iblk_a (t : Fin cfg0.N) (r : Fin 512) (k : Fin 8) : (Gen.iblk m c 1 t : Vec Ideal S512x8 .f32) (ix2 r k)
    = (Gen.V m c main_arg1 : Vec Ideal S65536x8 .f32) (ix2 ⟨512 * t.val + r.val, by have := pt_lt t; omega⟩ k) := by
  have := pt_lt t
  blk_ext [Gen.iblk, idx1 t]
theorem iblk_g (t : Fin cfg0.N) (d : Fin 1024) : (Gen.iblk m c 2 t : Vec Ideal S1x1024 .f32) (ix2 0 d)
    = (Gen.V m c main_v1 : Vec Ideal S1x1024 .f32) (ix2 0 d) := by
  blk_ext [Gen.iblk, idx2 t]
theorem iblk_y (t : Fin cfg0.N) (k : Fin 2) (r : Fin 512) (d : Fin 1024) : (Gen.iblk m c 3 t : Vec Ideal S2x512x1024 .f32) (ix3 k r d)
    = (Gen.V m c main_v2 : Vec Ideal S2x66560x1024 .f32) (ix3 k ⟨512 * t.val + r.val, by have := pt_lt t; omega⟩ d) := by
  have := pt_lt t
  blk_ext [Gen.iblk, idx3 t]

theorem out_apply (x : Vec Ideal S512x1024 .f32) (a : Vec Ideal S512x8 .f32) (g : Vec Ideal S1x1024 .f32) (y : Vec Ideal S2x512x1024 .f32) (i : Fin 512) (j : Fin 1024) :
    Gen.out0_4 (F := Ideal) x a g y (ix2 i j)
      = normed (mixed (fun d => x (ix2 i d)) (fun d => y (ix3 0 i d)) (fun d => y (ix3 1 i d)) (a (ix2 i 0)) (a (ix2 i 1))) (fun d => g (ix2 0 d)) j := by
  frame_out
  refine (pay_apply _ _ _ _ _ i j).trans ?_
  have h0 : ∀ d : Fin 1024, View.ld y Gen.r0_2 (ix3 0 i d) = y (ix3 0 i d) := fun d => congrArg y (funext fun q => by
    fin_cases q <;> exact Fin.ext (by simp [Gen.r0_2, ix3]))
  have h1 : ∀ d : Fin 1024, View.ld y Gen.r0_3 (ix3 0 i d) = y (ix3 1 i d) := fun d => congrArg y (funext fun q => by
    fin_cases q <;> exact Fin.ext (by simp [Gen.r0_3, ix3]))
  rw [show (fun d => View.ld y Gen.r0_2 (ix3 0 i d)) = fun d => y (ix3 0 i d) from funext h0,
    show (fun d => View.ld y Gen.r0_3 (ix3 0 i d)) = fun d => y (ix3 1 i d) from funext h1]

theorem norm_eq {x y z x' y' z' g g' : Fin 1024 → EReal} {a b a' b' : EReal} (hx : ∀ d, x d = x' d) (hy : ∀ d, y d = y' d) (hz : ∀ d, z d = z' d)
    (ha : a = a') (hb : b = b') (hg : ∀ d, g d = g' d) (j : Fin 1024) : normed (mixed x y z a b) g j = normed (mixed x' y' z' a' b') g' j := by
  rw [funext hx, funext hy, funext hz, ha, hb, funext hg]

theorem block_apply (t : Fin cfg0.N) (r : Fin 512) (j : Fin 1024) :
    Gen.out0_4 (F := Ideal) (Gen.iblk m c 0 t) (Gen.iblk m c 1 t) (Gen.iblk m c 2 t) (Gen.iblk m c 3 t) (ix2 r j)
      = target (argX m c) (argA m c) (argY m c) (argG m c) (ix2 ⟨512 * t.val + r.val, by have := pt_lt t; omega⟩ j) := by
  have := pt_lt t
  refine (out_apply _ _ _ _ r j).trans ?_
  refine norm_eq (fun d => (iblk_x m c t r d).trans (V_x m c _ d))
    (fun d => (iblk_y m c t 0 r d).trans ((V_y m c 0 _ d).trans (congrArg (fun i => argY m c (ix2 i d)) (Fin.ext (by simp)))))
    (fun d => (iblk_y m c t 1 r d).trans ((V_y m c 1 _ d).trans (congrArg (fun i => argY m c (ix2 i d)) (Fin.ext (by simp)))))
    ((iblk_a m c t r 0).trans (V_a m c _ 0)) ((iblk_a m c t r 1).trans (V_a m c _ 1))
    (fun d => (iblk_g m c t d).trans (V_g m c d)) j

theorem result_eq : (Gen.dats m 0 c).arrAt 4 cfg0.N = target (argX m c) (argA m c) (argY m c) (argG m c) := by
  refine (Gen.dats m 0 c).arrAt_eq_of_covers 4 _ (by decide +kernel) fun t hf y => ?_
  blk_simp
  rw [Gen.after0_4]
  have ht := pt_lt t
  obtain ⟨r, j, rfl⟩ : ∃ (r : Fin 512) (j : Fin 1024), y = ix2 r j := ⟨y 0, y 1, by funext i; fin_cases i <;> rfl⟩
  refine (block_apply m c t r j).trans (congrArg (target (argX m c) (argA m c) (argY m c) (argG m c)) (funext fun i => Fin.ext ?_))
  refine Eq.trans ?_ (Pipeline.Window.rect_emb_val win0_4 t (ix2 r j) i).symm
  rw [idx4 t]
  fin_cases i <;> simp [ix2] <;> omega

end Cert.Proof.Comb
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_tables
public import proofs.«01_k».proof.Proof.Attn.Frame
public import proofs.«01_k».proof.Proof.Attn.Bits
public import proofs.«01_k».proof.Proof.Attn.Ref
public import proofs.«01_k».proof.Proof.Attn.Pre
public import proofs.«01_k».proof.Proof.Ffn.Ref
public import proofs.«01_k».proof.Proof.Ffn.Host
public import proofs.«01_k».proof.Proof.Moe.Bits
public import proofs.«01_k».proof.Proof.Moe.Ref
public import proofs.«01_k».proof.Proof.Moe.Value
public import proofs.«01_k».proof.Proof.Comb.Ref
public import proofs.«01_k».proof.Proof.Comb.Host
public import Idealize.ShloMosaic.Lib.Tactic

@[expose] public section

noncomputable section

namespace Cert.Proof

open Idealize.ShloMosaic Idealize.SL.Sem

theorem kernel_ideal : Cert.quiescent_KernelIdeal := fun m ρ _ => Attn.run_frame (F := Ideal) m ρ

theorem kernel : Cert.quiescent_Kernel := Attn.frame_kernel

theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- For finite queries and keys both programs leave the same sum, `Attn.target`, in their results. -/
theorem values : Cert.algebraic_KernelIdeal_ReferenceIdeal_pre_finite := by
  intro m g m' g' hpre harg
  have hq : ∀ c, Attn.Reals (Attn.argQ m c) := fun c => Attn.reals_q _ _ _ (hpre c).1
  have hk : ∀ c, Attn.Reals (Attn.argK m c) := fun c => Attn.reals_k _ _ _ (hpre c).2
  refine ⟨fun c => Attn.target (Attn.argQ m c) (Attn.argK m c) (Attn.argV m c), Attn.run_value m g hq hk, ?_⟩
  refine (θ_run Cert.ReferenceIdeal.defs _ _).mono (fun r h c => ⟨(h c).1.trans ?_, (h c).2⟩) (Cert.ReferenceIdeal.Value.run (F := Ideal) m' g')
  obtain ⟨e0, e1, e2⟩ := harg c
  rw [Attn.Ref.res_eq, e0, e1, e2]
  exact Attn.Ref.out_apply _ _ _ (hq c) (hk c)

theorem reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs of the feed-forward layer leave the same sum, `Ffn.target`, in their results. -/
theorem values2 : Cert.algebraic_Kernel2Ideal_Reference2Ideal := by
  intro m g m' g' _ harg
  refine ⟨fun c => Ffn.target (Ffn.argX m c) (Ffn.argG m c) (Ffn.argIn m c) (Ffn.argOut m c),
    (θ_run Cert.Kernel2Ideal.defs _ _).mono (fun r h c => ⟨(h c).1.trans (Ffn.result_eq m c), (h c).2⟩) (Cert.Kernel2Ideal.Value.run_blocks (F := Ideal) m g), ?_⟩
  refine (θ_run Cert.Reference2Ideal.defs _ _).mono (fun r h c => ⟨(h c).1.trans ?_, (h c).2⟩) (Cert.Reference2Ideal.Value.run (F := Ideal) m' g')
  obtain ⟨e0, e1, e2, e3⟩ := harg c
  rw [e0, e1, e2, e3]
  exact Eq.trans (by sl_kernel_rfl) (Ffn.Ref.out_apply (Ffn.argX m c) (Ffn.argG m c) (Ffn.argIn m c) (Ffn.argOut m c))

theorem kernel_ideal3 : Cert.quiescent_Kernel3Ideal := fun m ρ hpre =>
  (θ_run _ _ _).mono (fun r h => ⟨fun c => (h.1 c).2, h.2⟩) (Moe.run (F := Ideal) m ρ (Moe.ok (Moe.good m hpre)))

theorem reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- With experts from 0 to 7 and at least one tile in use both programs of the experts leave the same sums, `Moe.target`, in their results. -/
theorem values3 : Cert.algebraic_Kernel3Ideal_Reference3Ideal := by
  intro m g m' g' hpre harg
  have hg := Moe.good m hpre
  refine ⟨fun c => Moe.target (Moe.argX m c) (Moe.argE m c) (Moe.argN m c) (Moe.argIn m c) (Moe.argOut m c),
    (θ_run Cert.Kernel3Ideal.defs _ _).mono (fun r h c => ⟨(h.1 c).1.trans (Moe.result_eq m (Moe.ok hg) hg c), (h.1 c).2⟩)
      (Moe.run (F := Ideal) m g (Moe.ok hg)), ?_⟩
  refine (θ_run Cert.Reference3Ideal.defs _ _).mono (fun r h c => ⟨(h c).1.trans ?_, (h c).2⟩) (Cert.Reference3Ideal.Value.run (F := Ideal) m' g')
  obtain ⟨e0, e1, e2, e3, e4⟩ := harg c
  rw [e0, e1, e2, e3, e4]
  exact Eq.trans (by sl_kernel_rfl) (Moe.Ref.out_apply (Moe.argX m c) (Moe.argE m c) (Moe.argN m c) (Moe.argIn m c) (Moe.argOut m c))

theorem reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both programs of the last combination leave the same normed rows, `Comb.target`, in their results. -/
theorem values4 : Cert.algebraic_Kernel4Ideal_Reference4Ideal := by
  intro m g m' g' _ harg
  refine ⟨fun c => Comb.target (Comb.argX m c) (Comb.argA m c) (Comb.argY m c) (Comb.argG m c),
    (θ_run Cert.Kernel4Ideal.defs _ _).mono (fun r h c => ⟨(h c).1.trans (Comb.result_eq m c), (h c).2⟩) (Cert.Kernel4Ideal.Value.run_blocks (F := Ideal) m g), ?_⟩
  refine (θ_run Cert.Reference4Ideal.defs _ _).mono (fun r h c => ⟨(h c).1.trans ?_, (h c).2⟩) (Cert.Reference4Ideal.Value.run (F := Ideal) m' g')
  obtain ⟨e0, e1, e2, e3⟩ := harg c
  rw [e0, e1, e2, e3]
  exact Eq.trans (by sl_kernel_rfl) (Comb.Ref.out_apply (Comb.argX m c) (Comb.argA m c) (Comb.argY m c) (Comb.argG m c))

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_tables.Gen.facts,
  kernel, kernel_ideal, fun m ρ _ => kernel_ideal m ρ trivial, reference, fun m ρ _ => reference m ρ trivial,
  fun m ρ _ => Cert.Kernel2.Gen.frame m ρ, fun m ρ _ => Cert.Kernel2Ideal.Gen.frame m ρ, reference2,
  Moe.frame_kernel, kernel_ideal3, reference3, fun m ρ _ => reference3 m ρ trivial,
  fun m ρ _ => Cert.Kernel4.Gen.frame m ρ, fun m ρ _ => Cert.Kernel4Ideal.Gen.frame m ρ, reference4,
  trivial, values, trivial, values2, trivial, values3, trivial, values4⟩

end Cert.Proof

end
